-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v56)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v178) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v507) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8192x8192 : Shape := ⟨2, ![8192, 8192]⟩
abbrev S1x8 : Shape := ⟨2, ![1, 8]⟩
abbrev S1x2048 : Shape := ⟨2, ![1, 2048]⟩
abbrev S8 : Shape := ⟨1, ![8]⟩
abbrev S_ : Shape := ⟨0, ![]⟩
abbrev S2x8 : Shape := ⟨2, ![2, 8]⟩
abbrev S2048 : Shape := ⟨1, ![2048]⟩
abbrev S4096x2048 : Shape := ⟨2, ![4096, 2048]⟩
abbrev S16x1x8x256x256 : Shape := ⟨5, ![16, 1, 8, 256, 256]⟩
abbrev S256x1024 : Shape := ⟨2, ![256, 1024]⟩
abbrev S1x1024 : Shape := ⟨2, ![1, 1024]⟩
abbrev S1x1x4x256x256 : Shape := ⟨5, ![1, 1, 4, 256, 256]⟩
abbrev S4x256x256 : Shape := ⟨3, ![4, 256, 256]⟩
abbrev S1x1 : Shape := ⟨2, ![1, 1]⟩
abbrev S128x128 : Shape := ⟨2, ![128, 128]⟩
abbrev S128x1 : Shape := ⟨2, ![128, 1]⟩
abbrev S1x256 : Shape := ⟨2, ![1, 256]⟩
abbrev S256x256 : Shape := ⟨2, ![256, 256]⟩
abbrev S1x1x1x256x256 : Shape := ⟨5, ![1, 1, 1, 256, 256]⟩
abbrev S128x256 : Shape := ⟨2, ![128, 256]⟩
abbrev S1x256x256 : Shape := ⟨3, ![1, 256, 256]⟩
abbrev S256x128 : Shape := ⟨2, ![256, 128]⟩
abbrev S256 : Shape := ⟨1, ![256]⟩
abbrev S256x1 : Shape := ⟨2, ![256, 1]⟩

abbrev nBuf : Space → Nat
  | .hbm => 46
  | .vmem => 17
  | .smem => 1
  | _ => 0

abbrev bufTy : (tb : Table) → Fin (tcTables nBuf tb) → BufTy
  | .hbm, ⟨0, _⟩ => ⟨S8192x8192, .bf16⟩
  | .hbm, ⟨1, _⟩ => ⟨S1x8, .f32⟩
  | .hbm, ⟨2, _⟩ => ⟨S1x8, .f32⟩
  | .hbm, ⟨3, _⟩ => ⟨S1x2048, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .i1⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .i1⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S1x8, .f32⟩
  | .hbm, ⟨39, _⟩ => ⟨S1x8, .f32⟩
  | .hbm, ⟨40, _⟩ => ⟨S2x8, .f32⟩
  | .hbm, ⟨41, _⟩ => ⟨S2048, .f32⟩
  | .hbm, ⟨42, _⟩ => ⟨S1x2048, .f32⟩
  | .hbm, ⟨43, _⟩ => ⟨S4096x2048, .bf16⟩
  | .hbm, ⟨44, _⟩ => ⟨S16x1x8x256x256, .f32⟩
  | .hbm, ⟨45, _⟩ => ⟨S16x1x8x256x256, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S1x1x4x256x256, .f32⟩
  | .local _ .vmem, ⟨13, _⟩ => ⟨S1x1x4x256x256, .f32⟩
  | .local _ .vmem, ⟨14, _⟩ => ⟨S1x1x4x256x256, .f32⟩
  | .local _ .vmem, ⟨15, _⟩ => ⟨S1x1x4x256x256, .f32⟩
  | .local _ .vmem, ⟨16, _⟩ => ⟨S4x256x256, .f32⟩
  | .local _ .smem, ⟨0, _⟩ => ⟨S2x8, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v1 : Ref sig .tc := ⟨.hbm, 20, rfl⟩
abbrev main_v2 : Ref sig .tc := ⟨.hbm, 21, rfl⟩
abbrev main_call1_v0 : Ref sig .tc := ⟨.hbm, 22, rfl⟩
abbrev main_call1_call0_cst : Ref sig .tc := ⟨.hbm, 23, rfl⟩
abbrev main_call1_call0_v0 : Ref sig .tc := ⟨.hbm, 24, rfl⟩
abbrev main_call1_call0_v1 : Ref sig .tc := ⟨.hbm, 25, rfl⟩
abbrev main_call1_call0_v2 : Ref sig .tc := ⟨.hbm, 26, rfl⟩
abbrev main_call1_call0_v3 : Ref sig .tc := ⟨.hbm, 27, rfl⟩
abbrev main_call1_call0_v4 : Ref sig .tc := ⟨.hbm, 28, rfl⟩
abbrev main_call1_call0_v5 : Ref sig .tc := ⟨.hbm, 29, rfl⟩
abbrev main_call1_call0_v6 : Ref sig .tc := ⟨.hbm, 30, rfl⟩
abbrev main_call1_call0_v7 : Ref sig .tc := ⟨.hbm, 31, rfl⟩
abbrev main_call1_call0_v8 : Ref sig .tc := ⟨.hbm, 32, rfl⟩
abbrev main_call1_call0_v9 : Ref sig .tc := ⟨.hbm, 33, rfl⟩
abbrev main_call1_call0_v10 : Ref sig .tc := ⟨.hbm, 34, rfl⟩
abbrev main_call1_call0_v11 : Ref sig .tc := ⟨.hbm, 35, rfl⟩
abbrev main_call1_v1 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9_0 : Ref sig .tc := ⟨.hbm, 43, rfl⟩
abbrev main_v9_1 : Ref sig .tc := ⟨.hbm, 44, rfl⟩
abbrev main_v9_2 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 2], ![false, false]⟩

def k0_off1 (i : grid0.Coords) (c0_i32 : BitVec 32) : Fin 2 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![0, v2.toNat]
def k0_off2 (i : grid0.Coords) (c0_i32 : BitVec 32) : Fin 2 → Nat :=
  let c1 : Index := 1#32
  let arg1 : BitVec 32 := BitVec.ofNat 32 (i 1).val
  let c4_i32 : BitVec 32 := 4#32
  let v0 : BitVec 32 := Scalar.muli arg1 c4_i32
  let v1 : BitVec 32 := Scalar.addi v0 c0_i32
  let v4 : Index := Scalar.indexCast v1
  ![1, v4.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 32 := Scalar.addi c2_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c4_i32 : BitVec 32 := 4#32
  let v1 : BitVec 32 := Scalar.addi c4_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c6_i32 : BitVec 32 := 6#32
  let v1 : BitVec 32 := Scalar.addi c6_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x8192 : Shape := ⟨2, ![8192, 8192]⟩
abbrev S1x8 : Shape := ⟨2, ![1, 8]⟩
abbrev S1x2048 : Shape := ⟨2, ![1, 2048]⟩
abbrev S4096x8192 : Shape := ⟨2, ![4096, 8192]⟩
abbrev S16x256x8192 : Shape := ⟨3, ![16, 256, 8192]⟩
abbrev S16x256x2048 : Shape := ⟨3, ![16, 256, 2048]⟩
abbrev S16x256x8x256 : Shape := ⟨4, ![16, 256, 8, 256]⟩
abbrev S16x8x256x256 : Shape := ⟨4, ![16, 8, 256, 256]⟩
abbrev S_ : Shape := ⟨0, ![]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S1x8x128x1 : Shape := ⟨4, ![1, 8, 128, 1]⟩
abbrev S1x8x1x1 : Shape := ⟨4, ![1, 8, 1, 1]⟩
abbrev S16x8x128x256 : Shape := ⟨4, ![16, 8, 128, 256]⟩
abbrev S16x8x128x128 : Shape := ⟨4, ![16, 8, 128, 128]⟩
abbrev S1x8x128x128 : Shape := ⟨4, ![1, 8, 128, 128]⟩
abbrev S16x8x256 : Shape := ⟨3, ![16, 8, 256]⟩
abbrev S16x8x256x1 : Shape := ⟨4, ![16, 8, 256, 1]⟩
abbrev S2048 : Shape := ⟨1, ![2048]⟩
abbrev S1x1x2048 : Shape := ⟨3, ![1, 1, 2048]⟩
abbrev S4096x2048 : Shape := ⟨2, ![4096, 2048]⟩
abbrev S16x1x8x256x256 : Shape := ⟨5, ![16, 1, 8, 256, 256]⟩

abbrev nBuf : Space → Nat
  | .hbm => 264
  | .vmem => 0
  | .smem => 0
  | _ => 0

abbrev hbmTy0_0 (i : Nat) : BufTy := match i % 128 with
  | 0 => ⟨S8192x8192, .bf16⟩
  | 1 => ⟨S1x8, .f32⟩
  | 2 => ⟨S1x8, .f32⟩
  | 3 => ⟨S1x2048, .f32⟩
  | 4 => ⟨S4096x8192, .bf16⟩
  | 5 => ⟨S4096x8192, .f32⟩
  | 6 => ⟨S16x256x8192, .f32⟩
  | 7 => ⟨S16x256x2048, .f32⟩
  | 8 => ⟨S16x256x2048, .f32⟩
  | 9 => ⟨S16x256x2048, .f32⟩
  | 10 => ⟨S16x256x2048, .f32⟩
  | 11 => ⟨S16x256x8x256, .f32⟩
  | 12 => ⟨S16x8x256x256, .f32⟩
  | 13 => ⟨S16x256x8x256, .f32⟩
  | 14 => ⟨S16x8x256x256, .f32⟩
  | 15 => ⟨S16x256x8x256, .f32⟩
  | 16 => ⟨S16x8x256x256, .f32⟩
  | 17 => ⟨S_, .f32⟩
  | 18 => ⟨S16x8x256x256, .f32⟩
  | 19 => ⟨S_, .f32⟩
  | 20 => ⟨S16x8x256x256, .f32⟩
  | 21 => ⟨S8, .f32⟩
  | 22 => ⟨S8, .f32⟩
  | 23 => ⟨S_, .f32⟩
  | 24 => ⟨S8, .f32⟩
  | 25 => ⟨S8, .f32⟩
  | 26 => ⟨S8, .f32⟩
  | 27 => ⟨S8, .f32⟩
  | 28 => ⟨S8, .i1⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S8, .f32⟩
  | 44 => ⟨S8, .f32⟩
  | 45 => ⟨S8, .i1⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S128, .f32⟩
  | 56 => ⟨S128x1, .f32⟩
  | 57 => ⟨S1x128, .f32⟩
  | 58 => ⟨S128x128, .f32⟩
  | 59 => ⟨S128x128, .f32⟩
  | 60 => ⟨S128x128, .f32⟩
  | 61 => ⟨S_, .f32⟩
  | 62 => ⟨S128x128, .f32⟩
  | 63 => ⟨S128x128, .i1⟩
  | 64 => ⟨S_, .f32⟩
  | 65 => ⟨S128x128, .f32⟩
  | 66 => ⟨S128x128, .f32⟩
  | 67 => ⟨S8x1x1, .f32⟩
  | 68 => ⟨S1x128x128, .f32⟩
  | 69 => ⟨S8x128x128, .f32⟩
  | 70 => ⟨S8x128x128, .f32⟩
  | 71 => ⟨S8x128x128, .f32⟩
  | 72 => ⟨S8x128x128, .f32⟩
  | 73 => ⟨S_, .f32⟩
  | 74 => ⟨S_, .f32⟩
  | 75 => ⟨S8x128x128, .i1⟩
  | 76 => ⟨S8x128x128, .f32⟩
  | 77 => ⟨S8x128x128, .f32⟩
  | 78 => ⟨S_, .f32⟩
  | 79 => ⟨S128, .f32⟩
  | 80 => ⟨S128, .f32⟩
  | 81 => ⟨S1x128, .f32⟩
  | 82 => ⟨S8x1, .f32⟩
  | 83 => ⟨S8x128, .f32⟩
  | 84 => ⟨S8x128, .f32⟩
  | 85 => ⟨S8x128, .f32⟩
  | 86 => ⟨S8x128, .f32⟩
  | 87 => ⟨S1x8x128x1, .f32⟩
  | 88 => ⟨S_, .f32⟩
  | 89 => ⟨S128, .f32⟩
  | 90 => ⟨S128, .f32⟩
  | 91 => ⟨S1x128, .f32⟩
  | 92 => ⟨S8x1, .f32⟩
  | 93 => ⟨S8x128, .f32⟩
  | 94 => ⟨S8x128, .f32⟩
  | 95 => ⟨S8x128, .f32⟩
  | 96 => ⟨S8x128, .f32⟩
  | 97 => ⟨S1x8x128x1, .f32⟩
  | 98 => ⟨S_, .f32⟩
  | 99 => ⟨S8, .f32⟩
  | 100 => ⟨S8, .f32⟩
  | 101 => ⟨S8, .f32⟩
  | 102 => ⟨S1x8x1x1, .f32⟩
  | 103 => ⟨S16x8x128x256, .f32⟩
  | 104 => ⟨S16x8x128x256, .f32⟩
  | 105 => ⟨S16x8x128x256, .f32⟩
  | 106 => ⟨S16x8x128x128, .f32⟩
  | 107 => ⟨S1x8x128x128, .f32⟩
  | 108 => ⟨S16x8x128x128, .f32⟩
  | 109 => ⟨S16x8x128x128, .f32⟩
  | 110 => ⟨S16x8x128x256, .f32⟩
  | 111 => ⟨S16x8x128x256, .f32⟩
  | 112 => ⟨S16x8x128x256, .f32⟩
  | 113 => ⟨S16x8x128x256, .f32⟩
  | 114 => ⟨S16x8x128x256, .f32⟩
  | 115 => ⟨S16x8x256x256, .f32⟩
  | 116 => ⟨S16x8x256x256, .f32⟩
  | 117 => ⟨S16x8x128x256, .f32⟩
  | 118 => ⟨S16x8x128x256, .f32⟩
  | 119 => ⟨S16x8x256x256, .f32⟩
  | 120 => ⟨S16x8x256x256, .f32⟩
  | 121 => ⟨S16x8x128x256, .f32⟩
  | 122 => ⟨S16x8x128x256, .f32⟩
  | 123 => ⟨S16x8x128x256, .f32⟩
  | 124 => ⟨S16x8x128x128, .f32⟩
  | 125 => ⟨S1x8x128x128, .f32⟩
  | 126 => ⟨S16x8x128x128, .f32⟩
  | 127 => ⟨S16x8x128x128, .f32⟩
  | _ => ⟨S8192x8192, .bf16⟩

abbrev hbmTy0_1 (i : Nat) : BufTy := match i % 128 with
  | 0 => ⟨S16x8x128x256, .f32⟩
  | 1 => ⟨S16x8x128x256, .f32⟩
  | 2 => ⟨S16x8x128x256, .f32⟩
  | 3 => ⟨S16x8x128x256, .f32⟩
  | 4 => ⟨S16x8x128x256, .f32⟩
  | 5 => ⟨S16x8x256x256, .f32⟩
  | 6 => ⟨S16x8x256x256, .f32⟩
  | 7 => ⟨S16x8x128x256, .f32⟩
  | 8 => ⟨S16x8x128x256, .f32⟩
  | 9 => ⟨S16x8x256x256, .f32⟩
  | 10 => ⟨S16x8x256x256, .f32⟩
  | 11 => ⟨S16x8x256x256, .f32⟩
  | 12 => ⟨S16x8x256x256, .f32⟩
  | 13 => ⟨S16x8x256x256, .f32⟩
  | 14 => ⟨S16x8x256x256, .f32⟩
  | 15 => ⟨S128, .f32⟩
  | 16 => ⟨S128x1, .f32⟩
  | 17 => ⟨S1x128, .f32⟩
  | 18 => ⟨S128x128, .f32⟩
  | 19 => ⟨S128x128, .f32⟩
  | 20 => ⟨S128x128, .f32⟩
  | 21 => ⟨S_, .f32⟩
  | 22 => ⟨S128x128, .f32⟩
  | 23 => ⟨S128x128, .i1⟩
  | 24 => ⟨S_, .f32⟩
  | 25 => ⟨S128x128, .f32⟩
  | 26 => ⟨S128x128, .f32⟩
  | 27 => ⟨S8x1x1, .f32⟩
  | 28 => ⟨S1x128x128, .f32⟩
  | 29 => ⟨S8x128x128, .f32⟩
  | 30 => ⟨S8x128x128, .f32⟩
  | 31 => ⟨S8x128x128, .f32⟩
  | 32 => ⟨S8x128x128, .f32⟩
  | 33 => ⟨S_, .f32⟩
  | 34 => ⟨S_, .f32⟩
  | 35 => ⟨S8x128x128, .i1⟩
  | 36 => ⟨S8x128x128, .f32⟩
  | 37 => ⟨S8x128x128, .f32⟩
  | 38 => ⟨S_, .f32⟩
  | 39 => ⟨S128, .f32⟩
  | 40 => ⟨S128, .f32⟩
  | 41 => ⟨S1x128, .f32⟩
  | 42 => ⟨S8x1, .f32⟩
  | 43 => ⟨S8x128, .f32⟩
  | 44 => ⟨S8x128, .f32⟩
  | 45 => ⟨S8x128, .f32⟩
  | 46 => ⟨S8x128, .f32⟩
  | 47 => ⟨S1x8x128x1, .f32⟩
  | 48 => ⟨S_, .f32⟩
  | 49 => ⟨S128, .f32⟩
  | 50 => ⟨S128, .f32⟩
  | 51 => ⟨S1x128, .f32⟩
  | 52 => ⟨S8x1, .f32⟩
  | 53 => ⟨S8x128, .f32⟩
  | 54 => ⟨S8x128, .f32⟩
  | 55 => ⟨S8x128, .f32⟩
  | 56 => ⟨S8x128, .f32⟩
  | 57 => ⟨S1x8x128x1, .f32⟩
  | 58 => ⟨S_, .f32⟩
  | 59 => ⟨S8, .f32⟩
  | 60 => ⟨S8, .f32⟩
  | 61 => ⟨S8, .f32⟩
  | 62 => ⟨S1x8x1x1, .f32⟩
  | 63 => ⟨S16x8x128x256, .f32⟩
  | 64 => ⟨S16x8x128x256, .f32⟩
  | 65 => ⟨S16x8x128x256, .f32⟩
  | 66 => ⟨S16x8x128x128, .f32⟩
  | 67 => ⟨S1x8x128x128, .f32⟩
  | 68 => ⟨S16x8x128x128, .f32⟩
  | 69 => ⟨S16x8x128x128, .f32⟩
  | 70 => ⟨S16x8x128x256, .f32⟩
  | 71 => ⟨S16x8x128x256, .f32⟩
  | 72 => ⟨S16x8x128x256, .f32⟩
  | 73 => ⟨S16x8x128x256, .f32⟩
  | 74 => ⟨S16x8x128x256, .f32⟩
  | 75 => ⟨S16x8x256x256, .f32⟩
  | 76 => ⟨S16x8x256x256, .f32⟩
  | 77 => ⟨S16x8x128x256, .f32⟩
  | 78 => ⟨S16x8x128x256, .f32⟩
  | 79 => ⟨S16x8x256x256, .f32⟩
  | 80 => ⟨S16x8x256x256, .f32⟩
  | 81 => ⟨S16x8x128x256, .f32⟩
  | 82 => ⟨S16x8x128x256, .f32⟩
  | 83 => ⟨S16x8x128x256, .f32⟩
  | 84 => ⟨S16x8x128x128, .f32⟩
  | 85 => ⟨S1x8x128x128, .f32⟩
  | 86 => ⟨S16x8x128x128, .f32⟩
  | 87 => ⟨S16x8x128x128, .f32⟩
  | 88 => ⟨S16x8x128x256, .f32⟩
  | 89 => ⟨S16x8x128x256, .f32⟩
  | 90 => ⟨S16x8x128x256, .f32⟩
  | 91 => ⟨S16x8x128x256, .f32⟩
  | 92 => ⟨S16x8x128x256, .f32⟩
  | 93 => ⟨S16x8x256x256, .f32⟩
  | 94 => ⟨S16x8x256x256, .f32⟩
  | 95 => ⟨S16x8x128x256, .f32⟩
  | 96 => ⟨S16x8x128x256, .f32⟩
  | 97 => ⟨S16x8x256x256, .f32⟩
  | 98 => ⟨S16x8x256x256, .f32⟩
  | 99 => ⟨S16x8x256x256, .f32⟩
  | 100 => ⟨S16x8x256x256, .f32⟩
  | 101 => ⟨S16x8x256x256, .f32⟩
  | 102 => ⟨S_, .f32⟩
  | 103 => ⟨S16x8x256, .f32⟩
  | 104 => ⟨S16x8x256x1, .f32⟩
  | 105 => ⟨S_, .f32⟩
  | 106 => ⟨S16x8x256x1, .f32⟩
  | 107 => ⟨S16x8x256x1, .f32⟩
  | 108 => ⟨S16x8x256x256, .f32⟩
  | 109 => ⟨S16x8x256x256, .f32⟩
  | 110 => ⟨S16x8x256x256, .f32⟩
  | 111 => ⟨S_, .f32⟩
  | 112 => ⟨S16x8x256, .f32⟩
  | 113 => ⟨S16x8x256x1, .f32⟩
  | 114 => ⟨S_, .f32⟩
  | 115 => ⟨S16x8x256x1, .f32⟩
  | 116 => ⟨S16x8x256x1, .f32⟩
  | 117 => ⟨S16x8x256x256, .f32⟩
  | 118 => ⟨S16x8x256x256, .f32⟩
  | 119 => ⟨S_, .f32⟩
  | 120 => ⟨S16x8x256x1, .f32⟩
  | 121 => ⟨S16x8x256x1, .f32⟩
  | 122 => ⟨S16x8x256x1, .f32⟩
  | 123 => ⟨S16x8x256x256, .f32⟩
  | 124 => ⟨S16x8x256x256, .f32⟩
  | 125 => ⟨S16x256x8x256, .f32⟩
  | 126 => ⟨S16x256x2048, .f32⟩
  | 127 => ⟨S2048, .f32⟩
  | _ => ⟨S8192x8192, .bf16⟩

abbrev hbmTy0_2 (i : Nat) : BufTy := match i % 128 with
  | 0 => ⟨S1x1x2048, .f32⟩
  | 1 => ⟨S16x256x2048, .f32⟩
  | 2 => ⟨S16x256x2048, .f32⟩
  | 3 => ⟨S16x256x2048, .f32⟩
  | 4 => ⟨S4096x2048, .f32⟩
  | 5 => ⟨S4096x2048, .bf16⟩
  | 6 => ⟨S16x1x8x256x256, .f32⟩
  | 7 => ⟨S16x1x8x256x256, .f32⟩
  | _ => ⟨S8192x8192, .bf16⟩

abbrev hbmTy (i : Nat) : BufTy := match i / 128 with
  | 0 => hbmTy0_0 i
  | 1 => hbmTy0_1 i
  | 2 => hbmTy0_2 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_1 : Ref sig .tc := ⟨.hbm, 61, rfl⟩
abbrev main_v25 : Ref sig .tc := ⟨.hbm, 62, rfl⟩
abbrev main_v26 : Ref sig .tc := ⟨.hbm, 63, rfl⟩
abbrev main_cst_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_3 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v35 : Ref sig .tc := ⟨.hbm, 77, rfl⟩
abbrev main_cst_4 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_5 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_6 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_7 : Ref sig .tc := ⟨.hbm, 149, rfl⟩
abbrev main_v104 : Ref sig .tc := ⟨.hbm, 150, rfl⟩
abbrev main_v105 : Ref sig .tc := ⟨.hbm, 151, rfl⟩
abbrev main_cst_8 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_9 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v114 : Ref sig .tc := ⟨.hbm, 165, rfl⟩
abbrev main_cst_10 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_11 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_12 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_13 : Ref sig .tc := ⟨.hbm, 230, rfl⟩
abbrev main_v176 : Ref sig .tc := ⟨.hbm, 231, rfl⟩
abbrev main_v177 : Ref sig .tc := ⟨.hbm, 232, rfl⟩
abbrev main_cst_14 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_15 : Ref sig .tc := ⟨.hbm, 239, rfl⟩
abbrev main_v183 : Ref sig .tc := ⟨.hbm, 240, rfl⟩
abbrev main_v184 : Ref sig .tc := ⟨.hbm, 241, rfl⟩
abbrev main_cst_16 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_17 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩

abbrev nD : Nat := 1
abbrev τ : Topo := Topo.v7x

variable {F : FTy → Type} [FloatOps F]
-- ==== Kernel2.lean ====
abbrev S8192x4096 : Shape := ⟨2, ![8192, 4096]⟩
abbrev S1x4096x12288 : Shape := ⟨3, ![1, 4096, 12288]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S_ : Shape := ⟨0, ![]⟩
abbrev S128 : Shape := ⟨1, ![128]⟩
abbrev S1024x1 : Shape := ⟨2, ![1024, 1]⟩
abbrev S1024x64 : Shape := ⟨2, ![1024, 64]⟩
abbrev S1024x128 : Shape := ⟨2, ![1024, 128]⟩
abbrev S1x128 : Shape := ⟨2, ![1, 128]⟩
abbrev S1024x256 : Shape := ⟨2, ![1024, 256]⟩
abbrev S1x1024x1x256 : Shape := ⟨4, ![1, 1024, 1, 256]⟩
abbrev S4096x12288 : Shape := ⟨2, ![4096, 12288]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 63
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S16, .i32⟩
  | .hbm, ⟨3, _⟩ => ⟨S16x64, .i32⟩
  | .hbm, ⟨4, _⟩ => ⟨S1024, .i32⟩
  | .hbm, ⟨5, _⟩ => ⟨S1024, .f32⟩
  | .hbm, ⟨6, _⟩ => ⟨S64, .i32⟩
  | .hbm, ⟨7, _⟩ => ⟨S1x64, .i32⟩
  | .hbm, ⟨8, _⟩ => ⟨S16x64, .i32⟩
  | .hbm, ⟨9, _⟩ => ⟨S1024, .i32⟩
  | .hbm, ⟨10, _⟩ => ⟨S1024, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S128, .f32⟩
  | .hbm, ⟨25, _⟩ => ⟨S1024x1, .f32⟩
  | .hbm, ⟨26, _⟩ => ⟨S1x64, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S1024x128, .f32⟩
  | .hbm, ⟨33, _⟩ => ⟨S1024x64, .f32⟩
  | .hbm, ⟨34, _⟩ => ⟨S1024x64, .f32⟩
  | .hbm, ⟨35, _⟩ => ⟨S1024x128, .f32⟩
  | .hbm, ⟨36, _⟩ => ⟨S1x128, .f32⟩
  | .hbm, ⟨37, _⟩ => ⟨S1024x128, .f32⟩
  | .hbm, ⟨38, _⟩ => ⟨S1024x128, .f32⟩
  | .hbm, ⟨39, _⟩ => ⟨S1024x1, .f32⟩
  | .hbm, ⟨40, _⟩ => ⟨S1x64, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S1024x64, .f32⟩
  | .hbm, ⟨46, _⟩ => ⟨S1024x128, .f32⟩
  | .hbm, ⟨47, _⟩ => ⟨S1024x64, .f32⟩
  | .hbm, ⟨48, _⟩ => ⟨S1024x64, .f32⟩
  | .hbm, ⟨49, _⟩ => ⟨S1024x128, .f32⟩
  | .hbm, ⟨50, _⟩ => ⟨S1x128, .f32⟩
  | .hbm, ⟨51, _⟩ => ⟨S1024x128, .f32⟩
  | .hbm, ⟨52, _⟩ => ⟨S1024x128, .f32⟩
  | .hbm, ⟨53, _⟩ => ⟨S1024x256, .f32⟩
  | .hbm, ⟨54, _⟩ => ⟨S1024x256, .f32⟩
  | .hbm, ⟨55, _⟩ => ⟨S1x1024x1x256, .f32⟩
  | .hbm, ⟨56, _⟩ => ⟨S1x1024x1x256, .f32⟩
  | .hbm, ⟨57, _⟩ => ⟨S1024x256, .f32⟩
  | .hbm, ⟨58, _⟩ => ⟨S1x1024x1x256, .f32⟩
  | .hbm, ⟨59, _⟩ => ⟨S1x1024x1x256, .f32⟩
  | .hbm, ⟨60, _⟩ => ⟨S1024x256, .f32⟩
  | .hbm, ⟨61, _⟩ => ⟨S4096x12288, .f32⟩
  | .hbm, ⟨62, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x256, .f32⟩
  | .local _ .vmem, ⟨5, _⟩ => ⟨S1024x256, .f32⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c12_i32 : BitVec 32 := 12#32
  let v5 : BitVec 1 := Scalar.cmpi .sge arg1 c12_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32 : BitVec 32 := 8#32
  let v8 : BitVec 1 := Scalar.cmpi .sge arg1 c8_i32
  let c12_i32_3 : BitVec 32 := 12#32
  let v9 : BitVec 1 := Scalar.cmpi .slt arg1 c12_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c8_i32_5 : BitVec 32 := 8#32
  let v13 : BitVec 1 := Scalar.cmpi .slt arg1 c8_i32_5
  let v14 : BitVec 32 := Scalar.extui v13
  let c0_i32_6 : BitVec 32 := 0#32
  let v15 : BitVec 1 := Scalar.cmpi .ne v14 c0_i32_6
  v15

def k0_cond4 (i : grid0.Coords) : BitVec 1 :=
  let arg0 : BitVec 32 := BitVec.ofNat 32 (i 0).val
  let c4_i32_9 : BitVec 32 := 4#32
  let v20 : BitVec 1 := Scalar.cmpi .slt arg0 c4_i32_9
  let v21 : BitVec 32 := Scalar.extui v20
  let c0_i32_10 : BitVec 32 := 0#32
  let v22 : BitVec 1 := Scalar.cmpi .ne v21 c0_i32_10
  v22

def k0_cond5 (i : grid0.Coords) : BitVec 1 :=
  let arg0 : BitVec 32 := BitVec.ofNat 32 (i 0).val
  let c4_i32_11 : BitVec 32 := 4#32
  let v23 : BitVec 1 := Scalar.cmpi .sge arg0 c4_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x4096 : Shape := ⟨2, ![8192, 4096]⟩
abbrev S1x4096x12288 : Shape := ⟨3, ![1, 4096, 12288]⟩
abbrev S4096x4096 : Shape := ⟨2, ![4096, 4096]⟩
abbrev S4096x12288 : Shape := ⟨2, ![4096, 12288]⟩
abbrev S16x256x12288 : Shape := ⟨3, ![16, 256, 12288]⟩
abbrev S16x256x2048 : Shape := ⟨3, ![16, 256, 2048]⟩
abbrev S16x256x8x256 : Shape := ⟨4, ![16, 256, 8, 256]⟩
abbrev S16x8x256x256 : Shape := ⟨4, ![16, 8, 256, 256]⟩
abbrev S_ : Shape := ⟨0, ![]⟩
abbrev S4096x2048 : Shape := ⟨2, ![4096, 2048]⟩
abbrev S4096x8192 : Shape := ⟨2, ![4096, 8192]⟩
abbrev S4x1024x12288 : Shape := ⟨3, ![4, 1024, 12288]⟩
abbrev S4x1024x2048 : Shape := ⟨3, ![4, 1024, 2048]⟩
abbrev S4x1024x8x256 : Shape := ⟨4, ![4, 1024, 8, 256]⟩
abbrev S4x8x1024x256 : Shape := ⟨4, ![4, 8, 1024, 256]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S4x8x1024x128 : Shape := ⟨4, ![4, 8, 1024, 128]⟩
abbrev S1024x1 : Shape := ⟨2, ![1024, 1]⟩
abbrev S1024x64 : Shape := ⟨2, ![1024, 64]⟩
abbrev S4x8x1024x64 : Shape := ⟨4, ![4, 8, 1024, 64]⟩
abbrev S1x1x1024x64 : Shape := ⟨4, ![1, 1, 1024, 64]⟩
abbrev S8192x8192 : Shape := ⟨2, ![8192, 8192]⟩

abbrev nBuf : Space → Nat
  | .hbm => 203
  | .vmem => 0
  | .smem => 0
  | _ => 0

abbrev hbmTy0_0 (i : Nat) : BufTy := match i % 128 with
  | 0 => ⟨S8192x4096, .bf16⟩
  | 1 => ⟨S1x4096x12288, .f32⟩
  | 2 => ⟨S8192x4096, .f32⟩
  | 3 => ⟨S4096x4096, .f32⟩
  | 4 => ⟨S4096x12288, .f32⟩
  | 5 => ⟨S4096x12288, .f32⟩
  | 6 => ⟨S16x256x12288, .f32⟩
  | 7 => ⟨S16x256x2048, .f32⟩
  | 8 => ⟨S16x256x2048, .f32⟩
  | 9 => ⟨S16x256x2048, .f32⟩
  | 10 => ⟨S16x256x2048, .f32⟩
  | 11 => ⟨S16x256x8x256, .f32⟩
  | 12 => ⟨S16x8x256x256, .f32⟩
  | 13 => ⟨S16x256x8x256, .f32⟩
  | 14 => ⟨S16x8x256x256, .f32⟩
  | 15 => ⟨S_, .f32⟩
  | 16 => ⟨S16x8x256x256, .f32⟩
  | 17 => ⟨S16x8x256x256, .f32⟩
  | 18 => ⟨S16x256x8x256, .f32⟩
  | 19 => ⟨S4096x2048, .f32⟩
  | 20 => ⟨S16x256x8x256, .f32⟩
  | 21 => ⟨S4096x2048, .f32⟩
  | 22 => ⟨S4096x2048, .f32⟩
  | 23 => ⟨S16x256x2048, .f32⟩
  | 24 => ⟨S16x256x2048, .f32⟩
  | 25 => ⟨S_, .f32⟩
  | 26 => ⟨S16x256x2048, .f32⟩
  | 27 => ⟨S16x256x2048, .f32⟩
  | 28 => ⟨S_, .f32⟩
  | 29 => ⟨S16x256x2048, .f32⟩
  | 30 => ⟨S16x256x2048, .f32⟩
  | 31 => ⟨S16x256x2048, .f32⟩
  | 32 => ⟨S4096x2048, .f32⟩
  | 33 => ⟨S4096x8192, .f32⟩
  | 34 => ⟨S4096x4096, .f32⟩
  | 35 => ⟨S4096x12288, .f32⟩
  | 36 => ⟨S4096x12288, .f32⟩
  | 37 => ⟨S4x1024x12288, .f32⟩
  | 38 => ⟨S4x1024x2048, .f32⟩
  | 39 => ⟨S4x1024x2048, .f32⟩
  | 40 => ⟨S4x1024x2048, .f32⟩
  | 41 => ⟨S4x1024x2048, .f32⟩
  | 42 => ⟨S4x1024x8x256, .f32⟩
  | 43 => ⟨S4x8x1024x256, .f32⟩
  | 44 => ⟨S4x1024x8x256, .f32⟩
  | 45 => ⟨S4x8x1024x256, .f32⟩
  | 46 => ⟨S_, .f32⟩
  | 47 => ⟨S4x8x1024x256, .f32⟩
  | 48 => ⟨S4x8x1024x256, .f32⟩
  | 49 => ⟨S16, .i32⟩
  | 50 => ⟨S16x64, .i32⟩
  | 51 => ⟨S1024, .i32⟩
  | 52 => ⟨S1024, .f32⟩
  | 53 => ⟨S64, .i32⟩
  | 54 => ⟨S1x64, .i32⟩
  | 55 => ⟨S16x64, .i32⟩
  | 56 => ⟨S1024, .i32⟩
  | 57 => ⟨S1024, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S4x8x1024x128, .f32⟩
  | 67 => ⟨S1024x1, .f32⟩
  | 68 => ⟨S1x64, .f32⟩
  | 69 => ⟨S1024x64, .f32⟩
  | 70 => ⟨S1024x64, .f32⟩
  | 71 => ⟨S1024x64, .f32⟩
  | 72 => ⟨S4x8x1024x64, .f32⟩
  | 73 => ⟨S4x8x1024x64, .f32⟩
  | 74 => ⟨S1024x64, .f32⟩
  | 75 => ⟨S1024x64, .f32⟩
  | 76 => ⟨S1x1x1024x64, .f32⟩
  | 77 => ⟨S4x8x1024x64, .f32⟩
  | 78 => ⟨S4x8x1024x64, .f32⟩
  | 79 => ⟨S1x1x1024x64, .f32⟩
  | 80 => ⟨S4x8x1024x64, .f32⟩
  | 81 => ⟨S4x8x1024x64, .f32⟩
  | 82 => ⟨S4x8x1024x64, .f32⟩
  | 83 => ⟨S1x1x1024x64, .f32⟩
  | 84 => ⟨S4x8x1024x64, .f32⟩
  | 85 => ⟨S4x8x1024x64, .f32⟩
  | 86 => ⟨S1x1x1024x64, .f32⟩
  | 87 => ⟨S4x8x1024x64, .f32⟩
  | 88 => ⟨S4x8x1024x64, .f32⟩
  | 89 => ⟨S4x8x1024x64, .f32⟩
  | 90 => ⟨S4x8x1024x128, .f32⟩
  | 91 => ⟨S4x8x1024x128, .f32⟩
  | 92 => ⟨S1024x1, .f32⟩
  | 93 => ⟨S1x64, .f32⟩
  | 94 => ⟨S1024x64, .f32⟩
  | 95 => ⟨S1024x64, .f32⟩
  | 96 => ⟨S1024x64, .f32⟩
  | 97 => ⟨S4x8x1024x64, .f32⟩
  | 98 => ⟨S4x8x1024x64, .f32⟩
  | 99 => ⟨S1024x64, .f32⟩
  | 100 => ⟨S1024x64, .f32⟩
  | 101 => ⟨S1x1x1024x64, .f32⟩
  | 102 => ⟨S4x8x1024x64, .f32⟩
  | 103 => ⟨S4x8x1024x64, .f32⟩
  | 104 => ⟨S1x1x1024x64, .f32⟩
  | 105 => ⟨S4x8x1024x64, .f32⟩
  | 106 => ⟨S4x8x1024x64, .f32⟩
  | 107 => ⟨S4x8x1024x64, .f32⟩
  | 108 => ⟨S1x1x1024x64, .f32⟩
  | 109 => ⟨S4x8x1024x64, .f32⟩
  | 110 => ⟨S4x8x1024x64, .f32⟩
  | 111 => ⟨S1x1x1024x64, .f32⟩
  | 112 => ⟨S4x8x1024x64, .f32⟩
  | 113 => ⟨S4x8x1024x64, .f32⟩
  | 114 => ⟨S4x8x1024x64, .f32⟩
  | 115 => ⟨S4x8x1024x128, .f32⟩
  | 116 => ⟨S4x8x1024x256, .f32⟩
  | 117 => ⟨S16, .i32⟩
  | 118 => ⟨S16x64, .i32⟩
  | 119 => ⟨S1024, .i32⟩
  | 120 => ⟨S1024, .f32⟩
  | 121 => ⟨S64, .i32⟩
  | 122 => ⟨S1x64, .i32⟩
  | 123 => ⟨S16x64, .i32⟩
  | 124 => ⟨S1024, .i32⟩
  | 125 => ⟨S1024, .f32⟩
  | 126 => ⟨S64, .f32⟩
  | 127 => ⟨S64, .f32⟩
  | _ => ⟨S8192x4096, .bf16⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S4x8x1024x128, .f32⟩
  | 7 => ⟨S1024x1, .f32⟩
  | 8 => ⟨S1x64, .f32⟩
  | 9 => ⟨S1024x64, .f32⟩
  | 10 => ⟨S1024x64, .f32⟩
  | 11 => ⟨S1024x64, .f32⟩
  | 12 => ⟨S4x8x1024x64, .f32⟩
  | 13 => ⟨S4x8x1024x64, .f32⟩
  | 14 => ⟨S1024x64, .f32⟩
  | 15 => ⟨S1024x64, .f32⟩
  | 16 => ⟨S1x1x1024x64, .f32⟩
  | 17 => ⟨S4x8x1024x64, .f32⟩
  | 18 => ⟨S4x8x1024x64, .f32⟩
  | 19 => ⟨S1x1x1024x64, .f32⟩
  | 20 => ⟨S4x8x1024x64, .f32⟩
  | 21 => ⟨S4x8x1024x64, .f32⟩
  | 22 => ⟨S4x8x1024x64, .f32⟩
  | 23 => ⟨S1x1x1024x64, .f32⟩
  | 24 => ⟨S4x8x1024x64, .f32⟩
  | 25 => ⟨S4x8x1024x64, .f32⟩
  | 26 => ⟨S1x1x1024x64, .f32⟩
  | 27 => ⟨S4x8x1024x64, .f32⟩
  | 28 => ⟨S4x8x1024x64, .f32⟩
  | 29 => ⟨S4x8x1024x64, .f32⟩
  | 30 => ⟨S4x8x1024x128, .f32⟩
  | 31 => ⟨S4x8x1024x128, .f32⟩
  | 32 => ⟨S1024x1, .f32⟩
  | 33 => ⟨S1x64, .f32⟩
  | 34 => ⟨S1024x64, .f32⟩
  | 35 => ⟨S1024x64, .f32⟩
  | 36 => ⟨S1024x64, .f32⟩
  | 37 => ⟨S4x8x1024x64, .f32⟩
  | 38 => ⟨S4x8x1024x64, .f32⟩
  | 39 => ⟨S1024x64, .f32⟩
  | 40 => ⟨S1024x64, .f32⟩
  | 41 => ⟨S1x1x1024x64, .f32⟩
  | 42 => ⟨S4x8x1024x64, .f32⟩
  | 43 => ⟨S4x8x1024x64, .f32⟩
  | 44 => ⟨S1x1x1024x64, .f32⟩
  | 45 => ⟨S4x8x1024x64, .f32⟩
  | 46 => ⟨S4x8x1024x64, .f32⟩
  | 47 => ⟨S4x8x1024x64, .f32⟩
  | 48 => ⟨S1x1x1024x64, .f32⟩
  | 49 => ⟨S4x8x1024x64, .f32⟩
  | 50 => ⟨S4x8x1024x64, .f32⟩
  | 51 => ⟨S1x1x1024x64, .f32⟩
  | 52 => ⟨S4x8x1024x64, .f32⟩
  | 53 => ⟨S4x8x1024x64, .f32⟩
  | 54 => ⟨S4x8x1024x64, .f32⟩
  | 55 => ⟨S4x8x1024x128, .f32⟩
  | 56 => ⟨S4x8x1024x256, .f32⟩
  | 57 => ⟨S4x1024x8x256, .f32⟩
  | 58 => ⟨S4096x2048, .f32⟩
  | 59 => ⟨S4x1024x8x256, .f32⟩
  | 60 => ⟨S4096x2048, .f32⟩
  | 61 => ⟨S4096x2048, .f32⟩
  | 62 => ⟨S4x1024x2048, .f32⟩
  | 63 => ⟨S4x1024x2048, .f32⟩
  | 64 => ⟨S_, .f32⟩
  | 65 => ⟨S4x1024x2048, .f32⟩
  | 66 => ⟨S4x1024x2048, .f32⟩
  | 67 => ⟨S_, .f32⟩
  | 68 => ⟨S4x1024x2048, .f32⟩
  | 69 => ⟨S4x1024x2048, .f32⟩
  | 70 => ⟨S4x1024x2048, .f32⟩
  | 71 => ⟨S4096x2048, .f32⟩
  | 72 => ⟨S4096x8192, .f32⟩
  | 73 => ⟨S8192x8192, .f32⟩
  | 74 => ⟨S8192x8192, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_1 : Ref sig .tc := ⟨.hbm, 60, rfl⟩
abbrev main_v48 : Ref sig .tc := ⟨.hbm, 61, rfl⟩
abbrev main_v49 : Ref sig .tc := ⟨.hbm, 62, rfl⟩
abbrev main_cst_2 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_cst_3 : Ref sig .tc := ⟨.hbm, 128, rfl⟩
abbrev main_v114 : Ref sig .tc := ⟨.hbm, 129, rfl⟩
abbrev main_v115 : Ref sig .tc := ⟨.hbm, 130, rfl⟩
abbrev main_cst_4 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_call1_v0 : Ref sig .tc := ⟨.hbm, 190, rfl⟩
abbrev main_call1_v1 : Ref sig .tc := ⟨.hbm, 191, rfl⟩
abbrev main_call1_cst : Ref sig .tc := ⟨.hbm, 192, rfl⟩
abbrev main_call1_v2 : Ref sig .tc := ⟨.hbm, 193, rfl⟩
abbrev main_call1_v3 : Ref sig .tc := ⟨.hbm, 194, rfl⟩
abbrev main_call1_cst_0 : Ref sig .tc := ⟨.hbm, 195, rfl⟩
abbrev main_call1_v4 : Ref sig .tc := ⟨.hbm, 196, rfl⟩
abbrev main_call1_v5 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩

abbrev nD : Nat := 1
abbrev τ : Topo := Topo.v7x

variable {F : FTy → Type} [FloatOps F]
-- ==== Kernel3.lean ====
abbrev S8192x4096 : Shape := ⟨2, ![8192, 4096]⟩
abbrev S1x4096x12288 : Shape := ⟨3, ![1, 4096, 12288]⟩
abbrev S4096x12288 : Shape := ⟨2, ![4096, 12288]⟩
abbrev S8192x2048 : Shape := ⟨2, ![8192, 2048]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S4096x12288, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .f32⟩
  | .local _ .vmem, ⟨7, _⟩ => ⟨S1024x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S1x4096x12288 : Shape := ⟨3, ![1, 4096, 12288]⟩
abbrev S4096x12288 : Shape := ⟨2, ![4096, 12288]⟩
abbrev S8192x12288 : Shape := ⟨2, ![8192, 12288]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S8192x4096, .f32⟩
  | .hbm, ⟨3, _⟩ => ⟨S4096x12288, .f32⟩
  | .hbm, ⟨4, _⟩ => ⟨S8192x12288, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S8192x2048 : Shape := ⟨2, ![8192, 2048]⟩
abbrev S1x4096x4096 : Shape := ⟨3, ![1, 4096, 4096]⟩
abbrev S16x256x4096 : Shape := ⟨3, ![16, 256, 4096]⟩
abbrev S4x1024x4096 : Shape := ⟨3, ![4, 1024, 4096]⟩
abbrev S8x24576 : Shape := ⟨2, ![8, 24576]⟩
abbrev S4096x4096 : Shape := ⟨2, ![4096, 4096]⟩
abbrev S8x4096 : Shape := ⟨2, ![8, 4096]⟩
abbrev S8x1x4096 : Shape := ⟨3, ![8, 1, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S16x256x4096, .f32⟩
  | .hbm, ⟨4, _⟩ => ⟨S4x1024x4096, .f32⟩
  | .hbm, ⟨5, _⟩ => ⟨S8x24576, .f32⟩
  | .hbm, ⟨6, _⟩ => ⟨S4096x4096, .f32⟩
  | .hbm, ⟨7, _⟩ => ⟨S4096x4096, .f32⟩
  | .hbm, ⟨8, _⟩ => ⟨S8x4096, .f32⟩
  | .hbm, ⟨9, _⟩ => ⟨S8x1x4096, .f32⟩
  | .hbm, ⟨10, _⟩ => ⟨S4096x4096, .f32⟩
  | .hbm, ⟨11, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x1x512, .f32⟩
  | .local _ .vmem, ⟨13, _⟩ => ⟨S1x1x512, .f32⟩
  | .local _ .vmem, ⟨14, _⟩ => ⟨S1024x512, .f32⟩
  | .local _ .vmem, ⟨15, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c4_i32 : BitVec 32 := 4#32
  let v11 : BitVec 1 := Scalar.cmpi .slt arg0 c4_i32
  let v12 : BitVec 32 := Scalar.extui v11
  let c0_i32 : BitVec 32 := 0#32
  let v13 : BitVec 1 := Scalar.cmpi .ne v12 c0_i32
  v13

def k0_cond2 (i : grid0.Coords) : BitVec 1 :=
  let arg0 : BitVec 32 := BitVec.ofNat 32 (i 0).val
  let c4_i32_8 : BitVec 32 := 4#32
  let v14 : BitVec 1 := Scalar.cmpi .sge arg0 c4_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c0_i32 : BitVec 32 := 0#32
  let v2 : BitVec 32 := Scalar.maxsi v1 c0_i32
  let c1024_i32 : BitVec 32 := 1024#32
  let v3 : BitVec 32 := Scalar.muli v2 c1024_i32
  let c1024_i32_1 : BitVec 32 := 1024#32
  let v4 : BitVec 32 := Scalar.divsi v3 c1024_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v0 c0_i32_8 v21
  let c0_i32_9 : BitVec 32 := 0#32
  let c0_i32_10 : BitVec 32 := 0#32
  ![v22.toNat, c0_i32_9.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x2048 : Shape := ⟨2, ![8192, 2048]⟩
abbrev S1x4096x4096 : Shape := ⟨3, ![1, 4096, 4096]⟩
abbrev S16x256x4096 : Shape := ⟨3, ![16, 256, 4096]⟩
abbrev S4x1024x4096 : Shape := ⟨3, ![4, 1024, 4096]⟩
abbrev S8x24576 : Shape := ⟨2, ![8, 24576]⟩
abbrev S8x4096 : Shape := ⟨2, ![8, 4096]⟩
abbrev S8x1x4096 : Shape := ⟨3, ![8, 1, 4096]⟩
abbrev S8192x4096 : Shape := ⟨2, ![8192, 4096]⟩
abbrev S4096x4096 : Shape := ⟨2, ![4096, 4096]⟩
abbrev S_ : Shape := ⟨0, ![]⟩
abbrev S1x1x4096 : Shape := ⟨3, ![1, 1, 4096]⟩
abbrev S4x1x4096 : Shape := ⟨3, ![4, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S16x256x4096, .f32⟩
  | .hbm, ⟨4, _⟩ => ⟨S4x1024x4096, .f32⟩
  | .hbm, ⟨5, _⟩ => ⟨S8x24576, .f32⟩
  | .hbm, ⟨6, _⟩ => ⟨S8x4096, .f32⟩
  | .hbm, ⟨7, _⟩ => ⟨S8x1x4096, .f32⟩
  | .hbm, ⟨8, _⟩ => ⟨S8192x2048, .f32⟩
  | .hbm, ⟨9, _⟩ => ⟨S8192x2048, .f32⟩
  | .hbm, ⟨10, _⟩ => ⟨S8192x4096, .f32⟩
  | .hbm, ⟨11, _⟩ => ⟨S4096x4096, .f32⟩
  | .hbm, ⟨12, _⟩ => ⟨S8192x4096, .f32⟩
  | .hbm, ⟨13, _⟩ => ⟨S4096x4096, .f32⟩
  | .hbm, ⟨14, _⟩ => ⟨S16x256x4096, .f32⟩
  | .hbm, ⟨15, _⟩ => ⟨S4096x4096, .f32⟩
  | .hbm, ⟨16, _⟩ => ⟨S4x1024x4096, .f32⟩
  | .hbm, ⟨17, _⟩ => ⟨S_, .f32⟩
  | .hbm, ⟨18, _⟩ => ⟨S16x256x4096, .f32⟩
  | .hbm, ⟨19, _⟩ => ⟨S16x256x4096, .f32⟩
  | .hbm, ⟨20, _⟩ => ⟨S1x1x4096, .f32⟩
  | .hbm, ⟨21, _⟩ => ⟨S16x256x4096, .f32⟩
  | .hbm, ⟨22, _⟩ => ⟨S16x256x4096, .f32⟩
  | .hbm, ⟨23, _⟩ => ⟨S16x256x4096, .f32⟩
  | .hbm, ⟨24, _⟩ => ⟨S_, .f32⟩
  | .hbm, ⟨25, _⟩ => ⟨S4x1024x4096, .f32⟩
  | .hbm, ⟨26, _⟩ => ⟨S4x1024x4096, .f32⟩
  | .hbm, ⟨27, _⟩ => ⟨S4x1x4096, .f32⟩
  | .hbm, ⟨28, _⟩ => ⟨S4x1024x4096, .f32⟩
  | .hbm, ⟨29, _⟩ => ⟨S4x1024x4096, .f32⟩
  | .hbm, ⟨30, _⟩ => ⟨S4x1024x4096, .f32⟩
  | .hbm, ⟨31, _⟩ => ⟨S4096x4096, .f32⟩
  | .hbm, ⟨32, _⟩ => ⟨S4096x4096, .f32⟩
  | .hbm, ⟨33, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel5.lean ====
abbrev S4x4096 : Shape := ⟨2, ![4, 4096]⟩
abbrev S4096 : Shape := ⟨1, ![4096]⟩
abbrev S1x4096x24576 : Shape := ⟨3, ![1, 4096, 24576]⟩
abbrev S1x24576 : Shape := ⟨2, ![1, 24576]⟩
abbrev S_ : Shape := ⟨0, ![]⟩
abbrev S8x4096 : Shape := ⟨2, ![8, 4096]⟩
abbrev S1 : Shape := ⟨1, ![1]⟩
abbrev S4096x24576 : Shape := ⟨2, ![4096, 24576]⟩
abbrev S24576 : Shape := ⟨1, ![24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩

abbrev nBuf : Space → Nat
  | .hbm => 16
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S1x4096x24576, .f32⟩
  | .hbm, ⟨3, _⟩ => ⟨S1x24576, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S_, .i32⟩
  | .hbm, ⟨10, _⟩ => ⟨S1, .i32⟩
  | .hbm, ⟨11, _⟩ => ⟨S8x4096, .f32⟩
  | .hbm, ⟨12, _⟩ => ⟨S4096x24576, .f32⟩
  | .hbm, ⟨13, _⟩ => ⟨S24576, .f32⟩
  | .hbm, ⟨14, _⟩ => ⟨S1x24576, .f32⟩
  | .hbm, ⟨15, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x4096 : Shape := ⟨2, ![4, 4096]⟩
abbrev S4096 : Shape := ⟨1, ![4096]⟩
abbrev S1x4096x24576 : Shape := ⟨3, ![1, 4096, 24576]⟩
abbrev S1x24576 : Shape := ⟨2, ![1, 24576]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 23
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S1x4096x24576, .f32⟩
  | .hbm, ⟨3, _⟩ => ⟨S1x24576, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S4096x24576, .f32⟩
  | .hbm, ⟨18, _⟩ => ⟨S8x24576, .f32⟩
  | .hbm, ⟨19, _⟩ => ⟨S24576, .f32⟩
  | .hbm, ⟨20, _⟩ => ⟨S1x24576, .f32⟩
  | .hbm, ⟨21, _⟩ => ⟨S8x24576, .f32⟩
  | .hbm, ⟨22, _⟩ => ⟨S8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel6.lean ====
abbrev S16x256x4096 : Shape := ⟨3, ![16, 256, 4096]⟩
abbrev S4x1024x4096 : Shape := ⟨3, ![4, 1024, 4096]⟩
abbrev S8x24576 : Shape := ⟨2, ![8, 24576]⟩
abbrev S4096x4096 : Shape := ⟨2, ![4096, 4096]⟩
abbrev S8x4096 : Shape := ⟨2, ![8, 4096]⟩
abbrev S8x1x4096 : Shape := ⟨3, ![8, 1, 4096]⟩
abbrev S8192x4096 : Shape := ⟨2, ![8192, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩
abbrev S1x4096 : Shape := ⟨2, ![1, 4096]⟩

abbrev nBuf : Space → Nat
  | .hbm => 10
  | .vmem => 10
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S8x24576, .f32⟩
  | .hbm, ⟨3, _⟩ => ⟨S4096x4096, .f32⟩
  | .hbm, ⟨4, _⟩ => ⟨S4096x4096, .f32⟩
  | .hbm, ⟨5, _⟩ => ⟨S8x4096, .f32⟩
  | .hbm, ⟨6, _⟩ => ⟨S8x1x4096, .f32⟩
  | .hbm, ⟨7, _⟩ => ⟨S8x4096, .f32⟩
  | .hbm, ⟨8, _⟩ => ⟨S8x1x4096, .f32⟩
  | .hbm, ⟨9, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S512x4096, .bf16⟩
  | .local _ .vmem, ⟨9, _⟩ => ⟨S512x4096, .bf16⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.maxsi v1 c0_i32
  let c512_i32 : BitVec 32 := 512#32
  let v3 : BitVec 32 := Scalar.muli v2 c512_i32
  let c1024_i32 : BitVec 32 := 1024#32
  let v4 : BitVec 32 := Scalar.divsi v3 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v0 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.maxsi v1 c0_i32
  let c512_i32 : BitVec 32 := 512#32
  let v3 : BitVec 32 := Scalar.muli v2 c512_i32
  let c1024_i32 : BitVec 32 := 1024#32
  let v4 : BitVec 32 := Scalar.divsi v3 c1024_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v0 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16x256x4096 : Shape := ⟨3, ![16, 256, 4096]⟩
abbrev S4x1024x4096 : Shape := ⟨3, ![4, 1024, 4096]⟩
abbrev S8x24576 : Shape := ⟨2, ![8, 24576]⟩
abbrev S8x4096 : Shape := ⟨2, ![8, 4096]⟩
abbrev S8x1x4096 : Shape := ⟨3, ![8, 1, 4096]⟩
abbrev S_ : Shape := ⟨0, ![]⟩
abbrev S16x256 : Shape := ⟨2, ![16, 256]⟩
abbrev S16x256x1 : Shape := ⟨3, ![16, 256, 1]⟩
abbrev S1x1x4096 : Shape := ⟨3, ![1, 1, 4096]⟩
abbrev S4x1024 : Shape := ⟨2, ![4, 1024]⟩
abbrev S4x1024x1 : Shape := ⟨3, ![4, 1024, 1]⟩
abbrev S4x1x4096 : Shape := ⟨3, ![4, 1, 4096]⟩
abbrev S4096x4096 : Shape := ⟨2, ![4096, 4096]⟩
abbrev S8192x4096 : Shape := ⟨2, ![8192, 4096]⟩

abbrev nBuf : Space → Nat
  | .hbm => 75
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S8x24576, .f32⟩
  | .hbm, ⟨3, _⟩ => ⟨S8x4096, .f32⟩
  | .hbm, ⟨4, _⟩ => ⟨S8x1x4096, .f32⟩
  | .hbm, ⟨5, _⟩ => ⟨S8x4096, .f32⟩
  | .hbm, ⟨6, _⟩ => ⟨S8x1x4096, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x4096, .f32⟩
  | .hbm, ⟨14, _⟩ => ⟨S16x256x4096, .f32⟩
  | .hbm, ⟨15, _⟩ => ⟨S16x256x4096, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x4096, .f32⟩
  | .hbm, ⟨23, _⟩ => ⟨S16x256x4096, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x4096, .f32⟩
  | .hbm, ⟨29, _⟩ => ⟨S16x256x4096, .f32⟩
  | .hbm, ⟨30, _⟩ => ⟨S1x1x4096, .f32⟩
  | .hbm, ⟨31, _⟩ => ⟨S_, .f32⟩
  | .hbm, ⟨32, _⟩ => ⟨S1x1x4096, .f32⟩
  | .hbm, ⟨33, _⟩ => ⟨S1x1x4096, .f32⟩
  | .hbm, ⟨34, _⟩ => ⟨S16x256x4096, .f32⟩
  | .hbm, ⟨35, _⟩ => ⟨S16x256x4096, .f32⟩
  | .hbm, ⟨36, _⟩ => ⟨S1x1x4096, .f32⟩
  | .hbm, ⟨37, _⟩ => ⟨S16x256x4096, .f32⟩
  | .hbm, ⟨38, _⟩ => ⟨S16x256x4096, .f32⟩
  | .hbm, ⟨39, _⟩ => ⟨S_, .f32⟩
  | .hbm, ⟨40, _⟩ => ⟨S4x1024, .f32⟩
  | .hbm, ⟨41, _⟩ => ⟨S4x1024x1, .f32⟩
  | .hbm, ⟨42, _⟩ => ⟨S_, .f32⟩
  | .hbm, ⟨43, _⟩ => ⟨S4x1024x1, .f32⟩
  | .hbm, ⟨44, _⟩ => ⟨S4x1024x1, .f32⟩
  | .hbm, ⟨45, _⟩ => ⟨S4x1024x4096, .f32⟩
  | .hbm, ⟨46, _⟩ => ⟨S4x1024x4096, .f32⟩
  | .hbm, ⟨47, _⟩ => ⟨S4x1024x4096, .f32⟩
  | .hbm, ⟨48, _⟩ => ⟨S_, .f32⟩
  | .hbm, ⟨49, _⟩ => ⟨S4x1024, .f32⟩
  | .hbm, ⟨50, _⟩ => ⟨S4x1024x1, .f32⟩
  | .hbm, ⟨51, _⟩ => ⟨S_, .f32⟩
  | .hbm, ⟨52, _⟩ => ⟨S4x1024x1, .f32⟩
  | .hbm, ⟨53, _⟩ => ⟨S4x1024x1, .f32⟩
  | .hbm, ⟨54, _⟩ => ⟨S4x1024x4096, .f32⟩
  | .hbm, ⟨55, _⟩ => ⟨S4x1024x4096, .f32⟩
  | .hbm, ⟨56, _⟩ => ⟨S_, .f32⟩
  | .hbm, ⟨57, _⟩ => ⟨S4x1024x1, .f32⟩
  | .hbm, ⟨58, _⟩ => ⟨S4x1024x1, .f32⟩
  | .hbm, ⟨59, _⟩ => ⟨S4x1024x1, .f32⟩
  | .hbm, ⟨60, _⟩ => ⟨S4x1024x4096, .f32⟩
  | .hbm, ⟨61, _⟩ => ⟨S4x1024x4096, .f32⟩
  | .hbm, ⟨62, _⟩ => ⟨S4x1x4096, .f32⟩
  | .hbm, ⟨63, _⟩ => ⟨S_, .f32⟩
  | .hbm, ⟨64, _⟩ => ⟨S4x1x4096, .f32⟩
  | .hbm, ⟨65, _⟩ => ⟨S4x1x4096, .f32⟩
  | .hbm, ⟨66, _⟩ => ⟨S4x1024x4096, .f32⟩
  | .hbm, ⟨67, _⟩ => ⟨S4x1024x4096, .f32⟩
  | .hbm, ⟨68, _⟩ => ⟨S4x1x4096, .f32⟩
  | .hbm, ⟨69, _⟩ => ⟨S4x1024x4096, .f32⟩
  | .hbm, ⟨70, _⟩ => ⟨S4x1024x4096, .f32⟩
  | .hbm, ⟨71, _⟩ => ⟨S4096x4096, .f32⟩
  | .hbm, ⟨72, _⟩ => ⟨S4096x4096, .f32⟩
  | .hbm, ⟨73, _⟩ => ⟨S8192x4096, .f32⟩
  | .hbm, ⟨74, _⟩ => ⟨S8192x4096, .bf16⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel7.lean ====
abbrev S8192x2048 : Shape := ⟨2, ![8192, 2048]⟩
abbrev S1x31x2048 : Shape := ⟨3, ![1, 31, 2048]⟩
abbrev S1x2048 : Shape := ⟨2, ![1, 2048]⟩
abbrev S31x2048 : Shape := ⟨2, ![31, 2048]⟩
abbrev S2048 : Shape := ⟨1, ![2048]⟩
abbrev S_ : Shape := ⟨0, ![]⟩
abbrev S32x2048 : Shape := ⟨2, ![32, 2048]⟩
abbrev S1 : Shape := ⟨1, ![1]⟩
abbrev S32x16x128 : Shape := ⟨3, ![32, 16, 128]⟩
abbrev S16x32x128 : Shape := ⟨3, ![16, 32, 128]⟩
abbrev S16x1x128 : Shape := ⟨3, ![16, 1, 128]⟩
abbrev S256x2048 : Shape := ⟨2, ![256, 2048]⟩
abbrev S16x2048 : Shape := ⟨2, ![16, 2048]⟩
abbrev S16x288x128 : Shape := ⟨3, ![16, 288, 128]⟩
abbrev S16x256x128 : Shape := ⟨3, ![16, 256, 128]⟩
abbrev S16x128 : Shape := ⟨2, ![16, 128]⟩
abbrev S1x16x128 : Shape := ⟨3, ![1, 16, 128]⟩
abbrev S256x128 : Shape := ⟨2, ![256, 128]⟩
abbrev S1x256x128 : Shape := ⟨3, ![1, 256, 128]⟩
abbrev S1x1x128 : Shape := ⟨3, ![1, 1, 128]⟩
abbrev S1x128 : Shape := ⟨2, ![1, 128]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S31x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S32x2048, .f32⟩
  | .hbm, ⟨11, _⟩ => ⟨S_, .i32⟩
  | .hbm, ⟨12, _⟩ => ⟨S1, .i32⟩
  | .hbm, ⟨13, _⟩ => ⟨S32x2048, .f32⟩
  | .hbm, ⟨14, _⟩ => ⟨S32x16x128, .f32⟩
  | .hbm, ⟨15, _⟩ => ⟨S16x32x128, .f32⟩
  | .hbm, ⟨16, _⟩ => ⟨S16x1x128, .f32⟩
  | .hbm, ⟨17, _⟩ => ⟨S16x1x128, .f32⟩
  | .hbm, ⟨18, _⟩ => ⟨S16x1x128, .f32⟩
  | .hbm, ⟨19, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x32x128, .f32⟩
  | .local _ .vmem, ⟨7, _⟩ => ⟨S16x1x128, .f32⟩
  | .local _ .vmem, ⟨8, _⟩ => ⟨S16x1x128, .f32⟩
  | .local _ .vmem, ⟨9, _⟩ => ⟨S16x1x128, .f32⟩
  | .local _ .vmem, ⟨10, _⟩ => ⟨S256x2048, .bf16⟩
  | .local _ .vmem, ⟨11, _⟩ => ⟨S256x2048, .bf16⟩
  | .local _ .vmem, ⟨12, _⟩ => ⟨S16x288x128, .f32⟩
  | .local _ .vmem, ⟨13, _⟩ => ⟨S16x256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_240 : BitVec 32 := 0#32
  let c16_i32_241 : BitVec 32 := 16#32
  let v264 : BitVec 32 := Scalar.addi c0_i32_240 c16_i32_241
  let c1_i32 : BitVec 32 := 1#32
  ⟨c0_i32_240, v264, c1_i32⟩
def k0_off1 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v805 : Index := Scalar.indexCast arg11
  let c1_570 : Index := 1#32
  let c0_571 : Index := 0#32
  ![v805.toNat, 1, 0]
def k0_off2 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v808 : Index := Scalar.indexCast arg11
  let c0_572 : Index := 0#32
  let c0_573 : Index := 0#32
  ![v808.toNat, 0, 0]
def k0_off3 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v814 : Index := Scalar.indexCast arg11
  let c2_574 : Index := 2#32
  let c0_575 : Index := 0#32
  ![v814.toNat, 2, 0]
def k0_off4 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v817 : Index := Scalar.indexCast arg11
  let c1_576 : Index := 1#32
  let c0_577 : Index := 0#32
  ![v817.toNat, 1, 0]
def k0_off5 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v823 : Index := Scalar.indexCast arg11
  let c3_578 : Index := 3#32
  let c0_579 : Index := 0#32
  ![v823.toNat, 3, 0]
def k0_off6 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v826 : Index := Scalar.indexCast arg11
  let c2_580 : Index := 2#32
  let c0_581 : Index := 0#32
  ![v826.toNat, 2, 0]
def k0_off7 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v832 : Index := Scalar.indexCast arg11
  let c4_582 : Index := 4#32
  let c0_583 : Index := 0#32
  ![v832.toNat, 4, 0]
def k0_off8 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v835 : Index := Scalar.indexCast arg11
  let c3_584 : Index := 3#32
  let c0_585 : Index := 0#32
  ![v835.toNat, 3, 0]
def k0_off9 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v841 : Index := Scalar.indexCast arg11
  let c5_586 : Index := 5#32
  let c0_587 : Index := 0#32
  ![v841.toNat, 5, 0]
def k0_off10 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v844 : Index := Scalar.indexCast arg11
  let c4_588 : Index := 4#32
  let c0_589 : Index := 0#32
  ![v844.toNat, 4, 0]
def k0_off11 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v850 : Index := Scalar.indexCast arg11
  let c6_590 : Index := 6#32
  let c0_591 : Index := 0#32
  ![v850.toNat, 6, 0]
def k0_off12 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v853 : Index := Scalar.indexCast arg11
  let c5_592 : Index := 5#32
  let c0_593 : Index := 0#32
  ![v853.toNat, 5, 0]
def k0_off13 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v859 : Index := Scalar.indexCast arg11
  let c7_594 : Index := 7#32
  let c0_595 : Index := 0#32
  ![v859.toNat, 7, 0]
def k0_off14 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v862 : Index := Scalar.indexCast arg11
  let c6_596 : Index := 6#32
  let c0_597 : Index := 0#32
  ![v862.toNat, 6, 0]
def k0_off15 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v868 : Index := Scalar.indexCast arg11
  let c8_598 : Index := 8#32
  let c0_599 : Index := 0#32
  ![v868.toNat, 8, 0]
def k0_off16 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v871 : Index := Scalar.indexCast arg11
  let c7_600 : Index := 7#32
  let c0_601 : Index := 0#32
  ![v871.toNat, 7, 0]
def k0_off17 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v877 : Index := Scalar.indexCast arg11
  let c9_602 : Index := 9#32
  let c0_603 : Index := 0#32
  ![v877.toNat, 9, 0]
def k0_off18 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v880 : Index := Scalar.indexCast arg11
  let c8_604 : Index := 8#32
  let c0_605 : Index := 0#32
  ![v880.toNat, 8, 0]
def k0_off19 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v886 : Index := Scalar.indexCast arg11
  let c10_606 : Index := 10#32
  let c0_607 : Index := 0#32
  ![v886.toNat, 10, 0]
def k0_off20 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v889 : Index := Scalar.indexCast arg11
  let c9_608 : Index := 9#32
  let c0_609 : Index := 0#32
  ![v889.toNat, 9, 0]
def k0_off21 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v895 : Index := Scalar.indexCast arg11
  let c11_610 : Index := 11#32
  let c0_611 : Index := 0#32
  ![v895.toNat, 11, 0]
def k0_off22 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v898 : Index := Scalar.indexCast arg11
  let c10_612 : Index := 10#32
  let c0_613 : Index := 0#32
  ![v898.toNat, 10, 0]
def k0_off23 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v904 : Index := Scalar.indexCast arg11
  let c12_614 : Index := 12#32
  let c0_615 : Index := 0#32
  ![v904.toNat, 12, 0]
def k0_off24 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v907 : Index := Scalar.indexCast arg11
  let c11_616 : Index := 11#32
  let c0_617 : Index := 0#32
  ![v907.toNat, 11, 0]
def k0_off25 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v913 : Index := Scalar.indexCast arg11
  let c13_618 : Index := 13#32
  let c0_619 : Index := 0#32
  ![v913.toNat, 13, 0]
def k0_off26 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v916 : Index := Scalar.indexCast arg11
  let c12_620 : Index := 12#32
  let c0_621 : Index := 0#32
  ![v916.toNat, 12, 0]
def k0_off27 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v922 : Index := Scalar.indexCast arg11
  let c14_622 : Index := 14#32
  let c0_623 : Index := 0#32
  ![v922.toNat, 14, 0]
def k0_off28 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v925 : Index := Scalar.indexCast arg11
  let c13_624 : Index := 13#32
  let c0_625 : Index := 0#32
  ![v925.toNat, 13, 0]
def k0_off29 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v931 : Index := Scalar.indexCast arg11
  let c15_626 : Index := 15#32
  let c0_627 : Index := 0#32
  ![v931.toNat, 15, 0]
def k0_off30 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v934 : Index := Scalar.indexCast arg11
  let c14_628 : Index := 14#32
  let c0_629 : Index := 0#32
  ![v934.toNat, 14, 0]
def k0_off31 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v940 : Index := Scalar.indexCast arg11
  let c16_630 : Index := 16#32
  let c0_631 : Index := 0#32
  ![v940.toNat, 16, 0]
def k0_off32 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v943 : Index := Scalar.indexCast arg11
  let c15_632 : Index := 15#32
  let c0_633 : Index := 0#32
  ![v943.toNat, 15, 0]
def k0_off33 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v949 : Index := Scalar.indexCast arg11
  let c17 : Index := 17#32
  let c0_634 : Index := 0#32
  ![v949.toNat, 17, 0]
def k0_off34 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v952 : Index := Scalar.indexCast arg11
  let c16_635 : Index := 16#32
  let c0_636 : Index := 0#32
  ![v952.toNat, 16, 0]
def k0_off35 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v958 : Index := Scalar.indexCast arg11
  let c18 : Index := 18#32
  let c0_637 : Index := 0#32
  ![v958.toNat, 18, 0]
def k0_off36 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v961 : Index := Scalar.indexCast arg11
  let c17_638 : Index := 17#32
  let c0_639 : Index := 0#32
  ![v961.toNat, 17, 0]
def k0_off37 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v967 : Index := Scalar.indexCast arg11
  let c19 : Index := 19#32
  let c0_640 : Index := 0#32
  ![v967.toNat, 19, 0]
def k0_off38 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v970 : Index := Scalar.indexCast arg11
  let c18_641 : Index := 18#32
  let c0_642 : Index := 0#32
  ![v970.toNat, 18, 0]
def k0_off39 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v976 : Index := Scalar.indexCast arg11
  let c20 : Index := 20#32
  let c0_643 : Index := 0#32
  ![v976.toNat, 20, 0]
def k0_off40 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v979 : Index := Scalar.indexCast arg11
  let c19_644 : Index := 19#32
  let c0_645 : Index := 0#32
  ![v979.toNat, 19, 0]
def k0_off41 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v985 : Index := Scalar.indexCast arg11
  let c21 : Index := 21#32
  let c0_646 : Index := 0#32
  ![v985.toNat, 21, 0]
def k0_off42 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v988 : Index := Scalar.indexCast arg11
  let c20_647 : Index := 20#32
  let c0_648 : Index := 0#32
  ![v988.toNat, 20, 0]
def k0_off43 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v994 : Index := Scalar.indexCast arg11
  let c22 : Index := 22#32
  let c0_649 : Index := 0#32
  ![v994.toNat, 22, 0]
def k0_off44 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v997 : Index := Scalar.indexCast arg11
  let c21_650 : Index := 21#32
  let c0_651 : Index := 0#32
  ![v997.toNat, 21, 0]
def k0_off45 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1003 : Index := Scalar.indexCast arg11
  let c23 : Index := 23#32
  let c0_652 : Index := 0#32
  ![v1003.toNat, 23, 0]
def k0_off46 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1006 : Index := Scalar.indexCast arg11
  let c22_653 : Index := 22#32
  let c0_654 : Index := 0#32
  ![v1006.toNat, 22, 0]
def k0_off47 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1012 : Index := Scalar.indexCast arg11
  let c24 : Index := 24#32
  let c0_655 : Index := 0#32
  ![v1012.toNat, 24, 0]
def k0_off48 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1015 : Index := Scalar.indexCast arg11
  let c23_656 : Index := 23#32
  let c0_657 : Index := 0#32
  ![v1015.toNat, 23, 0]
def k0_off49 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1021 : Index := Scalar.indexCast arg11
  let c25 : Index := 25#32
  let c0_658 : Index := 0#32
  ![v1021.toNat, 25, 0]
def k0_off50 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1024 : Index := Scalar.indexCast arg11
  let c24_659 : Index := 24#32
  let c0_660 : Index := 0#32
  ![v1024.toNat, 24, 0]
def k0_off51 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1030 : Index := Scalar.indexCast arg11
  let c26 : Index := 26#32
  let c0_661 : Index := 0#32
  ![v1030.toNat, 26, 0]
def k0_off52 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1033 : Index := Scalar.indexCast arg11
  let c25_662 : Index := 25#32
  let c0_663 : Index := 0#32
  ![v1033.toNat, 25, 0]
def k0_off53 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1039 : Index := Scalar.indexCast arg11
  let c27 : Index := 27#32
  let c0_664 : Index := 0#32
  ![v1039.toNat, 27, 0]
def k0_off54 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1042 : Index := Scalar.indexCast arg11
  let c26_665 : Index := 26#32
  let c0_666 : Index := 0#32
  ![v1042.toNat, 26, 0]
def k0_off55 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1048 : Index := Scalar.indexCast arg11
  let c28 : Index := 28#32
  let c0_667 : Index := 0#32
  ![v1048.toNat, 28, 0]
def k0_off56 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1051 : Index := Scalar.indexCast arg11
  let c27_668 : Index := 27#32
  let c0_669 : Index := 0#32
  ![v1051.toNat, 27, 0]
def k0_off57 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1057 : Index := Scalar.indexCast arg11
  let c29 : Index := 29#32
  let c0_670 : Index := 0#32
  ![v1057.toNat, 29, 0]
def k0_off58 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1060 : Index := Scalar.indexCast arg11
  let c28_671 : Index := 28#32
  let c0_672 : Index := 0#32
  ![v1060.toNat, 28, 0]
def k0_off59 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1066 : Index := Scalar.indexCast arg11
  let c30 : Index := 30#32
  let c0_673 : Index := 0#32
  ![v1066.toNat, 30, 0]
def k0_off60 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1069 : Index := Scalar.indexCast arg11
  let c29_674 : Index := 29#32
  let c0_675 : Index := 0#32
  ![v1069.toNat, 29, 0]
def k0_off61 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1075 : Index := Scalar.indexCast arg11
  let c31 : Index := 31#32
  let c0_676 : Index := 0#32
  ![v1075.toNat, 31, 0]
def k0_off62 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1078 : Index := Scalar.indexCast arg11
  let c30_677 : Index := 30#32
  let c0_678 : Index := 0#32
  ![v1078.toNat, 30, 0]
def k0_off63 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1084 : Index := Scalar.indexCast arg11
  let c0_679 : Index := 0#32
  let c0_680 : Index := 0#32
  ![v1084.toNat, 0, 0]
def k0_off64 (k0_t1 : Fin k0_t1_loop.trips) : Fin 3 → Nat :=
  let c0_i32_240 : BitVec 32 := 0#32
  let c1_i32 : BitVec 32 := 1#32
  let arg11 : BitVec 32 := Scf.iv c0_i32_240 c1_i32 k0_t1
  let v1089 : Index := Scalar.indexCast arg11
  let c0_681 : Index := 0#32
  let c0_682 : Index := 0#32
  ![v1089.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x2048 : Shape := ⟨2, ![8192, 2048]⟩
abbrev S1x31x2048 : Shape := ⟨3, ![1, 31, 2048]⟩
abbrev S1x2048 : Shape := ⟨2, ![1, 2048]⟩
abbrev S4096x2048 : Shape := ⟨2, ![4096, 2048]⟩
abbrev S16x256x2048 : Shape := ⟨3, ![16, 256, 2048]⟩
abbrev S_ : Shape := ⟨0, ![]⟩
abbrev S16x286x2048 : Shape := ⟨3, ![16, 286, 2048]⟩
abbrev S1x1x2048 : Shape := ⟨3, ![1, 1, 2048]⟩
abbrev S2048 : Shape := ⟨1, ![2048]⟩
abbrev S16x256 : Shape := ⟨2, ![16, 256]⟩
abbrev S16x256x1 : Shape := ⟨3, ![16, 256, 1]⟩
abbrev S4x1024x2048 : Shape := ⟨3, ![4, 1024, 2048]⟩
abbrev S4x1054x2048 : Shape := ⟨3, ![4, 1054, 2048]⟩
abbrev S4x1024 : Shape := ⟨2, ![4, 1024]⟩
abbrev S4x1024x1 : Shape := ⟨3, ![4, 1024, 1]⟩

abbrev nBuf : Space → Nat
  | .hbm => 545
  | .vmem => 0
  | .smem => 0
  | _ => 0

abbrev hbmTy0_0 (i : Nat) : BufTy := match i % 128 with
  | 0 => ⟨S8192x2048, .f32⟩
  | 1 => ⟨S1x31x2048, .f32⟩
  | 2 => ⟨S1x2048, .f32⟩
  | 3 => ⟨S1x2048, .f32⟩
  | 4 => ⟨S1x2048, .f32⟩
  | 5 => ⟨S4096x2048, .f32⟩
  | 6 => ⟨S16x256x2048, .f32⟩
  | 7 => ⟨S_, .i32⟩
  | 8 => ⟨S_, .f32⟩
  | 9 => ⟨S16x286x2048, .f32⟩
  | 10 => ⟨S16x256x2048, .f32⟩
  | 11 => ⟨S1x1x2048, .f32⟩
  | 12 => ⟨S2048, .f32⟩
  | 13 => ⟨S1x1x2048, .f32⟩
  | 14 => ⟨S16x256x2048, .f32⟩
  | 15 => ⟨S16x256x2048, .f32⟩
  | 16 => ⟨S_, .f32⟩
  | 17 => ⟨S16x256x2048, .f32⟩
  | 18 => ⟨S16x256x2048, .f32⟩
  | 19 => ⟨S16x256x2048, .f32⟩
  | 20 => ⟨S1x1x2048, .f32⟩
  | 21 => ⟨S2048, .f32⟩
  | 22 => ⟨S1x1x2048, .f32⟩
  | 23 => ⟨S16x256x2048, .f32⟩
  | 24 => ⟨S16x256x2048, .f32⟩
  | 25 => ⟨S16x256x2048, .f32⟩
  | 26 => ⟨S16x256x2048, .f32⟩
  | 27 => ⟨S1x1x2048, .f32⟩
  | 28 => ⟨S2048, .f32⟩
  | 29 => ⟨S1x1x2048, .f32⟩
  | 30 => ⟨S16x256x2048, .f32⟩
  | 31 => ⟨S16x256x2048, .f32⟩
  | 32 => ⟨S16x256x2048, .f32⟩
  | 33 => ⟨S16x256x2048, .f32⟩
  | 34 => ⟨S1x1x2048, .f32⟩
  | 35 => ⟨S2048, .f32⟩
  | 36 => ⟨S1x1x2048, .f32⟩
  | 37 => ⟨S16x256x2048, .f32⟩
  | 38 => ⟨S16x256x2048, .f32⟩
  | 39 => ⟨S16x256x2048, .f32⟩
  | 40 => ⟨S16x256x2048, .f32⟩
  | 41 => ⟨S1x1x2048, .f32⟩
  | 42 => ⟨S2048, .f32⟩
  | 43 => ⟨S1x1x2048, .f32⟩
  | 44 => ⟨S16x256x2048, .f32⟩
  | 45 => ⟨S16x256x2048, .f32⟩
  | 46 => ⟨S16x256x2048, .f32⟩
  | 47 => ⟨S16x256x2048, .f32⟩
  | 48 => ⟨S1x1x2048, .f32⟩
  | 49 => ⟨S2048, .f32⟩
  | 50 => ⟨S1x1x2048, .f32⟩
  | 51 => ⟨S16x256x2048, .f32⟩
  | 52 => ⟨S16x256x2048, .f32⟩
  | 53 => ⟨S16x256x2048, .f32⟩
  | 54 => ⟨S16x256x2048, .f32⟩
  | 55 => ⟨S1x1x2048, .f32⟩
  | 56 => ⟨S2048, .f32⟩
  | 57 => ⟨S1x1x2048, .f32⟩
  | 58 => ⟨S16x256x2048, .f32⟩
  | 59 => ⟨S16x256x2048, .f32⟩
  | 60 => ⟨S16x256x2048, .f32⟩
  | 61 => ⟨S16x256x2048, .f32⟩
  | 62 => ⟨S1x1x2048, .f32⟩
  | 63 => ⟨S2048, .f32⟩
  | 64 => ⟨S1x1x2048, .f32⟩
  | 65 => ⟨S16x256x2048, .f32⟩
  | 66 => ⟨S16x256x2048, .f32⟩
  | 67 => ⟨S16x256x2048, .f32⟩
  | 68 => ⟨S16x256x2048, .f32⟩
  | 69 => ⟨S1x1x2048, .f32⟩
  | 70 => ⟨S2048, .f32⟩
  | 71 => ⟨S1x1x2048, .f32⟩
  | 72 => ⟨S16x256x2048, .f32⟩
  | 73 => ⟨S16x256x2048, .f32⟩
  | 74 => ⟨S16x256x2048, .f32⟩
  | 75 => ⟨S16x256x2048, .f32⟩
  | 76 => ⟨S1x1x2048, .f32⟩
  | 77 => ⟨S2048, .f32⟩
  | 78 => ⟨S1x1x2048, .f32⟩
  | 79 => ⟨S16x256x2048, .f32⟩
  | 80 => ⟨S16x256x2048, .f32⟩
  | 81 => ⟨S16x256x2048, .f32⟩
  | 82 => ⟨S16x256x2048, .f32⟩
  | 83 => ⟨S1x1x2048, .f32⟩
  | 84 => ⟨S2048, .f32⟩
  | 85 => ⟨S1x1x2048, .f32⟩
  | 86 => ⟨S16x256x2048, .f32⟩
  | 87 => ⟨S16x256x2048, .f32⟩
  | 88 => ⟨S16x256x2048, .f32⟩
  | 89 => ⟨S16x256x2048, .f32⟩
  | 90 => ⟨S1x1x2048, .f32⟩
  | 91 => ⟨S2048, .f32⟩
  | 92 => ⟨S1x1x2048, .f32⟩
  | 93 => ⟨S16x256x2048, .f32⟩
  | 94 => ⟨S16x256x2048, .f32⟩
  | 95 => ⟨S16x256x2048, .f32⟩
  | 96 => ⟨S16x256x2048, .f32⟩
  | 97 => ⟨S1x1x2048, .f32⟩
  | 98 => ⟨S2048, .f32⟩
  | 99 => ⟨S1x1x2048, .f32⟩
  | 100 => ⟨S16x256x2048, .f32⟩
  | 101 => ⟨S16x256x2048, .f32⟩
  | 102 => ⟨S16x256x2048, .f32⟩
  | 103 => ⟨S16x256x2048, .f32⟩
  | 104 => ⟨S1x1x2048, .f32⟩
  | 105 => ⟨S2048, .f32⟩
  | 106 => ⟨S1x1x2048, .f32⟩
  | 107 => ⟨S16x256x2048, .f32⟩
  | 108 => ⟨S16x256x2048, .f32⟩
  | 109 => ⟨S16x256x2048, .f32⟩
  | 110 => ⟨S16x256x2048, .f32⟩
  | 111 => ⟨S1x1x2048, .f32⟩
  | 112 => ⟨S2048, .f32⟩
  | 113 => ⟨S1x1x2048, .f32⟩
  | 114 => ⟨S16x256x2048, .f32⟩
  | 115 => ⟨S16x256x2048, .f32⟩
  | 116 => ⟨S16x256x2048, .f32⟩
  | 117 => ⟨S16x256x2048, .f32⟩
  | 118 => ⟨S1x1x2048, .f32⟩
  | 119 => ⟨S2048, .f32⟩
  | 120 => ⟨S1x1x2048, .f32⟩
  | 121 => ⟨S16x256x2048, .f32⟩
  | 122 => ⟨S16x256x2048, .f32⟩
  | 123 => ⟨S16x256x2048, .f32⟩
  | 124 => ⟨S16x256x2048, .f32⟩
  | 125 => ⟨S1x1x2048, .f32⟩
  | 126 => ⟨S2048, .f32⟩
  | 127 => ⟨S1x1x2048, .f32⟩
  | _ => ⟨S8192x2048, .f32⟩

abbrev hbmTy0_1 (i : Nat) : BufTy := match i % 128 with
  | 0 => ⟨S16x256x2048, .f32⟩
  | 1 => ⟨S16x256x2048, .f32⟩
  | 2 => ⟨S16x256x2048, .f32⟩
  | 3 => ⟨S16x256x2048, .f32⟩
  | 4 => ⟨S1x1x2048, .f32⟩
  | 5 => ⟨S2048, .f32⟩
  | 6 => ⟨S1x1x2048, .f32⟩
  | 7 => ⟨S16x256x2048, .f32⟩
  | 8 => ⟨S16x256x2048, .f32⟩
  | 9 => ⟨S16x256x2048, .f32⟩
  | 10 => ⟨S16x256x2048, .f32⟩
  | 11 => ⟨S1x1x2048, .f32⟩
  | 12 => ⟨S2048, .f32⟩
  | 13 => ⟨S1x1x2048, .f32⟩
  | 14 => ⟨S16x256x2048, .f32⟩
  | 15 => ⟨S16x256x2048, .f32⟩
  | 16 => ⟨S16x256x2048, .f32⟩
  | 17 => ⟨S16x256x2048, .f32⟩
  | 18 => ⟨S1x1x2048, .f32⟩
  | 19 => ⟨S2048, .f32⟩
  | 20 => ⟨S1x1x2048, .f32⟩
  | 21 => ⟨S16x256x2048, .f32⟩
  | 22 => ⟨S16x256x2048, .f32⟩
  | 23 => ⟨S16x256x2048, .f32⟩
  | 24 => ⟨S16x256x2048, .f32⟩
  | 25 => ⟨S1x1x2048, .f32⟩
  | 26 => ⟨S2048, .f32⟩
  | 27 => ⟨S1x1x2048, .f32⟩
  | 28 => ⟨S16x256x2048, .f32⟩
  | 29 => ⟨S16x256x2048, .f32⟩
  | 30 => ⟨S16x256x2048, .f32⟩
  | 31 => ⟨S16x256x2048, .f32⟩
  | 32 => ⟨S1x1x2048, .f32⟩
  | 33 => ⟨S2048, .f32⟩
  | 34 => ⟨S1x1x2048, .f32⟩
  | 35 => ⟨S16x256x2048, .f32⟩
  | 36 => ⟨S16x256x2048, .f32⟩
  | 37 => ⟨S16x256x2048, .f32⟩
  | 38 => ⟨S16x256x2048, .f32⟩
  | 39 => ⟨S1x1x2048, .f32⟩
  | 40 => ⟨S2048, .f32⟩
  | 41 => ⟨S1x1x2048, .f32⟩
  | 42 => ⟨S16x256x2048, .f32⟩
  | 43 => ⟨S16x256x2048, .f32⟩
  | 44 => ⟨S16x256x2048, .f32⟩
  | 45 => ⟨S16x256x2048, .f32⟩
  | 46 => ⟨S1x1x2048, .f32⟩
  | 47 => ⟨S2048, .f32⟩
  | 48 => ⟨S1x1x2048, .f32⟩
  | 49 => ⟨S16x256x2048, .f32⟩
  | 50 => ⟨S16x256x2048, .f32⟩
  | 51 => ⟨S16x256x2048, .f32⟩
  | 52 => ⟨S16x256x2048, .f32⟩
  | 53 => ⟨S1x1x2048, .f32⟩
  | 54 => ⟨S2048, .f32⟩
  | 55 => ⟨S1x1x2048, .f32⟩
  | 56 => ⟨S16x256x2048, .f32⟩
  | 57 => ⟨S16x256x2048, .f32⟩
  | 58 => ⟨S16x256x2048, .f32⟩
  | 59 => ⟨S16x256x2048, .f32⟩
  | 60 => ⟨S1x1x2048, .f32⟩
  | 61 => ⟨S2048, .f32⟩
  | 62 => ⟨S1x1x2048, .f32⟩
  | 63 => ⟨S16x256x2048, .f32⟩
  | 64 => ⟨S16x256x2048, .f32⟩
  | 65 => ⟨S16x256x2048, .f32⟩
  | 66 => ⟨S16x256x2048, .f32⟩
  | 67 => ⟨S1x1x2048, .f32⟩
  | 68 => ⟨S2048, .f32⟩
  | 69 => ⟨S1x1x2048, .f32⟩
  | 70 => ⟨S16x256x2048, .f32⟩
  | 71 => ⟨S16x256x2048, .f32⟩
  | 72 => ⟨S16x256x2048, .f32⟩
  | 73 => ⟨S16x256x2048, .f32⟩
  | 74 => ⟨S1x1x2048, .f32⟩
  | 75 => ⟨S2048, .f32⟩
  | 76 => ⟨S1x1x2048, .f32⟩
  | 77 => ⟨S16x256x2048, .f32⟩
  | 78 => ⟨S16x256x2048, .f32⟩
  | 79 => ⟨S16x256x2048, .f32⟩
  | 80 => ⟨S16x256x2048, .f32⟩
  | 81 => ⟨S1x1x2048, .f32⟩
  | 82 => ⟨S2048, .f32⟩
  | 83 => ⟨S1x1x2048, .f32⟩
  | 84 => ⟨S16x256x2048, .f32⟩
  | 85 => ⟨S16x256x2048, .f32⟩
  | 86 => ⟨S16x256x2048, .f32⟩
  | 87 => ⟨S16x256x2048, .f32⟩
  | 88 => ⟨S1x1x2048, .f32⟩
  | 89 => ⟨S2048, .f32⟩
  | 90 => ⟨S1x1x2048, .f32⟩
  | 91 => ⟨S16x256x2048, .f32⟩
  | 92 => ⟨S16x256x2048, .f32⟩
  | 93 => ⟨S16x256x2048, .f32⟩
  | 94 => ⟨S16x256x2048, .f32⟩
  | 95 => ⟨S1x1x2048, .f32⟩
  | 96 => ⟨S2048, .f32⟩
  | 97 => ⟨S1x1x2048, .f32⟩
  | 98 => ⟨S16x256x2048, .f32⟩
  | 99 => ⟨S16x256x2048, .f32⟩
  | 100 => ⟨S16x256x2048, .f32⟩
  | 101 => ⟨S2048, .f32⟩
  | 102 => ⟨S1x1x2048, .f32⟩
  | 103 => ⟨S16x256x2048, .f32⟩
  | 104 => ⟨S16x256x2048, .f32⟩
  | 105 => ⟨S_, .f32⟩
  | 106 => ⟨S16x256, .f32⟩
  | 107 => ⟨S16x256x1, .f32⟩
  | 108 => ⟨S_, .f32⟩
  | 109 => ⟨S16x256x1, .f32⟩
  | 110 => ⟨S16x256x1, .f32⟩
  | 111 => ⟨S16x256x2048, .f32⟩
  | 112 => ⟨S16x256x2048, .f32⟩
  | 113 => ⟨S16x256x2048, .f32⟩
  | 114 => ⟨S_, .f32⟩
  | 115 => ⟨S16x256, .f32⟩
  | 116 => ⟨S16x256x1, .f32⟩
  | 117 => ⟨S_, .f32⟩
  | 118 => ⟨S16x256x1, .f32⟩
  | 119 => ⟨S16x256x1, .f32⟩
  | 120 => ⟨S16x256x2048, .f32⟩
  | 121 => ⟨S16x256x2048, .f32⟩
  | 122 => ⟨S_, .f32⟩
  | 123 => ⟨S16x256x1, .f32⟩
  | 124 => ⟨S16x256x1, .f32⟩
  | 125 => ⟨S16x256x1, .f32⟩
  | 126 => ⟨S16x256x2048, .f32⟩
  | 127 => ⟨S16x256x2048, .f32⟩
  | _ => ⟨S8192x2048, .f32⟩

abbrev hbmTy0_2 (i : Nat) : BufTy := match i % 128 with
  | 0 => ⟨S2048, .f32⟩
  | 1 => ⟨S1x1x2048, .f32⟩
  | 2 => ⟨S16x256x2048, .f32⟩
  | 3 => ⟨S16x256x2048, .f32⟩
  | 4 => ⟨S2048, .f32⟩
  | 5 => ⟨S1x1x2048, .f32⟩
  | 6 => ⟨S16x256x2048, .f32⟩
  | 7 => ⟨S16x256x2048, .f32⟩
  | 8 => ⟨S16x256x2048, .f32⟩
  | 9 => ⟨S16x256x2048, .f32⟩
  | 10 => ⟨S_, .f32⟩
  | 11 => ⟨S16x256x2048, .f32⟩
  | 12 => ⟨S16x256x2048, .f32⟩
  | 13 => ⟨S_, .f32⟩
  | 14 => ⟨S16x256x2048, .f32⟩
  | 15 => ⟨S16x256x2048, .f32⟩
  | 16 => ⟨S16x256x2048, .f32⟩
  | 17 => ⟨S4096x2048, .f32⟩
  | 18 => ⟨S4096x2048, .f32⟩
  | 19 => ⟨S4x1024x2048, .f32⟩
  | 20 => ⟨S_, .i32⟩
  | 21 => ⟨S_, .f32⟩
  | 22 => ⟨S4x1054x2048, .f32⟩
  | 23 => ⟨S4x1024x2048, .f32⟩
  | 24 => ⟨S1x1x2048, .f32⟩
  | 25 => ⟨S2048, .f32⟩
  | 26 => ⟨S1x1x2048, .f32⟩
  | 27 => ⟨S4x1024x2048, .f32⟩
  | 28 => ⟨S4x1024x2048, .f32⟩
  | 29 => ⟨S_, .f32⟩
  | 30 => ⟨S4x1024x2048, .f32⟩
  | 31 => ⟨S4x1024x2048, .f32⟩
  | 32 => ⟨S4x1024x2048, .f32⟩
  | 33 => ⟨S1x1x2048, .f32⟩
  | 34 => ⟨S2048, .f32⟩
  | 35 => ⟨S1x1x2048, .f32⟩
  | 36 => ⟨S4x1024x2048, .f32⟩
  | 37 => ⟨S4x1024x2048, .f32⟩
  | 38 => ⟨S4x1024x2048, .f32⟩
  | 39 => ⟨S4x1024x2048, .f32⟩
  | 40 => ⟨S1x1x2048, .f32⟩
  | 41 => ⟨S2048, .f32⟩
  | 42 => ⟨S1x1x2048, .f32⟩
  | 43 => ⟨S4x1024x2048, .f32⟩
  | 44 => ⟨S4x1024x2048, .f32⟩
  | 45 => ⟨S4x1024x2048, .f32⟩
  | 46 => ⟨S4x1024x2048, .f32⟩
  | 47 => ⟨S1x1x2048, .f32⟩
  | 48 => ⟨S2048, .f32⟩
  | 49 => ⟨S1x1x2048, .f32⟩
  | 50 => ⟨S4x1024x2048, .f32⟩
  | 51 => ⟨S4x1024x2048, .f32⟩
  | 52 => ⟨S4x1024x2048, .f32⟩
  | 53 => ⟨S4x1024x2048, .f32⟩
  | 54 => ⟨S1x1x2048, .f32⟩
  | 55 => ⟨S2048, .f32⟩
  | 56 => ⟨S1x1x2048, .f32⟩
  | 57 => ⟨S4x1024x2048, .f32⟩
  | 58 => ⟨S4x1024x2048, .f32⟩
  | 59 => ⟨S4x1024x2048, .f32⟩
  | 60 => ⟨S4x1024x2048, .f32⟩
  | 61 => ⟨S1x1x2048, .f32⟩
  | 62 => ⟨S2048, .f32⟩
  | 63 => ⟨S1x1x2048, .f32⟩
  | 64 => ⟨S4x1024x2048, .f32⟩
  | 65 => ⟨S4x1024x2048, .f32⟩
  | 66 => ⟨S4x1024x2048, .f32⟩
  | 67 => ⟨S4x1024x2048, .f32⟩
  | 68 => ⟨S1x1x2048, .f32⟩
  | 69 => ⟨S2048, .f32⟩
  | 70 => ⟨S1x1x2048, .f32⟩
  | 71 => ⟨S4x1024x2048, .f32⟩
  | 72 => ⟨S4x1024x2048, .f32⟩
  | 73 => ⟨S4x1024x2048, .f32⟩
  | 74 => ⟨S4x1024x2048, .f32⟩
  | 75 => ⟨S1x1x2048, .f32⟩
  | 76 => ⟨S2048, .f32⟩
  | 77 => ⟨S1x1x2048, .f32⟩
  | 78 => ⟨S4x1024x2048, .f32⟩
  | 79 => ⟨S4x1024x2048, .f32⟩
  | 80 => ⟨S4x1024x2048, .f32⟩
  | 81 => ⟨S4x1024x2048, .f32⟩
  | 82 => ⟨S1x1x2048, .f32⟩
  | 83 => ⟨S2048, .f32⟩
  | 84 => ⟨S1x1x2048, .f32⟩
  | 85 => ⟨S4x1024x2048, .f32⟩
  | 86 => ⟨S4x1024x2048, .f32⟩
  | 87 => ⟨S4x1024x2048, .f32⟩
  | 88 => ⟨S4x1024x2048, .f32⟩
  | 89 => ⟨S1x1x2048, .f32⟩
  | 90 => ⟨S2048, .f32⟩
  | 91 => ⟨S1x1x2048, .f32⟩
  | 92 => ⟨S4x1024x2048, .f32⟩
  | 93 => ⟨S4x1024x2048, .f32⟩
  | 94 => ⟨S4x1024x2048, .f32⟩
  | 95 => ⟨S4x1024x2048, .f32⟩
  | 96 => ⟨S1x1x2048, .f32⟩
  | 97 => ⟨S2048, .f32⟩
  | 98 => ⟨S1x1x2048, .f32⟩
  | 99 => ⟨S4x1024x2048, .f32⟩
  | 100 => ⟨S4x1024x2048, .f32⟩
  | 101 => ⟨S4x1024x2048, .f32⟩
  | 102 => ⟨S4x1024x2048, .f32⟩
  | 103 => ⟨S1x1x2048, .f32⟩
  | 104 => ⟨S2048, .f32⟩
  | 105 => ⟨S1x1x2048, .f32⟩
  | 106 => ⟨S4x1024x2048, .f32⟩
  | 107 => ⟨S4x1024x2048, .f32⟩
  | 108 => ⟨S4x1024x2048, .f32⟩
  | 109 => ⟨S4x1024x2048, .f32⟩
  | 110 => ⟨S1x1x2048, .f32⟩
  | 111 => ⟨S2048, .f32⟩
  | 112 => ⟨S1x1x2048, .f32⟩
  | 113 => ⟨S4x1024x2048, .f32⟩
  | 114 => ⟨S4x1024x2048, .f32⟩
  | 115 => ⟨S4x1024x2048, .f32⟩
  | 116 => ⟨S4x1024x2048, .f32⟩
  | 117 => ⟨S1x1x2048, .f32⟩
  | 118 => ⟨S2048, .f32⟩
  | 119 => ⟨S1x1x2048, .f32⟩
  | 120 => ⟨S4x1024x2048, .f32⟩
  | 121 => ⟨S4x1024x2048, .f32⟩
  | 122 => ⟨S4x1024x2048, .f32⟩
  | 123 => ⟨S4x1024x2048, .f32⟩
  | 124 => ⟨S1x1x2048, .f32⟩
  | 125 => ⟨S2048, .f32⟩
  | 126 => ⟨S1x1x2048, .f32⟩
  | 127 => ⟨S4x1024x2048, .f32⟩
  | _ => ⟨S8192x2048, .f32⟩

abbrev hbmTy0_3 (i : Nat) : BufTy := match i % 128 with
  | 0 => ⟨S4x1024x2048, .f32⟩
  | 1 => ⟨S4x1024x2048, .f32⟩
  | 2 => ⟨S4x1024x2048, .f32⟩
  | 3 => ⟨S1x1x2048, .f32⟩
  | 4 => ⟨S2048, .f32⟩
  | 5 => ⟨S1x1x2048, .f32⟩
  | 6 => ⟨S4x1024x2048, .f32⟩
  | 7 => ⟨S4x1024x2048, .f32⟩
  | 8 => ⟨S4x1024x2048, .f32⟩
  | 9 => ⟨S4x1024x2048, .f32⟩
  | 10 => ⟨S1x1x2048, .f32⟩
  | 11 => ⟨S2048, .f32⟩
  | 12 => ⟨S1x1x2048, .f32⟩
  | 13 => ⟨S4x1024x2048, .f32⟩
  | 14 => ⟨S4x1024x2048, .f32⟩
  | 15 => ⟨S4x1024x2048, .f32⟩
  | 16 => ⟨S4x1024x2048, .f32⟩
  | 17 => ⟨S1x1x2048, .f32⟩
  | 18 => ⟨S2048, .f32⟩
  | 19 => ⟨S1x1x2048, .f32⟩
  | 20 => ⟨S4x1024x2048, .f32⟩
  | 21 => ⟨S4x1024x2048, .f32⟩
  | 22 => ⟨S4x1024x2048, .f32⟩
  | 23 => ⟨S4x1024x2048, .f32⟩
  | 24 => ⟨S1x1x2048, .f32⟩
  | 25 => ⟨S2048, .f32⟩
  | 26 => ⟨S1x1x2048, .f32⟩
  | 27 => ⟨S4x1024x2048, .f32⟩
  | 28 => ⟨S4x1024x2048, .f32⟩
  | 29 => ⟨S4x1024x2048, .f32⟩
  | 30 => ⟨S4x1024x2048, .f32⟩
  | 31 => ⟨S1x1x2048, .f32⟩
  | 32 => ⟨S2048, .f32⟩
  | 33 => ⟨S1x1x2048, .f32⟩
  | 34 => ⟨S4x1024x2048, .f32⟩
  | 35 => ⟨S4x1024x2048, .f32⟩
  | 36 => ⟨S4x1024x2048, .f32⟩
  | 37 => ⟨S4x1024x2048, .f32⟩
  | 38 => ⟨S1x1x2048, .f32⟩
  | 39 => ⟨S2048, .f32⟩
  | 40 => ⟨S1x1x2048, .f32⟩
  | 41 => ⟨S4x1024x2048, .f32⟩
  | 42 => ⟨S4x1024x2048, .f32⟩
  | 43 => ⟨S4x1024x2048, .f32⟩
  | 44 => ⟨S4x1024x2048, .f32⟩
  | 45 => ⟨S1x1x2048, .f32⟩
  | 46 => ⟨S2048, .f32⟩
  | 47 => ⟨S1x1x2048, .f32⟩
  | 48 => ⟨S4x1024x2048, .f32⟩
  | 49 => ⟨S4x1024x2048, .f32⟩
  | 50 => ⟨S4x1024x2048, .f32⟩
  | 51 => ⟨S4x1024x2048, .f32⟩
  | 52 => ⟨S1x1x2048, .f32⟩
  | 53 => ⟨S2048, .f32⟩
  | 54 => ⟨S1x1x2048, .f32⟩
  | 55 => ⟨S4x1024x2048, .f32⟩
  | 56 => ⟨S4x1024x2048, .f32⟩
  | 57 => ⟨S4x1024x2048, .f32⟩
  | 58 => ⟨S4x1024x2048, .f32⟩
  | 59 => ⟨S1x1x2048, .f32⟩
  | 60 => ⟨S2048, .f32⟩
  | 61 => ⟨S1x1x2048, .f32⟩
  | 62 => ⟨S4x1024x2048, .f32⟩
  | 63 => ⟨S4x1024x2048, .f32⟩
  | 64 => ⟨S4x1024x2048, .f32⟩
  | 65 => ⟨S4x1024x2048, .f32⟩
  | 66 => ⟨S1x1x2048, .f32⟩
  | 67 => ⟨S2048, .f32⟩
  | 68 => ⟨S1x1x2048, .f32⟩
  | 69 => ⟨S4x1024x2048, .f32⟩
  | 70 => ⟨S4x1024x2048, .f32⟩
  | 71 => ⟨S4x1024x2048, .f32⟩
  | 72 => ⟨S4x1024x2048, .f32⟩
  | 73 => ⟨S1x1x2048, .f32⟩
  | 74 => ⟨S2048, .f32⟩
  | 75 => ⟨S1x1x2048, .f32⟩
  | 76 => ⟨S4x1024x2048, .f32⟩
  | 77 => ⟨S4x1024x2048, .f32⟩
  | 78 => ⟨S4x1024x2048, .f32⟩
  | 79 => ⟨S4x1024x2048, .f32⟩
  | 80 => ⟨S1x1x2048, .f32⟩
  | 81 => ⟨S2048, .f32⟩
  | 82 => ⟨S1x1x2048, .f32⟩
  | 83 => ⟨S4x1024x2048, .f32⟩
  | 84 => ⟨S4x1024x2048, .f32⟩
  | 85 => ⟨S4x1024x2048, .f32⟩
  | 86 => ⟨S4x1024x2048, .f32⟩
  | 87 => ⟨S1x1x2048, .f32⟩
  | 88 => ⟨S2048, .f32⟩
  | 89 => ⟨S1x1x2048, .f32⟩
  | 90 => ⟨S4x1024x2048, .f32⟩
  | 91 => ⟨S4x1024x2048, .f32⟩
  | 92 => ⟨S4x1024x2048, .f32⟩
  | 93 => ⟨S4x1024x2048, .f32⟩
  | 94 => ⟨S1x1x2048, .f32⟩
  | 95 => ⟨S2048, .f32⟩
  | 96 => ⟨S1x1x2048, .f32⟩
  | 97 => ⟨S4x1024x2048, .f32⟩
  | 98 => ⟨S4x1024x2048, .f32⟩
  | 99 => ⟨S4x1024x2048, .f32⟩
  | 100 => ⟨S4x1024x2048, .f32⟩
  | 101 => ⟨S1x1x2048, .f32⟩
  | 102 => ⟨S2048, .f32⟩
  | 103 => ⟨S1x1x2048, .f32⟩
  | 104 => ⟨S4x1024x2048, .f32⟩
  | 105 => ⟨S4x1024x2048, .f32⟩
  | 106 => ⟨S4x1024x2048, .f32⟩
  | 107 => ⟨S4x1024x2048, .f32⟩
  | 108 => ⟨S1x1x2048, .f32⟩
  | 109 => ⟨S2048, .f32⟩
  | 110 => ⟨S1x1x2048, .f32⟩
  | 111 => ⟨S4x1024x2048, .f32⟩
  | 112 => ⟨S4x1024x2048, .f32⟩
  | 113 => ⟨S4x1024x2048, .f32⟩
  | 114 => ⟨S2048, .f32⟩
  | 115 => ⟨S1x1x2048, .f32⟩
  | 116 => ⟨S4x1024x2048, .f32⟩
  | 117 => ⟨S4x1024x2048, .f32⟩
  | 118 => ⟨S_, .f32⟩
  | 119 => ⟨S4x1024, .f32⟩
  | 120 => ⟨S4x1024x1, .f32⟩
  | 121 => ⟨S_, .f32⟩
  | 122 => ⟨S4x1024x1, .f32⟩
  | 123 => ⟨S4x1024x1, .f32⟩
  | 124 => ⟨S4x1024x2048, .f32⟩
  | 125 => ⟨S4x1024x2048, .f32⟩
  | 126 => ⟨S4x1024x2048, .f32⟩
  | 127 => ⟨S_, .f32⟩
  | _ => ⟨S8192x2048, .f32⟩

abbrev hbmTy0_4 (i : Nat) : BufTy := match i % 128 with
  | 0 => ⟨S4x1024, .f32⟩
  | 1 => ⟨S4x1024x1, .f32⟩
  | 2 => ⟨S_, .f32⟩
  | 3 => ⟨S4x1024x1, .f32⟩
  | 4 => ⟨S4x1024x1, .f32⟩
  | 5 => ⟨S4x1024x2048, .f32⟩
  | 6 => ⟨S4x1024x2048, .f32⟩
  | 7 => ⟨S_, .f32⟩
  | 8 => ⟨S4x1024x1, .f32⟩
  | 9 => ⟨S4x1024x1, .f32⟩
  | 10 => ⟨S4x1024x1, .f32⟩
  | 11 => ⟨S4x1024x2048, .f32⟩
  | 12 => ⟨S4x1024x2048, .f32⟩
  | 13 => ⟨S2048, .f32⟩
  | 14 => ⟨S1x1x2048, .f32⟩
  | 15 => ⟨S4x1024x2048, .f32⟩
  | 16 => ⟨S4x1024x2048, .f32⟩
  | 17 => ⟨S2048, .f32⟩
  | 18 => ⟨S1x1x2048, .f32⟩
  | 19 => ⟨S4x1024x2048, .f32⟩
  | 20 => ⟨S4x1024x2048, .f32⟩
  | 21 => ⟨S4x1024x2048, .f32⟩
  | 22 => ⟨S4x1024x2048, .f32⟩
  | 23 => ⟨S_, .f32⟩
  | 24 => ⟨S4x1024x2048, .f32⟩
  | 25 => ⟨S4x1024x2048, .f32⟩
  | 26 => ⟨S_, .f32⟩
  | 27 => ⟨S4x1024x2048, .f32⟩
  | 28 => ⟨S4x1024x2048, .f32⟩
  | 29 => ⟨S4x1024x2048, .f32⟩
  | 30 => ⟨S4096x2048, .f32⟩
  | 31 => ⟨S8192x2048, .f32⟩
  | 32 => ⟨S8192x2048, .bf16⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_cst_0 : Ref sig .tc := ⟨.hbm, 233, rfl⟩
abbrev main_v225 : Ref sig .tc := ⟨.hbm, 234, rfl⟩
abbrev main_v226 : Ref sig .tc := ⟨.hbm, 235, rfl⟩
abbrev main_cst_1 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_cst_2 : Ref sig .tc := ⟨.hbm, 242, rfl⟩
abbrev main_v232 : Ref sig .tc := ⟨.hbm, 243, rfl⟩
abbrev main_v233 : Ref sig .tc := ⟨.hbm, 244, rfl⟩
abbrev main_cst_3 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_call1_v0 : Ref sig .tc := ⟨.hbm, 264, rfl⟩
abbrev main_call1_v1 : Ref sig .tc := ⟨.hbm, 265, rfl⟩
abbrev main_call1_cst : Ref sig .tc := ⟨.hbm, 266, rfl⟩
abbrev main_call1_v2 : Ref sig .tc := ⟨.hbm, 267, rfl⟩
abbrev main_call1_v3 : Ref sig .tc := ⟨.hbm, 268, rfl⟩
abbrev main_call1_cst_0 : Ref sig .tc := ⟨.hbm, 269, rfl⟩
abbrev main_call1_v4 : Ref sig .tc := ⟨.hbm, 270, rfl⟩
abbrev main_call1_v5 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_c_5 : Ref sig .tc := ⟨.hbm, 276, rfl⟩
abbrev main_call2_v0 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_cst_6 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_v372 : Ref sig .tc := ⟨.hbm, 396, rfl⟩
abbrev main_v373 : Ref sig .tc := ⟨.hbm, 397, rfl⟩
abbrev main_v374 : Ref sig .tc := ⟨.hbm, 398, rfl⟩
abbrev main_v375 : Ref sig .tc := ⟨.hbm, 399, rfl⟩
abbrev main_v376 : Ref sig .tc := ⟨.hbm, 400, rfl⟩
abbrev main_v377 : Ref sig .tc := ⟨.hbm, 401, rfl⟩
abbrev main_v378 : Ref sig .tc := ⟨.hbm, 402, rfl⟩
abbrev main_v379 : Ref sig .tc := ⟨.hbm, 403, rfl⟩
abbrev main_v380 : Ref sig .tc := ⟨.hbm, 404, rfl⟩
abbrev main_v381 : Ref sig .tc := ⟨.hbm, 405, rfl⟩
abbrev main_v382 : Ref sig .tc := ⟨.hbm, 406, rfl⟩
abbrev main_v383 : Ref sig .tc := ⟨.hbm, 407, rfl⟩
abbrev main_v384 : Ref sig .tc := ⟨.hbm, 408, rfl⟩
abbrev main_v385 : Ref sig .tc := ⟨.hbm, 409, rfl⟩
abbrev main_v386 : Ref sig .tc := ⟨.hbm, 410, rfl⟩
abbrev main_v387 : Ref sig .tc := ⟨.hbm, 411, rfl⟩
abbrev main_v388 : Ref sig .tc := ⟨.hbm, 412, rfl⟩
abbrev main_v389 : Ref sig .tc := ⟨.hbm, 413, rfl⟩
abbrev main_v390 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_v405 : Ref sig .tc := ⟨.hbm, 429, rfl⟩
abbrev main_v406 : Ref sig .tc := ⟨.hbm, 430, rfl⟩
abbrev main_v407 : Ref sig .tc := ⟨.hbm, 431, rfl⟩
abbrev main_v408 : Ref sig .tc := ⟨.hbm, 432, rfl⟩
abbrev main_v409 : Ref sig .tc := ⟨.hbm, 433, rfl⟩
abbrev main_v410 : Ref sig .tc := ⟨.hbm, 434, rfl⟩
abbrev main_v411 : Ref sig .tc := ⟨.hbm, 435, rfl⟩
abbrev main_v412 : Ref sig .tc := ⟨.hbm, 436, rfl⟩
abbrev main_v413 : Ref sig .tc := ⟨.hbm, 437, rfl⟩
abbrev main_v414 : Ref sig .tc := ⟨.hbm, 438, rfl⟩
abbrev main_v415 : Ref sig .tc := ⟨.hbm, 439, rfl⟩
abbrev main_v416 : Ref sig .tc := ⟨.hbm, 440, rfl⟩
abbrev main_v417 : Ref sig .tc := ⟨.hbm, 441, rfl⟩
abbrev main_v418 : Ref sig .tc := ⟨.hbm, 442, rfl⟩
abbrev main_v419 : Ref sig .tc := ⟨.hbm, 443, rfl⟩
abbrev main_v420 : Ref sig .tc := ⟨.hbm, 444, rfl⟩
abbrev main_v421 : Ref sig .tc := ⟨.hbm, 445, rfl⟩
abbrev main_v422 : Ref sig .tc := ⟨.hbm, 446, rfl⟩
abbrev main_v423 : Ref sig .tc := ⟨.hbm, 447, rfl⟩
abbrev main_v424 : Ref sig .tc := ⟨.hbm, 448, rfl⟩
abbrev main_v425 : Ref sig .tc := ⟨.hbm, 449, rfl⟩
abbrev main_v426 : Ref sig .tc := ⟨.hbm, 450, rfl⟩
abbrev main_v427 : Ref sig .tc := ⟨.hbm, 451, rfl⟩
abbrev main_v428 : Ref sig .tc := ⟨.hbm, 452, rfl⟩
abbrev main_v429 : Ref sig .tc := ⟨.hbm, 453, rfl⟩
abbrev main_v430 : Ref sig .tc := ⟨.hbm, 454, rfl⟩
abbrev main_v431 : Ref sig .tc := ⟨.hbm, 455, rfl⟩
abbrev main_v432 : Ref sig .tc := ⟨.hbm, 456, rfl⟩
abbrev main_v433 : Ref sig .tc := ⟨.hbm, 457, rfl⟩
abbrev main_v434 : Ref sig .tc := ⟨.hbm, 458, rfl⟩
abbrev main_v435 : Ref sig .tc := ⟨.hbm, 459, rfl⟩
abbrev main_v436 : Ref sig .tc := ⟨.hbm, 460, rfl⟩
abbrev main_v437 : Ref sig .tc := ⟨.hbm, 461, rfl⟩
abbrev main_v438 : Ref sig .tc := ⟨.hbm, 462, rfl⟩
abbrev main_v439 : Ref sig .tc := ⟨.hbm, 463, rfl⟩
abbrev main_v440 : Ref sig .tc := ⟨.hbm, 464, rfl⟩
abbrev main_v441 : Ref sig .tc := ⟨.hbm, 465, rfl⟩
abbrev main_v442 : Ref sig .tc := ⟨.hbm, 466, rfl⟩
abbrev main_v443 : Ref sig .tc := ⟨.hbm, 467, rfl⟩
abbrev main_v444 : Ref sig .tc := ⟨.hbm, 468, rfl⟩
abbrev main_v445 : Ref sig .tc := ⟨.hbm, 469, rfl⟩
abbrev main_v446 : Ref sig .tc := ⟨.hbm, 470, rfl⟩
abbrev main_v447 : Ref sig .tc := ⟨.hbm, 471, rfl⟩
abbrev main_v448 : Ref sig .tc := ⟨.hbm, 472, rfl⟩
abbrev main_v449 : Ref sig .tc := ⟨.hbm, 473, rfl⟩
abbrev main_v450 : Ref sig .tc := ⟨.hbm, 474, rfl⟩
abbrev main_v451 : Ref sig .tc := ⟨.hbm, 475, rfl⟩
abbrev main_v452 : Ref sig .tc := ⟨.hbm, 476, rfl⟩
abbrev main_v453 : Ref sig .tc := ⟨.hbm, 477, rfl⟩
abbrev main_v454 : Ref sig .tc := ⟨.hbm, 478, rfl⟩
abbrev main_v455 : Ref sig .tc := ⟨.hbm, 479, rfl⟩
abbrev main_v456 : Ref sig .tc := ⟨.hbm, 480, rfl⟩
abbrev main_v457 : Ref sig .tc := ⟨.hbm, 481, rfl⟩
abbrev main_v458 : Ref sig .tc := ⟨.hbm, 482, rfl⟩
abbrev main_v459 : Ref sig .tc := ⟨.hbm, 483, rfl⟩
abbrev main_v460 : Ref sig .tc := ⟨.hbm, 484, rfl⟩
abbrev main_v461 : Ref sig .tc := ⟨.hbm, 485, rfl⟩
abbrev main_v462 : Ref sig .tc := ⟨.hbm, 486, rfl⟩
abbrev main_v463 : Ref sig .tc := ⟨.hbm, 487, rfl⟩
abbrev main_v464 : Ref sig .tc := ⟨.hbm, 488, rfl⟩
abbrev main_v465 : Ref sig .tc := ⟨.hbm, 489, rfl⟩
abbrev main_v466 : Ref sig .tc := ⟨.hbm, 490, rfl⟩
abbrev main_v467 : Ref sig .tc := ⟨.hbm, 491, rfl⟩
abbrev main_v468 : Ref sig .tc := ⟨.hbm, 492, rfl⟩
abbrev main_v469 : Ref sig .tc := ⟨.hbm, 493, rfl⟩
abbrev main_v470 : Ref sig .tc := ⟨.hbm, 494, rfl⟩
abbrev main_v471 : Ref sig .tc := ⟨.hbm, 495, rfl⟩
abbrev main_v472 : Ref sig .tc := ⟨.hbm, 496, rfl⟩
abbrev main_v473 : Ref sig .tc := ⟨.hbm, 497, rfl⟩
abbrev main_v474 : Ref sig .tc := ⟨.hbm, 498, rfl⟩
abbrev main_v475 : Ref sig .tc := ⟨.hbm, 499, rfl⟩
abbrev main_v476 : Ref sig .tc := ⟨.hbm, 500, rfl⟩
abbrev main_v477 : Ref sig .tc := ⟨.hbm, 501, rfl⟩
abbrev main_cst_7 : Ref sig .tc := ⟨.hbm, 502, rfl⟩
abbrev main_v478 : Ref sig .tc := ⟨.hbm, 503, rfl⟩
abbrev main_v479 : Ref sig .tc := ⟨.hbm, 504, rfl⟩
abbrev main_cst_8 : Ref sig .tc := ⟨.hbm, 505, rfl⟩
abbrev main_v480 : Ref sig .tc := ⟨.hbm, 506, rfl⟩
abbrev main_v481 : Ref sig .tc := ⟨.hbm, 507, rfl⟩
abbrev main_v482 : Ref sig .tc := ⟨.hbm, 508, rfl⟩
abbrev main_v483 : Ref sig .tc := ⟨.hbm, 509, rfl⟩
abbrev main_v484 : Ref sig .tc := ⟨.hbm, 510, rfl⟩
abbrev main_cst_9 : Ref sig .tc := ⟨.hbm, 511, rfl⟩
abbrev main_v485 : Ref sig .tc := ⟨.hbm, 512, rfl⟩
abbrev main_v486 : Ref sig .tc := ⟨.hbm, 513, rfl⟩
abbrev main_cst_10 : Ref sig .tc := ⟨.hbm, 514, rfl⟩
abbrev main_v487 : Ref sig .tc := ⟨.hbm, 515, rfl⟩
abbrev main_v488 : Ref sig .tc := ⟨.hbm, 516, rfl⟩
abbrev main_v489 : Ref sig .tc := ⟨.hbm, 517, rfl⟩
abbrev main_v490 : Ref sig .tc := ⟨.hbm, 518, rfl⟩
abbrev main_cst_11 : Ref sig .tc := ⟨.hbm, 519, rfl⟩
abbrev main_v491 : Ref sig .tc := ⟨.hbm, 520, rfl⟩
abbrev main_v492 : Ref sig .tc := ⟨.hbm, 521, rfl⟩
abbrev main_v493 : Ref sig .tc := ⟨.hbm, 522, rfl⟩
abbrev main_v494 : Ref sig .tc := ⟨.hbm, 523, rfl⟩
abbrev main_v495 : Ref sig .tc := ⟨.hbm, 524, rfl⟩
abbrev main_v496 : Ref sig .tc := ⟨.hbm, 525, rfl⟩
abbrev main_v497 : Ref sig .tc := ⟨.hbm, 526, rfl⟩
abbrev main_v498 : Ref sig .tc := ⟨.hbm, 527, rfl⟩
abbrev main_v499 : Ref sig .tc := ⟨.hbm, 528, rfl⟩
abbrev main_v500 : Ref sig .tc := ⟨.hbm, 529, rfl⟩
abbrev main_v501 : Ref sig .tc := ⟨.hbm, 530, rfl⟩
abbrev main_v502 : Ref sig .tc := ⟨.hbm, 531, rfl⟩
abbrev main_v503 : Ref sig .tc := ⟨.hbm, 532, rfl⟩
abbrev main_call3_v0 : Ref sig .tc := ⟨.hbm, 533, rfl⟩
abbrev main_call3_v1 : Ref sig .tc := ⟨.hbm, 534, rfl⟩
abbrev main_call3_cst : Ref sig .tc := ⟨.hbm, 535, rfl⟩
abbrev main_call3_v2 : Ref sig .tc := ⟨.hbm, 536, rfl⟩
abbrev main_call3_v3 : Ref sig .tc := ⟨.hbm, 537, rfl⟩
abbrev main_call3_cst_0 : Ref sig .tc := ⟨.hbm, 538, rfl⟩
abbrev main_call3_v4 : Ref sig .tc := ⟨.hbm, 539, rfl⟩
abbrev main_call3_v5 : Ref sig .tc := ⟨.hbm, 540, rfl⟩
abbrev main_v504 : Ref sig .tc := ⟨.hbm, 541, rfl⟩
abbrev main_v505 : Ref sig .tc := ⟨.hbm, 542, rfl⟩
abbrev main_v506 : Ref sig .tc := ⟨.hbm, 543, rfl⟩
abbrev main_v507 : Ref sig .tc := ⟨.hbm, 544, rfl⟩

abbrev nD : Nat := 1
abbrev τ : Topo := Topo.v7x

variable {F : FTy → Type} [FloatOps F]
-- ==== Proof.Words.lean ====
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret

open Cert.KernelIdeal Cert.KernelIdeal.Gen

/-! ## The rectangles of the scratch and of the blocks of states -/

/-- The half of the scratch's head `h` that starts at row `r`: a store's rectangle. -/
abbrev half (h r : ℕ) (ih : ∀ a, (![h, 0, 0] : Fin 3 → ℕ) a + S1x256x256.size a ≤ S4x256x256.size a)
    (ir : ∀ a, (![r, 0] : Fin 2 → ℕ) a + S128x256.size a ≤ S256x256.size a)
    (h0 : (![1, 256, 256] : Fin 3 → ℕ) 0 = 1) (hs : ∀ i : Fin 2, (![1, 256, 256] : Fin 3 → ℕ) i.succ = S256x256.size i)
    (hu : ∀ a, (Rect.unit (s := S4x256x256) ![h, 0, 0] S1x256x256.size ih).stride a = 1) : Rect S4x256x256 :=
  (Rect.unit (s := S4x256x256) ![h, 0, 0] S1x256x256.size ih).within
    ((Rect.unit (s := S256x256) ![r, 0] S128x256.size ir).consLift ![1, 256, 256] h0 hs) hu

section
variable {Val : EltTy → Type} [∀ e, Nonempty (Val e)] {e : EltTy}

/-- An entry of another head, or of another half of the rows, is outside the half. -/
theorem half_miss (h r : ℕ) (ih) (ir) (h0) (hs) (hu) (w) (L : List (View.Piece Val S4x256x256 e)) (y : S4x256x256.Idx)
    (hy : (y 0).val ≠ h ∨ (y 1).val < r ∨ r + 128 ≤ (y 1).val) :
    View.canon (⟨half h r ih ir h0 hs hu, w⟩ :: L) y = View.canon L y := by
  refine View.canon_cons_of_not_mem _ _ ?_
  rcases hy with hy | hy
  · exact Rect.not_mem_set_of_axis (half h r ih ir h0 hs hu) y (0 : Fin 3) h 1 rfl rfl rfl (by omega)
  · exact Rect.not_mem_set_of_axis (half h r ih ir h0 hs hu) y (1 : Fin 3) r 128 (Nat.zero_add _) rfl rfl hy

/-- An entry of the half reads the half's own store. -/
theorem half_hit (h r : ℕ) (ih) (ir : ∀ a, (![r, 0] : Fin 2 → ℕ) a + S128x256.size a ≤ S256x256.size a) (h0) (hs) (hu) (hR)
    (w : S128x256.Idx → Val e) (L : List (View.Piece Val S4x256x256 e))
    (i : Fin 128) (d : Fin 256) (y : S4x256x256.Idx) (y0 : (y 0).val = h) (y1 : (y 1).val = r + i.val) (y2 : (y 2).val = d.val) :
    View.canon (⟨half h r ih ir h0 hs hu, Rect.payAlong (r := Rect.unit (s := S256x256) ![r, 0] S128x256.size ir) hR w⟩ :: L) y
      = w (ix2 i d) := by
  have e1 : (half h r ih ir h0 hs hu).emb (ix3 (0 : Fin 1) i d : (⟨3, ![1, 128, 256]⟩ : Shape).Idx) = y := by
    refine Rect.emb_eq_of_coords _ _ _ fun a => ?_
    fin_cases a
    · exact y0.trans rfl
    · refine y1.trans ?_
      show r + i.val = 0 + r + 1 * i.val; omega
    · refine y2.trans ?_
      show d.val = 0 + 0 + 1 * d.val; omega
  refine (congrArg (View.canon _) e1.symm).trans ((View.canon_cons_emb (half h r ih ir h0 hs hu)
    (Rect.payAlong (r := Rect.unit (s := S256x256) ![r, 0] S128x256.size ir) hR w) L _).trans ?_)
  exact Rect.payAlong_consLift (Rect.unit (s := S256x256) ![r, 0] S128x256.size ir) ![1, 256, 256] h0 hs w hR (ix3 (0 : Fin 1) i d : (⟨3, ![1, 128, 256]⟩ : Shape).Idx) (ix2 i d)
    fun a => by fin_cases a <;> rfl

/-- A load of a half of the scratch, squeezed to two axes, reads at each entry what the scratch holds there. -/
theorem half_load {sig : RefSig} {κ : Kind} {sp : Space} (v : View sig κ sp S4x256x256 e) (h r : ℕ) (ih)
    (ir : ∀ a, (![r, 0] : Fin 2 → ℕ) a + S128x256.size a ≤ S256x256.size a) (h0) (hs) (hu) (hR)
    (L : List (View.Piece Val S4x256x256 e)) (w : S128x256.Idx → Val e)
    (H : ∀ (i : Fin 128) (d : Fin 256) (y : S4x256x256.Idx), (y 0).val = h → (y 1).val = r + i.val → (y 2).val = d.val →
      View.canon L y = w (ix2 i d)) :
    (LoadRect.valAlong (lr := (Rect.unit (s := S256x256) ![r, 0] S128x256.size ir).toLoadRect) hR
      (v.readCov L ((Rect.unit (s := S4x256x256) ![h, 0, 0] S1x256x256.size ih).withinL
        ((Rect.unit (s := S256x256) ![r, 0] S128x256.size ir).consLift ![1, 256, 256] h0 hs).toLoadRect hu))
      : S128x256.Idx → Val e) = w := by
  funext x
  obtain ⟨i, d, rfl⟩ : ∃ (a : Fin 128) (b : Fin 256), x = ix2 a b := ⟨x 0, x 1, eq_ix2 x⟩
  rw [View.readCov_eq_canon']
  have key := fun a => (Rect.unit (s := S256x256) ![r, 0] S128x256.size ir).reshapeEquiv_consLift_succ ![1, 256, 256] h0 hs
    (Shape.reshapeEquiv hR (ix2 i d)) a
  have back : ∀ p, Shape.reshapeEquiv p (Shape.reshapeEquiv hR (ix2 i d)) = (ix2 i d : S128x256.Idx) := fun p =>
    (Shape.reshapeEquiv hR).symm_apply_apply (ix2 i d)
  have z0 : ((Shape.reshapeEquiv hR (ix2 i d)) (0 : Fin 3)).val = 0 := Nat.lt_one_iff.mp ((Shape.reshapeEquiv hR (ix2 i d)) (0 : Fin 3)).isLt
  have z1 := (key (0 : Fin 2)).trans (congrArg (fun q : S128x256.Idx => (q 0).val) (back _))
  have z2 := (key (1 : Fin 2)).trans (congrArg (fun q : S128x256.Idx => (q 1).val) (back _))
  refine H i d _ ?_ ?_ ?_
  · show h + 0 + 1 * ((Shape.reshapeEquiv hR (ix2 i d)) (0 : Fin 3)).val = h
    rw [z0]; rfl
  · show 0 + r + 1 * ((Shape.reshapeEquiv hR (ix2 i d)) (1 : Fin 3)).val = r + i.val
    have : ((Shape.reshapeEquiv hR (ix2 i d)) (1 : Fin 3)).val = i.val := z1
    rw [this]; omega
  · show 0 + 0 + 1 * ((Shape.reshapeEquiv hR (ix2 i d)) (2 : Fin 3)).val = d.val
    have : ((Shape.reshapeEquiv hR (ix2 i d)) (2 : Fin 3)).val = d.val := z2
    rw [this]; omega

/-- A load of a whole head of the scratch reads at each entry what the scratch holds there. -/
theorem head_load {sig : RefSig} {κ : Kind} {sp : Space} (v : View sig κ sp S4x256x256 e) (h : ℕ) (ih)
    (L : List (View.Piece Val S4x256x256 e)) (y : S4x256x256.Idx) (n d : Fin 256)
    (y0 : (y 0).val = h) (y1 : (y 1).val = n.val) (y2 : (y 2).val = d.val) :
    (v.readCov L (Rect.unit (s := S4x256x256) ![h, 0, 0] S1x256x256.size ih).toLoadRect : S1x256x256.Idx → Val e) (ix3 (0 : Fin 1) n d)
      = View.canon L y := by
  rw [View.readCov_eq_canon']
  refine congrArg (View.canon L) (funext fun a => Fin.ext ?_)
  fin_cases a
  · exact (show h + 1 * 0 = h by omega).trans y0.symm
  · exact (show 0 + 1 * n.val = n.val by omega).trans y1.symm
  · exact (show 0 + 1 * d.val = d.val by omega).trans y2.symm

/-- An entry of another head is outside a head's block of the states. -/
theorem state_miss (h : ℕ) (ih) (w) (L : List (View.Piece Val S1x1x4x256x256 e)) (y : S1x1x4x256x256.Idx) (hy : (y 2).val ≠ h) :
    View.canon (⟨Rect.unit (s := S1x1x4x256x256) ![0, 0, h, 0, 0] S1x1x1x256x256.size ih, w⟩ :: L) y = View.canon L y :=
  View.canon_cons_of_not_mem _ _ (Rect.not_mem_set_of_axis (Rect.unit (s := S1x1x4x256x256) ![0, 0, h, 0, 0] S1x1x1x256x256.size ih) y
    (2 : Fin 5) h 1 rfl rfl rfl (by omega))

/-- An entry of a head's block of the states reads the block's own store. -/
theorem state_hit (h : ℕ) (ih) (w : S1x1x1x256x256.Idx → Val e) (L : List (View.Piece Val S1x1x4x256x256 e))
    (y : S1x1x4x256x256.Idx) (d k : Fin 256) (y2 : (y 2).val = h) (y3 : (y 3).val = d.val) (y4 : (y 4).val = k.val) :
    View.canon (⟨Rect.unit (s := S1x1x4x256x256) ![0, 0, h, 0, 0] S1x1x1x256x256.size ih, w⟩ :: L) y
      = w (ix5 (0 : Fin 1) (0 : Fin 1) (0 : Fin 1) d k) := by
  have e1 : (Rect.unit (s := S1x1x4x256x256) ![0, 0, h, 0, 0] S1x1x1x256x256.size ih).emb
      (ix5 (0 : Fin 1) (0 : Fin 1) (0 : Fin 1) d k : S1x1x1x256x256.Idx) = y := by
    refine Rect.emb_eq_of_coords _ _ _ fun a => ?_
    have b0 : (y 0).val < 1 := (y 0).isLt
    have b1 : (y 1).val < 1 := (y 1).isLt
    fin_cases a
    · show (y 0).val = 0 + 1 * 0; omega
    · show (y 1).val = 0 + 1 * 0; omega
    · exact y2.trans rfl
    · exact y3.trans (show d.val = 0 + 1 * d.val by omega)
    · exact y4.trans (show k.val = 0 + 1 * k.val by omega)
  rw [← e1, View.canon_cons_emb]
end

/-! ## What one head of a block computes -/

/-- The forward state after a chunk with keys `K` and values `V`, from the state `s`. -/
def stF (lf : Elt Ideal .f32) (K V : Vec Ideal S128x256 .bf16) (s : Vec Ideal S1x1x1x256x256 .f32) : FVec Ideal S1x1x1x256x256 .f32 :=
  k0_pay15 (k0_pay5 lf) (k0_pay9 lf) K V s

/-- The backward state after a chunk with keys `K` and values `V`, from the state `s`. -/
def stB (lb : Elt Ideal .f32) (K V : Vec Ideal S128x256 .bf16) (s : Vec Ideal S1x1x1x256x256 .f32) : FVec Ideal S1x1x1x256x256 .f32 :=
  k0_pay21 (k0_pay10 lb) V (k0_pay20 (k0_pay8 lb k0_pay3) K) s

/-- A chunk's own part of the output, both directions, and the part of the forward state `s`. -/
def oF (lf lb : Elt Ideal .f32) (Q K V : Vec Ideal S128x256 .bf16) (s : Vec Ideal S1x1x1x256x256 .f32) : FVec Ideal S128x256 .f32 :=
  k0_pay16 (k0_pay2 lf lb) (k0_pay4 lf) Q K V s

/-- The output `o` of a chunk with the part of the backward state `s` added. -/
def oB (lb : Elt Ideal .f32) (Q : Vec Ideal S128x256 .bf16) (o : Vec Ideal S128x256 .f32) (s : Vec Ideal S1x1x1x256x256 .f32) :
    FVec Ideal S128x256 .f32 :=
  k0_pay19 (k0_pay7 lb k0_pay3 k0_pay6) Q o s

/-- The output of a head for its 256 rows: the normalised sum of both directions, with its weight and its gate. -/
def fin (o : Vec Ideal S1x256x256 .f32) (G : Vec Ideal S256x256 .bf16) (W : Vec Ideal S1x256 .f32) : FVec Ideal S256x256 .bf16 :=
  k0_pay28 (k0_pay26 o) (k0_pay27 o) kernelRun0_A.sl.cst_179 G W

/-- A chunk of a head of a block of queries, keys or values: the load of 128 rows and 256 columns. -/
abbrev rd {sig : RefSig} (a : Memref sig .tc .vmem S256x1024 .bf16) (ha : a.IsWhole) (x : Vec Ideal S256x1024 .bf16) (col row : ℕ)
    (ic : ∀ b, (![0, col] : Fin 2 → ℕ) b + S256x256.size b ≤ S256x1024.size b)
    (ir : ∀ b, (![row, 0] : Fin 2 → ℕ) b + S128x256.size b ≤ S256x256.size b) : Vec Ideal S128x256 .bf16 :=
  View.readAt (Elt Ideal) a.view ((Rect.unit (s := S256x1024) ![0, col] S256x256.size ic).withinL
    (Rect.unit (s := S256x256) ![row, 0] S128x256.size ir).toLoadRect (fun _ => rfl)) (ha.unread x)

/-- A chunk's entry is the block's. -/
theorem rd_at {sig : RefSig} (a : Memref sig .tc .vmem S256x1024 .bf16) (ha : a.IsWhole) (x : Vec Ideal S256x1024 .bf16) (col row : ℕ) (ic) (ir)
    (i : Fin 128) (d : Fin 256) (n : Fin 256) (k : Fin 1024) (hn : n.val = row + i.val) (hk : k.val = col + d.val) :
    rd a ha x col row ic ir (ix2 i d) = x (ix2 n k) := by
  show View.readAt _ _ _ _ _ = _
  refine (congrFun (ha.read_unread x) _).trans (congrArg x (funext fun b => Fin.ext ?_))
  fin_cases b
  · exact (show 0 + row + 1 * i.val = row + i.val by omega).trans hn.symm
  · exact (show col + 0 + 1 * d.val = col + d.val by omega).trans hk.symm

/-! ## Head 0 -/

section Head0
variable (c : Dev nD) (i : grid0.Coords) (arg2 : Memref sig .tc .smem S2x8 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg9 arg10 : Memref sig .tc .vmem S1x1x4x256x256 .f32)
  (arg11 : Memref sig .tc .vmem S4x256x256 .f32) (x0 : Vec Ideal S2x8 .f32) (x1 x2 x3 : Vec Ideal S256x1024 .bf16)

/-- Head 0: the forward state starts at zero. -/
theorem zf0 : kernelRun0_A.sl.v77 (F := Ideal) c arg9 = k0_pay11 (F := Ideal) := View.readCov_cons_toLoadRect _ _ _ _
/-- Head 0: the backward state starts at zero. -/
theorem zb0 : kernelRun0_A.sl.v148 (F := Ideal) c arg10 = k0_pay11 (F := Ideal) := View.readCov_cons_toLoadRect _ _ _ _
/-- Head 0: the forward state after the first chunk. -/
theorem sf0 : kernelRun0_A.sl.v113 (F := Ideal) c i arg2 harg2 arg4 harg4 arg5 harg5 arg9 x0 x2 x3 = stF (kernelRun0_A.sl.r (F := Ideal) c i arg2 harg2 x0) (rd arg4 harg4 x2 0 0 inb_S256x1024_S256x256_0_0 inb_S256x256_S128x256_0_0) (rd arg5 harg5 x3 0 0 inb_S256x1024_S256x256_0_0 inb_S256x256_S128x256_0_0) (k0_pay11 (F := Ideal)) :=
  (View.readCov_cons_toLoadRect _ _ _ _).trans (congrArg (stF (kernelRun0_A.sl.r (F := Ideal) c i arg2 harg2 x0) (rd arg4 harg4 x2 0 0 inb_S256x1024_S256x256_0_0 inb_S256x256_S128x256_0_0) (rd arg5 harg5 x3 0 0 inb_S256x1024_S256x256_0_0 inb_S256x256_S128x256_0_0)) (zf0 c arg9))
/-- Head 0: the backward state after the second chunk. -/
theorem sb0 : kernelRun0_A.sl.v183 (F := Ideal) c i arg2 harg2 arg4 harg4 arg5 harg5 arg10 x0 x2 x3 = stB (kernelRun0_A.sl.r_1 (F := Ideal) c i arg2 harg2 x0) (rd arg4 harg4 x2 0 128 inb_S256x1024_S256x256_0_0 inb_S256x256_S128x256_128_0) (rd arg5 harg5 x3 0 128 inb_S256x1024_S256x256_0_0 inb_S256x256_S128x256_128_0) (k0_pay11 (F := Ideal)) :=
  (View.readCov_cons_toLoadRect _ _ _ _).trans (congrArg (stB (kernelRun0_A.sl.r_1 (F := Ideal) c i arg2 harg2 x0) (rd arg4 harg4 x2 0 128 inb_S256x1024_S256x256_0_0 inb_S256x256_S128x256_128_0) (rd arg5 harg5 x3 0 128 inb_S256x1024_S256x256_0_0 inb_S256x256_S128x256_128_0)) (zb0 c arg10))
/-- Head 0: the second chunk's output before the backward pass. -/
theorem oh0 : (LoadRect.valAlong (lr := (Rect.unit (s := S256x256) ![128, 0] S128x256.size inb_S256x256_S128x256_128_0).toLoadRect) (by decide) (kernelRun0_A.sl.v147 (F := Ideal) c i arg2 harg2 arg3 harg3 arg4 harg4 arg5 harg5 arg9 arg11 x0 x1 x2 x3) : S128x256.Idx → Elt Ideal .f32)
    = (oF (kernelRun0_A.sl.r (F := Ideal) c i arg2 harg2 x0) (kernelRun0_A.sl.r_1 (F := Ideal) c i arg2 harg2 x0) (rd arg3 harg3 x1 0 128 inb_S256x1024_S256x256_0_0 inb_S256x256_S128x256_128_0) (rd arg4 harg4 x2 0 128 inb_S256x1024_S256x256_0_0 inb_S256x256_S128x256_128_0) (rd arg5 harg5 x3 0 128 inb_S256x1024_S256x256_0_0 inb_S256x256_S128x256_128_0) (stF (kernelRun0_A.sl.r (F := Ideal) c i arg2 harg2 x0) (rd arg4 harg4 x2 0 0 inb_S256x1024_S256x256_0_0 inb_S256x256_S128x256_0_0) (rd arg5 harg5 x3 0 0 inb_S256x1024_S256x256_0_0 inb_S256x256_S128x256_0_0) (k0_pay11 (F := Ideal)))) := by
  unfold kernelRun0_A.sl.v147
  refine half_load _ 0 128 _ _ rfl (by decide) _ _ _ _ fun a d y y0 y1 y2 => ?_
  refine (half_hit 0 128 _ _ _ _ _ _ _ _ a d y y0 y1 y2).trans ?_
  exact congrFun (congrArg (oF (kernelRun0_A.sl.r (F := Ideal) c i arg2 harg2 x0) (kernelRun0_A.sl.r_1 (F := Ideal) c i arg2 harg2 x0) (rd arg3 harg3 x1 0 128 inb_S256x1024_S256x256_0_0 inb_S256x256_S128x256_128_0) (rd arg4 harg4 x2 0 128 inb_S256x1024_S256x256_0_0 inb_S256x256_S128x256_128_0) (rd arg5 harg5 x3 0 128 inb_S256x1024_S256x256_0_0 inb_S256x256_S128x256_128_0)) (sf0 c i arg2 harg2 arg4 harg4 arg5 harg5 arg9 x0 x2 x3)) (ix2 a d)
/-- Head 0: the first chunk's output before the backward pass. -/
theorem ol0 : (LoadRect.valAlong (lr := (Rect.unit (s := S256x256) ![0, 0] S128x256.size inb_S256x256_S128x256_0_0).toLoadRect) (by decide) (kernelRun0_A.sl.v182 (F := Ideal) c i arg2 harg2 arg3 harg3 arg4 harg4 arg5 harg5 arg9 arg10 arg11 x0 x1 x2 x3) : S128x256.Idx → Elt Ideal .f32)
    = (oF (kernelRun0_A.sl.r (F := Ideal) c i arg2 harg2 x0) (kernelRun0_A.sl.r_1 (F := Ideal) c i arg2 harg2 x0) (rd arg3 harg3 x1 0 0 inb_S256x1024_S256x256_0_0 inb_S256x256_S128x256_0_0) (rd arg4 harg4 x2 0 0 inb_S256x1024_S256x256_0_0 inb_S256x256_S128x256_0_0) (rd arg5 harg5 x3 0 0 inb_S256x1024_S256x256_0_0 inb_S256x256_S128x256_0_0) (k0_pay11 (F := Ideal))) := by
  unfold kernelRun0_A.sl.v182
  refine half_load _ 0 0 _ _ rfl (by decide) _ _ _ _ fun a d y y0 y1 y2 => ?_
  refine (half_miss 0 128 _ _ _ _ _ _ _ y (Or.inr (Or.inl (by omega)))).trans ?_
  refine (half_miss 0 128 _ _ _ _ _ _ _ y (Or.inr (Or.inl (by omega)))).trans ?_
  refine (half_hit 0 0 _ _ _ _ _ _ _ _ a d y y0 y1 y2).trans ?_
  exact congrFun (congrArg (oF (kernelRun0_A.sl.r (F := Ideal) c i arg2 harg2 x0) (kernelRun0_A.sl.r_1 (F := Ideal) c i arg2 harg2 x0) (rd arg3 harg3 x1 0 0 inb_S256x1024_S256x256_0_0 inb_S256x256_S128x256_0_0) (rd arg4 harg4 x2 0 0 inb_S256x1024_S256x256_0_0 inb_S256x256_S128x256_0_0) (rd arg5 harg5 x3 0 0 inb_S256x1024_S256x256_0_0 inb_S256x256_S128x256_0_0)) (zf0 c arg9)) (ix2 a d)
/-- Head 0: the first chunk's output, both directions. -/
theorem lo0 (a : Fin 128) (d n : Fin 256) (hn : n.val = a.val) : kernelRun0_A.sl.v209 (F := Ideal) c i arg2 harg2 arg3 harg3 arg4 harg4 arg5 harg5 arg9 arg10 arg11 x0 x1 x2 x3 (ix3 (0 : Fin 1) n d)
    = oB (kernelRun0_A.sl.r_1 (F := Ideal) c i arg2 harg2 x0) (rd arg3 harg3 x1 0 0 inb_S256x1024_S256x256_0_0 inb_S256x256_S128x256_0_0) (oF (kernelRun0_A.sl.r (F := Ideal) c i arg2 harg2 x0) (kernelRun0_A.sl.r_1 (F := Ideal) c i arg2 harg2 x0) (rd arg3 harg3 x1 0 0 inb_S256x1024_S256x256_0_0 inb_S256x256_S128x256_0_0) (rd arg4 harg4 x2 0 0 inb_S256x1024_S256x256_0_0 inb_S256x256_S128x256_0_0) (rd arg5 harg5 x3 0 0 inb_S256x1024_S256x256_0_0 inb_S256x256_S128x256_0_0) (k0_pay11 (F := Ideal))) (stB (kernelRun0_A.sl.r_1 (F := Ideal) c i arg2 harg2 x0) (rd arg4 harg4 x2 0 128 inb_S256x1024_S256x256_0_0 inb_S256x256_S128x256_128_0) (rd arg5 harg5 x3 0 128 inb_S256x1024_S256x256_0_0 inb_S256x256_S128x256_128_0) (k0_pay11 (F := Ideal))) (ix2 a d) := by
  refine (head_load _ 0 _ _ (ix3 (0 : Fin 4) n d) n d rfl rfl rfl).trans ?_
  refine (half_hit 0 0 _ _ _ _ _ _ _ _ a d _ rfl (hn.trans (Nat.zero_add _).symm) rfl).trans ?_
  exact congrFun (congrArg₂ (oB (kernelRun0_A.sl.r_1 (F := Ideal) c i arg2 harg2 x0) (rd arg3 harg3 x1 0 0 inb_S256x1024_S256x256_0_0 inb_S256x256_S128x256_0_0)) (ol0 c i arg2 harg2 arg3 harg3 arg4 harg4 arg5 harg5 arg9 arg10 arg11 x0 x1 x2 x3) (sb0 c i arg2 harg2 arg4 harg4 arg5 harg5 arg10 x0 x2 x3)) (ix2 a d)
/-- Head 0: the second chunk's output, both directions. -/
theorem hi0 (a : Fin 128) (d n : Fin 256) (hn : n.val = 128 + a.val) : kernelRun0_A.sl.v209 (F := Ideal) c i arg2 harg2 arg3 harg3 arg4 harg4 arg5 harg5 arg9 arg10 arg11 x0 x1 x2 x3 (ix3 (0 : Fin 1) n d)
    = oB (kernelRun0_A.sl.r_1 (F := Ideal) c i arg2 harg2 x0) (rd arg3 harg3 x1 0 128 inb_S256x1024_S256x256_0_0 inb_S256x256_S128x256_128_0) (oF (kernelRun0_A.sl.r (F := Ideal) c i arg2 harg2 x0) (kernelRun0_A.sl.r_1 (F := Ideal) c i arg2 harg2 x0) (rd arg3 harg3 x1 0 128 inb_S256x1024_S256x256_0_0 inb_S256x256_S128x256_128_0) (rd arg4 harg4 x2 0 128 inb_S256x1024_S256x256_0_0 inb_S256x256_S128x256_128_0) (rd arg5 harg5 x3 0 128 inb_S256x1024_S256x256_0_0 inb_S256x256_S128x256_128_0) (stF (kernelRun0_A.sl.r (F := Ideal) c i arg2 harg2 x0) (rd arg4 harg4 x2 0 0 inb_S256x1024_S256x256_0_0 inb_S256x256_S128x256_0_0) (rd arg5 harg5 x3 0 0 inb_S256x1024_S256x256_0_0 inb_S256x256_S128x256_0_0) (k0_pay11 (F := Ideal)))) (k0_pay11 (F := Ideal)) (ix2 a d) := by
  refine (head_load _ 0 _ _ (ix3 (0 : Fin 4) n d) n d rfl rfl rfl).trans ?_
  refine (half_miss 0 0 _ _ _ _ _ _ _ _ (Or.inr (Or.inr (show 0 + 128 ≤ n.val by omega)))).trans ?_
  refine (half_hit 0 128 _ _ _ _ _ _ _ _ a d _ rfl hn rfl).trans ?_
  exact congrFun (congrArg₂ (oB (kernelRun0_A.sl.r_1 (F := Ideal) c i arg2 harg2 x0) (rd arg3 harg3 x1 0 128 inb_S256x1024_S256x256_0_0 inb_S256x256_S128x256_128_0)) (oh0 c i arg2 harg2 arg3 harg3 arg4 harg4 arg5 harg5 arg9 arg11 x0 x1 x2 x3) (zb0 c arg10)) (ix2 a d)
end Head0

/-! ## Head 1 -/

section Head1
variable (c : Dev nD) (i : grid0.Coords) (arg2 : Memref sig .tc .smem S2x8 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg9 arg10 : Memref sig .tc .vmem S1x1x4x256x256 .f32)
  (arg11 : Memref sig .tc .vmem S4x256x256 .f32) (x0 : Vec Ideal S2x8 .f32) (x1 x2 x3 : Vec Ideal S256x1024 .bf16)

/-- Head 1: the forward state starts at zero. -/
theorem zf1 : kernelRun0_A.sl.v313 (F := Ideal) c i arg2 harg2 arg4 harg4 arg5 harg5 arg9 x0 x2 x3 = k0_pay11 (F := Ideal) := View.readCov_cons_toLoadRect _ _ _ _
/-- Head 1: the backward state starts at zero. -/
theorem zb1 : kernelRun0_A.sl.v384 (F := Ideal) c i arg2 harg2 arg4 harg4 arg5 harg5 arg10 x0 x2 x3 = k0_pay11 (F := Ideal) := View.readCov_cons_toLoadRect _ _ _ _
/-- Head 1: the forward state after the first chunk. -/
theorem sf1 : kernelRun0_A.sl.v349 (F := Ideal) c i arg2 harg2 arg4 harg4 arg5 harg5 arg9 x0 x2 x3 = stF (kernelRun0_A.sl.r_22 (F := Ideal) c i arg2 harg2 x0) (rd arg4 harg4 x2 256 0 inb_S256x1024_S256x256_0_256 inb_S256x256_S128x256_0_0) (rd arg5 harg5 x3 256 0 inb_S256x1024_S256x256_0_256 inb_S256x256_S128x256_0_0) (k0_pay11 (F := Ideal)) :=
  (View.readCov_cons_toLoadRect _ _ _ _).trans (congrArg (stF (kernelRun0_A.sl.r_22 (F := Ideal) c i arg2 harg2 x0) (rd arg4 harg4 x2 256 0 inb_S256x1024_S256x256_0_256 inb_S256x256_S128x256_0_0) (rd arg5 harg5 x3 256 0 inb_S256x1024_S256x256_0_256 inb_S256x256_S128x256_0_0)) (zf1 c i arg2 harg2 arg4 harg4 arg5 harg5 arg9 x0 x2 x3))
/-- Head 1: the backward state after the second chunk. -/
theorem sb1 : kernelRun0_A.sl.v419 (F := Ideal) c i arg2 harg2 arg4 harg4 arg5 harg5 arg10 x0 x2 x3 = stB (kernelRun0_A.sl.r_23 (F := Ideal) c i arg2 harg2 x0) (rd arg4 harg4 x2 256 128 inb_S256x1024_S256x256_0_256 inb_S256x256_S128x256_128_0) (rd arg5 harg5 x3 256 128 inb_S256x1024_S256x256_0_256 inb_S256x256_S128x256_128_0) (k0_pay11 (F := Ideal)) :=
  (View.readCov_cons_toLoadRect _ _ _ _).trans (congrArg (stB (kernelRun0_A.sl.r_23 (F := Ideal) c i arg2 harg2 x0) (rd arg4 harg4 x2 256 128 inb_S256x1024_S256x256_0_256 inb_S256x256_S128x256_128_0) (rd arg5 harg5 x3 256 128 inb_S256x1024_S256x256_0_256 inb_S256x256_S128x256_128_0)) (zb1 c i arg2 harg2 arg4 harg4 arg5 harg5 arg10 x0 x2 x3))
/-- Head 1: the second chunk's output before the backward pass. -/
theorem oh1 : (LoadRect.valAlong (lr := (Rect.unit (s := S256x256) ![128, 0] S128x256.size inb_S256x256_S128x256_128_0).toLoadRect) (by decide) (kernelRun0_A.sl.v383 (F := Ideal) c i arg2 harg2 arg3 harg3 arg4 harg4 arg5 harg5 arg9 arg10 arg11 x0 x1 x2 x3) : S128x256.Idx → Elt Ideal .f32)
    = (oF (kernelRun0_A.sl.r_22 (F := Ideal) c i arg2 harg2 x0) (kernelRun0_A.sl.r_23 (F := Ideal) c i arg2 harg2 x0) (rd arg3 harg3 x1 256 128 inb_S256x1024_S256x256_0_256 inb_S256x256_S128x256_128_0) (rd arg4 harg4 x2 256 128 inb_S256x1024_S256x256_0_256 inb_S256x256_S128x256_128_0) (rd arg5 harg5 x3 256 128 inb_S256x1024_S256x256_0_256 inb_S256x256_S128x256_128_0) (stF (kernelRun0_A.sl.r_22 (F := Ideal) c i arg2 harg2 x0) (rd arg4 harg4 x2 256 0 inb_S256x1024_S256x256_0_256 inb_S256x256_S128x256_0_0) (rd arg5 harg5 x3 256 0 inb_S256x1024_S256x256_0_256 inb_S256x256_S128x256_0_0) (k0_pay11 (F := Ideal)))) := by
  unfold kernelRun0_A.sl.v383
  refine half_load _ 1 128 _ _ rfl (by decide) _ _ _ _ fun a d y y0 y1 y2 => ?_
  refine (half_hit 1 128 _ _ _ _ _ _ _ _ a d y y0 y1 y2).trans ?_
  exact congrFun (congrArg (oF (kernelRun0_A.sl.r_22 (F := Ideal) c i arg2 harg2 x0) (kernelRun0_A.sl.r_23 (F := Ideal) c i arg2 harg2 x0) (rd arg3 harg3 x1 256 128 inb_S256x1024_S256x256_0_256 inb_S256x256_S128x256_128_0) (rd arg4 harg4 x2 256 128 inb_S256x1024_S256x256_0_256 inb_S256x256_S128x256_128_0) (rd arg5 harg5 x3 256 128 inb_S256x1024_S256x256_0_256 inb_S256x256_S128x256_128_0)) (sf1 c i arg2 harg2 arg4 harg4 arg5 harg5 arg9 x0 x2 x3)) (ix2 a d)
/-- Head 1: the first chunk's output before the backward pass. -/
theorem ol1 : (LoadRect.valAlong (lr := (Rect.unit (s := S256x256) ![0, 0] S128x256.size inb_S256x256_S128x256_0_0).toLoadRect) (by decide) (kernelRun0_A.sl.v418 (F := Ideal) c i arg2 harg2 arg3 harg3 arg4 harg4 arg5 harg5 arg9 arg10 arg11 x0 x1 x2 x3) : S128x256.Idx → Elt Ideal .f32)
    = (oF (kernelRun0_A.sl.r_22 (F := Ideal) c i arg2 harg2 x0) (kernelRun0_A.sl.r_23 (F := Ideal) c i arg2 harg2 x0) (rd arg3 harg3 x1 256 0 inb_S256x1024_S256x256_0_256 inb_S256x256_S128x256_0_0) (rd arg4 harg4 x2 256 0 inb_S256x1024_S256x256_0_256 inb_S256x256_S128x256_0_0) (rd arg5 harg5 x3 256 0 inb_S256x1024_S256x256_0_256 inb_S256x256_S128x256_0_0) (k0_pay11 (F := Ideal))) := by
  unfold kernelRun0_A.sl.v418
  refine half_load _ 1 0 _ _ rfl (by decide) _ _ _ _ fun a d y y0 y1 y2 => ?_
  refine (half_miss 1 128 _ _ _ _ _ _ _ y (Or.inr (Or.inl (by omega)))).trans ?_
  refine (half_miss 1 128 _ _ _ _ _ _ _ y (Or.inr (Or.inl (by omega)))).trans ?_
  refine (half_hit 1 0 _ _ _ _ _ _ _ _ a d y y0 y1 y2).trans ?_
  exact congrFun (congrArg (oF (kernelRun0_A.sl.r_22 (F := Ideal) c i arg2 harg2 x0) (kernelRun0_A.sl.r_23 (F := Ideal) c i arg2 harg2 x0) (rd arg3 harg3 x1 256 0 inb_S256x1024_S256x256_0_256 inb_S256x256_S128x256_0_0) (rd arg4 harg4 x2 256 0 inb_S256x1024_S256x256_0_256 inb_S256x256_S128x256_0_0) (rd arg5 harg5 x3 256 0 inb_S256x1024_S256x256_0_256 inb_S256x256_S128x256_0_0)) (zf1 c i arg2 harg2 arg4 harg4 arg5 harg5 arg9 x0 x2 x3)) (ix2 a d)
/-- Head 1: the first chunk's output, both directions. -/
theorem lo1 (a : Fin 128) (d n : Fin 256) (hn : n.val = a.val) : kernelRun0_A.sl.v445 (F := Ideal) c i arg2 harg2 arg3 harg3 arg4 harg4 arg5 harg5 arg9 arg10 arg11 x0 x1 x2 x3 (ix3 (0 : Fin 1) n d)
    = oB (kernelRun0_A.sl.r_23 (F := Ideal) c i arg2 harg2 x0) (rd arg3 harg3 x1 256 0 inb_S256x1024_S256x256_0_256 inb_S256x256_S128x256_0_0) (oF (kernelRun0_A.sl.r_22 (F := Ideal) c i arg2 harg2 x0) (kernelRun0_A.sl.r_23 (F := Ideal) c i arg2 harg2 x0) (rd arg3 harg3 x1 256 0 inb_S256x1024_S256x256_0_256 inb_S256x256_S128x256_0_0) (rd arg4 harg4 x2 256 0 inb_S256x1024_S256x256_0_256 inb_S256x256_S128x256_0_0) (rd arg5 harg5 x3 256 0 inb_S256x1024_S256x256_0_256 inb_S256x256_S128x256_0_0) (k0_pay11 (F := Ideal))) (stB (kernelRun0_A.sl.r_23 (F := Ideal) c i arg2 harg2 x0) (rd arg4 harg4 x2 256 128 inb_S256x1024_S256x256_0_256 inb_S256x256_S128x256_128_0) (rd arg5 harg5 x3 256 128 inb_S256x1024_S256x256_0_256 inb_S256x256_S128x256_128_0) (k0_pay11 (F := Ideal))) (ix2 a d) := by
  refine (head_load _ 1 _ _ (ix3 (1 : Fin 4) n d) n d rfl rfl rfl).trans ?_
  refine (half_hit 1 0 _ _ _ _ _ _ _ _ a d _ rfl (hn.trans (Nat.zero_add _).symm) rfl).trans ?_
  exact congrFun (congrArg₂ (oB (kernelRun0_A.sl.r_23 (F := Ideal) c i arg2 harg2 x0) (rd arg3 harg3 x1 256 0 inb_S256x1024_S256x256_0_256 inb_S256x256_S128x256_0_0)) (ol1 c i arg2 harg2 arg3 harg3 arg4 harg4 arg5 harg5 arg9 arg10 arg11 x0 x1 x2 x3) (sb1 c i arg2 harg2 arg4 harg4 arg5 harg5 arg10 x0 x2 x3)) (ix2 a d)
/-- Head 1: the second chunk's output, both directions. -/
theorem hi1 (a : Fin 128) (d n : Fin 256) (hn : n.val = 128 + a.val) : kernelRun0_A.sl.v445 (F := Ideal) c i arg2 harg2 arg3 harg3 arg4 harg4 arg5 harg5 arg9 arg10 arg11 x0 x1 x2 x3 (ix3 (0 : Fin 1) n d)
    = oB (kernelRun0_A.sl.r_23 (F := Ideal) c i arg2 harg2 x0) (rd arg3 harg3 x1 256 128 inb_S256x1024_S256x256_0_256 inb_S256x256_S128x256_128_0) (oF (kernelRun0_A.sl.r_22 (F := Ideal) c i arg2 harg2 x0) (kernelRun0_A.sl.r_23 (F := Ideal) c i arg2 harg2 x0) (rd arg3 harg3 x1 256 128 inb_S256x1024_S256x256_0_256 inb_S256x256_S128x256_128_0) (rd arg4 harg4 x2 256 128 inb_S256x1024_S256x256_0_256 inb_S256x256_S128x256_128_0) (rd arg5 harg5 x3 256 128 inb_S256x1024_S256x256_0_256 inb_S256x256_S128x256_128_0) (stF (kernelRun0_A.sl.r_22 (F := Ideal) c i arg2 harg2 x0) (rd arg4 harg4 x2 256 0 inb_S256x1024_S256x256_0_256 inb_S256x256_S128x256_0_0) (rd arg5 harg5 x3 256 0 inb_S256x1024_S256x256_0_256 inb_S256x256_S128x256_0_0) (k0_pay11 (F := Ideal)))) (k0_pay11 (F := Ideal)) (ix2 a d) := by
  refine (head_load _ 1 _ _ (ix3 (1 : Fin 4) n d) n d rfl rfl rfl).trans ?_
  refine (half_miss 1 0 _ _ _ _ _ _ _ _ (Or.inr (Or.inr (show 0 + 128 ≤ n.val by omega)))).trans ?_
  refine (half_hit 1 128 _ _ _ _ _ _ _ _ a d _ rfl hn rfl).trans ?_
  exact congrFun (congrArg₂ (oB (kernelRun0_A.sl.r_23 (F := Ideal) c i arg2 harg2 x0) (rd arg3 harg3 x1 256 128 inb_S256x1024_S256x256_0_256 inb_S256x256_S128x256_128_0)) (oh1 c i arg2 harg2 arg3 harg3 arg4 harg4 arg5 harg5 arg9 arg10 arg11 x0 x1 x2 x3) (zb1 c i arg2 harg2 arg4 harg4 arg5 harg5 arg10 x0 x2 x3)) (ix2 a d)
end Head1

/-! ## Head 2 -/

section Head2
variable (c : Dev nD) (i : grid0.Coords) (arg2 : Memref sig .tc .smem S2x8 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg9 arg10 : Memref sig .tc .vmem S1x1x4x256x256 .f32)
  (arg11 : Memref sig .tc .vmem S4x256x256 .f32) (x0 : Vec Ideal S2x8 .f32) (x1 x2 x3 : Vec Ideal S256x1024 .bf16)

/-- Head 2: the forward state starts at zero. -/
theorem zf2 : kernelRun0_A.sl.v549 (F := Ideal) c i arg2 harg2 arg4 harg4 arg5 harg5 arg9 x0 x2 x3 = k0_pay11 (F := Ideal) := View.readCov_cons_toLoadRect _ _ _ _
/-- Head 2: the backward state starts at zero. -/
theorem zb2 : kernelRun0_A.sl.v620 (F := Ideal) c i arg2 harg2 arg4 harg4 arg5 harg5 arg10 x0 x2 x3 = k0_pay11 (F := Ideal) := View.readCov_cons_toLoadRect _ _ _ _
/-- Head 2: the forward state after the first chunk. -/
theorem sf2 : kernelRun0_A.sl.v585 (F := Ideal) c i arg2 harg2 arg4 harg4 arg5 harg5 arg9 x0 x2 x3 = stF (kernelRun0_A.sl.r_43 (F := Ideal) c i arg2 harg2 x0) (rd arg4 harg4 x2 512 0 inb_S256x1024_S256x256_0_512 inb_S256x256_S128x256_0_0) (rd arg5 harg5 x3 512 0 inb_S256x1024_S256x256_0_512 inb_S256x256_S128x256_0_0) (k0_pay11 (F := Ideal)) :=
  (View.readCov_cons_toLoadRect _ _ _ _).trans (congrArg (stF (kernelRun0_A.sl.r_43 (F := Ideal) c i arg2 harg2 x0) (rd arg4 harg4 x2 512 0 inb_S256x1024_S256x256_0_512 inb_S256x256_S128x256_0_0) (rd arg5 harg5 x3 512 0 inb_S256x1024_S256x256_0_512 inb_S256x256_S128x256_0_0)) (zf2 c i arg2 harg2 arg4 harg4 arg5 harg5 arg9 x0 x2 x3))
/-- Head 2: the backward state after the second chunk. -/
theorem sb2 : kernelRun0_A.sl.v655 (F := Ideal) c i arg2 harg2 arg4 harg4 arg5 harg5 arg10 x0 x2 x3 = stB (kernelRun0_A.sl.r_44 (F := Ideal) c i arg2 harg2 x0) (rd arg4 harg4 x2 512 128 inb_S256x1024_S256x256_0_512 inb_S256x256_S128x256_128_0) (rd arg5 harg5 x3 512 128 inb_S256x1024_S256x256_0_512 inb_S256x256_S128x256_128_0) (k0_pay11 (F := Ideal)) :=
  (View.readCov_cons_toLoadRect _ _ _ _).trans (congrArg (stB (kernelRun0_A.sl.r_44 (F := Ideal) c i arg2 harg2 x0) (rd arg4 harg4 x2 512 128 inb_S256x1024_S256x256_0_512 inb_S256x256_S128x256_128_0) (rd arg5 harg5 x3 512 128 inb_S256x1024_S256x256_0_512 inb_S256x256_S128x256_128_0)) (zb2 c i arg2 harg2 arg4 harg4 arg5 harg5 arg10 x0 x2 x3))
/-- Head 2: the second chunk's output before the backward pass. -/
theorem oh2 : (LoadRect.valAlong (lr := (Rect.unit (s := S256x256) ![128, 0] S128x256.size inb_S256x256_S128x256_128_0).toLoadRect) (by decide) (kernelRun0_A.sl.v619 (F := Ideal) c i arg2 harg2 arg3 harg3 arg4 harg4 arg5 harg5 arg9 arg10 arg11 x0 x1 x2 x3) : S128x256.Idx → Elt Ideal .f32)
    = (oF (kernelRun0_A.sl.r_43 (F := Ideal) c i arg2 harg2 x0) (kernelRun0_A.sl.r_44 (F := Ideal) c i arg2 harg2 x0) (rd arg3 harg3 x1 512 128 inb_S256x1024_S256x256_0_512 inb_S256x256_S128x256_128_0) (rd arg4 harg4 x2 512 128 inb_S256x1024_S256x256_0_512 inb_S256x256_S128x256_128_0) (rd arg5 harg5 x3 512 128 inb_S256x1024_S256x256_0_512 inb_S256x256_S128x256_128_0) (stF (kernelRun0_A.sl.r_43 (F := Ideal) c i arg2 harg2 x0) (rd arg4 harg4 x2 512 0 inb_S256x1024_S256x256_0_512 inb_S256x256_S128x256_0_0) (rd arg5 harg5 x3 512 0 inb_S256x1024_S256x256_0_512 inb_S256x256_S128x256_0_0) (k0_pay11 (F := Ideal)))) := by
  unfold kernelRun0_A.sl.v619
  refine half_load _ 2 128 _ _ rfl (by decide) _ _ _ _ fun a d y y0 y1 y2 => ?_
  refine (half_hit 2 128 _ _ _ _ _ _ _ _ a d y y0 y1 y2).trans ?_
  exact congrFun (congrArg (oF (kernelRun0_A.sl.r_43 (F := Ideal) c i arg2 harg2 x0) (kernelRun0_A.sl.r_44 (F := Ideal) c i arg2 harg2 x0) (rd arg3 harg3 x1 512 128 inb_S256x1024_S256x256_0_512 inb_S256x256_S128x256_128_0) (rd arg4 harg4 x2 512 128 inb_S256x1024_S256x256_0_512 inb_S256x256_S128x256_128_0) (rd arg5 harg5 x3 512 128 inb_S256x1024_S256x256_0_512 inb_S256x256_S128x256_128_0)) (sf2 c i arg2 harg2 arg4 harg4 arg5 harg5 arg9 x0 x2 x3)) (ix2 a d)
/-- Head 2: the first chunk's output before the backward pass. -/
theorem ol2 : (LoadRect.valAlong (lr := (Rect.unit (s := S256x256) ![0, 0] S128x256.size inb_S256x256_S128x256_0_0).toLoadRect) (by decide) (kernelRun0_A.sl.v654 (F := Ideal) c i arg2 harg2 arg3 harg3 arg4 harg4 arg5 harg5 arg9 arg10 arg11 x0 x1 x2 x3) : S128x256.Idx → Elt Ideal .f32)
    = (oF (kernelRun0_A.sl.r_43 (F := Ideal) c i arg2 harg2 x0) (kernelRun0_A.sl.r_44 (F := Ideal) c i arg2 harg2 x0) (rd arg3 harg3 x1 512 0 inb_S256x1024_S256x256_0_512 inb_S256x256_S128x256_0_0) (rd arg4 harg4 x2 512 0 inb_S256x1024_S256x256_0_512 inb_S256x256_S128x256_0_0) (rd arg5 harg5 x3 512 0 inb_S256x1024_S256x256_0_512 inb_S256x256_S128x256_0_0) (k0_pay11 (F := Ideal))) := by
  unfold kernelRun0_A.sl.v654
  refine half_load _ 2 0 _ _ rfl (by decide) _ _ _ _ fun a d y y0 y1 y2 => ?_
  refine (half_miss 2 128 _ _ _ _ _ _ _ y (Or.inr (Or.inl (by omega)))).trans ?_
  refine (half_miss 2 128 _ _ _ _ _ _ _ y (Or.inr (Or.inl (by omega)))).trans ?_
  refine (half_hit 2 0 _ _ _ _ _ _ _ _ a d y y0 y1 y2).trans ?_
  exact congrFun (congrArg (oF (kernelRun0_A.sl.r_43 (F := Ideal) c i arg2 harg2 x0) (kernelRun0_A.sl.r_44 (F := Ideal) c i arg2 harg2 x0) (rd arg3 harg3 x1 512 0 inb_S256x1024_S256x256_0_512 inb_S256x256_S128x256_0_0) (rd arg4 harg4 x2 512 0 inb_S256x1024_S256x256_0_512 inb_S256x256_S128x256_0_0) (rd arg5 harg5 x3 512 0 inb_S256x1024_S256x256_0_512 inb_S256x256_S128x256_0_0)) (zf2 c i arg2 harg2 arg4 harg4 arg5 harg5 arg9 x0 x2 x3)) (ix2 a d)
/-- Head 2: the first chunk's output, both directions. -/
theorem lo2 (a : Fin 128) (d n : Fin 256) (hn : n.val = a.val) : kernelRun0_A.sl.v681 (F := Ideal) c i arg2 harg2 arg3 harg3 arg4 harg4 arg5 harg5 arg9 arg10 arg11 x0 x1 x2 x3 (ix3 (0 : Fin 1) n d)
    = oB (kernelRun0_A.sl.r_44 (F := Ideal) c i arg2 harg2 x0) (rd arg3 harg3 x1 512 0 inb_S256x1024_S256x256_0_512 inb_S256x256_S128x256_0_0) (oF (kernelRun0_A.sl.r_43 (F := Ideal) c i arg2 harg2 x0) (kernelRun0_A.sl.r_44 (F := Ideal) c i arg2 harg2 x0) (rd arg3 harg3 x1 512 0 inb_S256x1024_S256x256_0_512 inb_S256x256_S128x256_0_0) (rd arg4 harg4 x2 512 0 inb_S256x1024_S256x256_0_512 inb_S256x256_S128x256_0_0) (rd arg5 harg5 x3 512 0 inb_S256x1024_S256x256_0_512 inb_S256x256_S128x256_0_0) (k0_pay11 (F := Ideal))) (stB (kernelRun0_A.sl.r_44 (F := Ideal) c i arg2 harg2 x0) (rd arg4 harg4 x2 512 128 inb_S256x1024_S256x256_0_512 inb_S256x256_S128x256_128_0) (rd arg5 harg5 x3 512 128 inb_S256x1024_S256x256_0_512 inb_S256x256_S128x256_128_0) (k0_pay11 (F := Ideal))) (ix2 a d) := by
  refine (head_load _ 2 _ _ (ix3 (2 : Fin 4) n d) n d rfl rfl rfl).trans ?_
  refine (half_hit 2 0 _ _ _ _ _ _ _ _ a d _ rfl (hn.trans (Nat.zero_add _).symm) rfl).trans ?_
  exact congrFun (congrArg₂ (oB (kernelRun0_A.sl.r_44 (F := Ideal) c i arg2 harg2 x0) (rd arg3 harg3 x1 512 0 inb_S256x1024_S256x256_0_512 inb_S256x256_S128x256_0_0)) (ol2 c i arg2 harg2 arg3 harg3 arg4 harg4 arg5 harg5 arg9 arg10 arg11 x0 x1 x2 x3) (sb2 c i arg2 harg2 arg4 harg4 arg5 harg5 arg10 x0 x2 x3)) (ix2 a d)
/-- Head 2: the second chunk's output, both directions. -/
theorem hi2 (a : Fin 128) (d n : Fin 256) (hn : n.val = 128 + a.val) : kernelRun0_A.sl.v681 (F := Ideal) c i arg2 harg2 arg3 harg3 arg4 harg4 arg5 harg5 arg9 arg10 arg11 x0 x1 x2 x3 (ix3 (0 : Fin 1) n d)
    = oB (kernelRun0_A.sl.r_44 (F := Ideal) c i arg2 harg2 x0) (rd arg3 harg3 x1 512 128 inb_S256x1024_S256x256_0_512 inb_S256x256_S128x256_128_0) (oF (kernelRun0_A.sl.r_43 (F := Ideal) c i arg2 harg2 x0) (kernelRun0_A.sl.r_44 (F := Ideal) c i arg2 harg2 x0) (rd arg3 harg3 x1 512 128 inb_S256x1024_S256x256_0_512 inb_S256x256_S128x256_128_0) (rd arg4 harg4 x2 512 128 inb_S256x1024_S256x256_0_512 inb_S256x256_S128x256_128_0) (rd arg5 harg5 x3 512 128 inb_S256x1024_S256x256_0_512 inb_S256x256_S128x256_128_0) (stF (kernelRun0_A.sl.r_43 (F := Ideal) c i arg2 harg2 x0) (rd arg4 harg4 x2 512 0 inb_S256x1024_S256x256_0_512 inb_S256x256_S128x256_0_0) (rd arg5 harg5 x3 512 0 inb_S256x1024_S256x256_0_512 inb_S256x256_S128x256_0_0) (k0_pay11 (F := Ideal)))) (k0_pay11 (F := Ideal)) (ix2 a d) := by
  refine (head_load _ 2 _ _ (ix3 (2 : Fin 4) n d) n d rfl rfl rfl).trans ?_
  refine (half_miss 2 0 _ _ _ _ _ _ _ _ (Or.inr (Or.inr (show 0 + 128 ≤ n.val by omega)))).trans ?_
  refine (half_hit 2 128 _ _ _ _ _ _ _ _ a d _ rfl hn rfl).trans ?_
  exact congrFun (congrArg₂ (oB (kernelRun0_A.sl.r_44 (F := Ideal) c i arg2 harg2 x0) (rd arg3 harg3 x1 512 128 inb_S256x1024_S256x256_0_512 inb_S256x256_S128x256_128_0)) (oh2 c i arg2 harg2 arg3 harg3 arg4 harg4 arg5 harg5 arg9 arg10 arg11 x0 x1 x2 x3) (zb2 c i arg2 harg2 arg4 harg4 arg5 harg5 arg10 x0 x2 x3)) (ix2 a d)
end Head2

/-! ## Head 3 -/

section Head3
variable (c : Dev nD) (i : grid0.Coords) (arg2 : Memref sig .tc .smem S2x8 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg9 arg10 : Memref sig .tc .vmem S1x1x4x256x256 .f32)
  (arg11 : Memref sig .tc .vmem S4x256x256 .f32) (x0 : Vec Ideal S2x8 .f32) (x1 x2 x3 : Vec Ideal S256x1024 .bf16)

/-- Head 3: the forward state starts at zero. -/
theorem zf3 : kernelRun0_A.sl.v785 (F := Ideal) c i arg2 harg2 arg4 harg4 arg5 harg5 arg9 x0 x2 x3 = k0_pay11 (F := Ideal) := View.readCov_cons_toLoadRect _ _ _ _
/-- Head 3: the backward state starts at zero. -/
theorem zb3 : kernelRun0_A.sl.v856 (F := Ideal) c i arg2 harg2 arg4 harg4 arg5 harg5 arg10 x0 x2 x3 = k0_pay11 (F := Ideal) := View.readCov_cons_toLoadRect _ _ _ _
/-- Head 3: the forward state after the first chunk. -/
theorem sf3 : kernelRun0_A.sl.v821 (F := Ideal) c i arg2 harg2 arg4 harg4 arg5 harg5 arg9 x0 x2 x3 = stF (kernelRun0_A.sl.r_61 (F := Ideal) c i arg2 harg2 x0) (rd arg4 harg4 x2 768 0 inb_S256x1024_S256x256_0_768 inb_S256x256_S128x256_0_0) (rd arg5 harg5 x3 768 0 inb_S256x1024_S256x256_0_768 inb_S256x256_S128x256_0_0) (k0_pay11 (F := Ideal)) :=
  (View.readCov_cons_toLoadRect _ _ _ _).trans (congrArg (stF (kernelRun0_A.sl.r_61 (F := Ideal) c i arg2 harg2 x0) (rd arg4 harg4 x2 768 0 inb_S256x1024_S256x256_0_768 inb_S256x256_S128x256_0_0) (rd arg5 harg5 x3 768 0 inb_S256x1024_S256x256_0_768 inb_S256x256_S128x256_0_0)) (zf3 c i arg2 harg2 arg4 harg4 arg5 harg5 arg9 x0 x2 x3))
/-- Head 3: the backward state after the second chunk. -/
theorem sb3 : kernelRun0_A.sl.v891 (F := Ideal) c i arg2 harg2 arg4 harg4 arg5 harg5 arg10 x0 x2 x3 = stB (kernelRun0_A.sl.r_62 (F := Ideal) c i arg2 harg2 x0) (rd arg4 harg4 x2 768 128 inb_S256x1024_S256x256_0_768 inb_S256x256_S128x256_128_0) (rd arg5 harg5 x3 768 128 inb_S256x1024_S256x256_0_768 inb_S256x256_S128x256_128_0) (k0_pay11 (F := Ideal)) :=
  (View.readCov_cons_toLoadRect _ _ _ _).trans (congrArg (stB (kernelRun0_A.sl.r_62 (F := Ideal) c i arg2 harg2 x0) (rd arg4 harg4 x2 768 128 inb_S256x1024_S256x256_0_768 inb_S256x256_S128x256_128_0) (rd arg5 harg5 x3 768 128 inb_S256x1024_S256x256_0_768 inb_S256x256_S128x256_128_0)) (zb3 c i arg2 harg2 arg4 harg4 arg5 harg5 arg10 x0 x2 x3))
/-- Head 3: the second chunk's output before the backward pass. -/
theorem oh3 : (LoadRect.valAlong (lr := (Rect.unit (s := S256x256) ![128, 0] S128x256.size inb_S256x256_S128x256_128_0).toLoadRect) (by decide) (kernelRun0_A.sl.v855 (F := Ideal) c i arg2 harg2 arg3 harg3 arg4 harg4 arg5 harg5 arg9 arg10 arg11 x0 x1 x2 x3) : S128x256.Idx → Elt Ideal .f32)
    = (oF (kernelRun0_A.sl.r_61 (F := Ideal) c i arg2 harg2 x0) (kernelRun0_A.sl.r_62 (F := Ideal) c i arg2 harg2 x0) (rd arg3 harg3 x1 768 128 inb_S256x1024_S256x256_0_768 inb_S256x256_S128x256_128_0) (rd arg4 harg4 x2 768 128 inb_S256x1024_S256x256_0_768 inb_S256x256_S128x256_128_0) (rd arg5 harg5 x3 768 128 inb_S256x1024_S256x256_0_768 inb_S256x256_S128x256_128_0) (stF (kernelRun0_A.sl.r_61 (F := Ideal) c i arg2 harg2 x0) (rd arg4 harg4 x2 768 0 inb_S256x1024_S256x256_0_768 inb_S256x256_S128x256_0_0) (rd arg5 harg5 x3 768 0 inb_S256x1024_S256x256_0_768 inb_S256x256_S128x256_0_0) (k0_pay11 (F := Ideal)))) := by
  unfold kernelRun0_A.sl.v855
  refine half_load _ 3 128 _ _ rfl (by decide) _ _ _ _ fun a d y y0 y1 y2 => ?_
  refine (half_hit 3 128 _ _ _ _ _ _ _ _ a d y y0 y1 y2).trans ?_
  exact congrFun (congrArg (oF (kernelRun0_A.sl.r_61 (F := Ideal) c i arg2 harg2 x0) (kernelRun0_A.sl.r_62 (F := Ideal) c i arg2 harg2 x0) (rd arg3 harg3 x1 768 128 inb_S256x1024_S256x256_0_768 inb_S256x256_S128x256_128_0) (rd arg4 harg4 x2 768 128 inb_S256x1024_S256x256_0_768 inb_S256x256_S128x256_128_0) (rd arg5 harg5 x3 768 128 inb_S256x1024_S256x256_0_768 inb_S256x256_S128x256_128_0)) (sf3 c i arg2 harg2 arg4 harg4 arg5 harg5 arg9 x0 x2 x3)) (ix2 a d)
/-- Head 3: the first chunk's output before the backward pass. -/
theorem ol3 : (LoadRect.valAlong (lr := (Rect.unit (s := S256x256) ![0, 0] S128x256.size inb_S256x256_S128x256_0_0).toLoadRect) (by decide) (kernelRun0_A.sl.v890 (F := Ideal) c i arg2 harg2 arg3 harg3 arg4 harg4 arg5 harg5 arg9 arg10 arg11 x0 x1 x2 x3) : S128x256.Idx → Elt Ideal .f32)
    = (oF (kernelRun0_A.sl.r_61 (F := Ideal) c i arg2 harg2 x0) (kernelRun0_A.sl.r_62 (F := Ideal) c i arg2 harg2 x0) (rd arg3 harg3 x1 768 0 inb_S256x1024_S256x256_0_768 inb_S256x256_S128x256_0_0) (rd arg4 harg4 x2 768 0 inb_S256x1024_S256x256_0_768 inb_S256x256_S128x256_0_0) (rd arg5 harg5 x3 768 0 inb_S256x1024_S256x256_0_768 inb_S256x256_S128x256_0_0) (k0_pay11 (F := Ideal))) := by
  unfold kernelRun0_A.sl.v890
  refine half_load _ 3 0 _ _ rfl (by decide) _ _ _ _ fun a d y y0 y1 y2 => ?_
  refine (half_miss 3 128 _ _ _ _ _ _ _ y (Or.inr (Or.inl (by omega)))).trans ?_
  refine (half_miss 3 128 _ _ _ _ _ _ _ y (Or.inr (Or.inl (by omega)))).trans ?_
  refine (half_hit 3 0 _ _ _ _ _ _ _ _ a d y y0 y1 y2).trans ?_
  exact congrFun (congrArg (oF (kernelRun0_A.sl.r_61 (F := Ideal) c i arg2 harg2 x0) (kernelRun0_A.sl.r_62 (F := Ideal) c i arg2 harg2 x0) (rd arg3 harg3 x1 768 0 inb_S256x1024_S256x256_0_768 inb_S256x256_S128x256_0_0) (rd arg4 harg4 x2 768 0 inb_S256x1024_S256x256_0_768 inb_S256x256_S128x256_0_0) (rd arg5 harg5 x3 768 0 inb_S256x1024_S256x256_0_768 inb_S256x256_S128x256_0_0)) (zf3 c i arg2 harg2 arg4 harg4 arg5 harg5 arg9 x0 x2 x3)) (ix2 a d)
/-- Head 3: the first chunk's output, both directions. -/
theorem lo3 (a : Fin 128) (d n : Fin 256) (hn : n.val = a.val) : kernelRun0_A.sl.v917 (F := Ideal) c i arg2 harg2 arg3 harg3 arg4 harg4 arg5 harg5 arg9 arg10 arg11 x0 x1 x2 x3 (ix3 (0 : Fin 1) n d)
    = oB (kernelRun0_A.sl.r_62 (F := Ideal) c i arg2 harg2 x0) (rd arg3 harg3 x1 768 0 inb_S256x1024_S256x256_0_768 inb_S256x256_S128x256_0_0) (oF (kernelRun0_A.sl.r_61 (F := Ideal) c i arg2 harg2 x0) (kernelRun0_A.sl.r_62 (F := Ideal) c i arg2 harg2 x0) (rd arg3 harg3 x1 768 0 inb_S256x1024_S256x256_0_768 inb_S256x256_S128x256_0_0) (rd arg4 harg4 x2 768 0 inb_S256x1024_S256x256_0_768 inb_S256x256_S128x256_0_0) (rd arg5 harg5 x3 768 0 inb_S256x1024_S256x256_0_768 inb_S256x256_S128x256_0_0) (k0_pay11 (F := Ideal))) (stB (kernelRun0_A.sl.r_62 (F := Ideal) c i arg2 harg2 x0) (rd arg4 harg4 x2 768 128 inb_S256x1024_S256x256_0_768 inb_S256x256_S128x256_128_0) (rd arg5 harg5 x3 768 128 inb_S256x1024_S256x256_0_768 inb_S256x256_S128x256_128_0) (k0_pay11 (F := Ideal))) (ix2 a d) := by
  refine (head_load _ 3 _ _ (ix3 (3 : Fin 4) n d) n d rfl rfl rfl).trans ?_
  refine (half_hit 3 0 _ _ _ _ _ _ _ _ a d _ rfl (hn.trans (Nat.zero_add _).symm) rfl).trans ?_
  exact congrFun (congrArg₂ (oB (kernelRun0_A.sl.r_62 (F := Ideal) c i arg2 harg2 x0) (rd arg3 harg3 x1 768 0 inb_S256x1024_S256x256_0_768 inb_S256x256_S128x256_0_0)) (ol3 c i arg2 harg2 arg3 harg3 arg4 harg4 arg5 harg5 arg9 arg10 arg11 x0 x1 x2 x3) (sb3 c i arg2 harg2 arg4 harg4 arg5 harg5 arg10 x0 x2 x3)) (ix2 a d)
/-- Head 3: the second chunk's output, both directions. -/
theorem hi3 (a : Fin 128) (d n : Fin 256) (hn : n.val = 128 + a.val) : kernelRun0_A.sl.v917 (F := Ideal) c i arg2 harg2 arg3 harg3 arg4 harg4 arg5 harg5 arg9 arg10 arg11 x0 x1 x2 x3 (ix3 (0 : Fin 1) n d)
    = oB (kernelRun0_A.sl.r_62 (F := Ideal) c i arg2 harg2 x0) (rd arg3 harg3 x1 768 128 inb_S256x1024_S256x256_0_768 inb_S256x256_S128x256_128_0) (oF (kernelRun0_A.sl.r_61 (F := Ideal) c i arg2 harg2 x0) (kernelRun0_A.sl.r_62 (F := Ideal) c i arg2 harg2 x0) (rd arg3 harg3 x1 768 128 inb_S256x1024_S256x256_0_768 inb_S256x256_S128x256_128_0) (rd arg4 harg4 x2 768 128 inb_S256x1024_S256x256_0_768 inb_S256x256_S128x256_128_0) (rd arg5 harg5 x3 768 128 inb_S256x1024_S256x256_0_768 inb_S256x256_S128x256_128_0) (stF (kernelRun0_A.sl.r_61 (F := Ideal) c i arg2 harg2 x0) (rd arg4 harg4 x2 768 0 inb_S256x1024_S256x256_0_768 inb_S256x256_S128x256_0_0) (rd arg5 harg5 x3 768 0 inb_S256x1024_S256x256_0_768 inb_S256x256_S128x256_0_0) (k0_pay11 (F := Ideal)))) (k0_pay11 (F := Ideal)) (ix2 a d) := by
  refine (head_load _ 3 _ _ (ix3 (3 : Fin 4) n d) n d rfl rfl rfl).trans ?_
  refine (half_miss 3 0 _ _ _ _ _ _ _ _ (Or.inr (Or.inr (show 0 + 128 ≤ n.val by omega)))).trans ?_
  refine (half_hit 3 128 _ _ _ _ _ _ _ _ a d _ rfl hn rfl).trans ?_
  exact congrFun (congrArg₂ (oB (kernelRun0_A.sl.r_62 (F := Ideal) c i arg2 harg2 x0) (rd arg3 harg3 x1 768 128 inb_S256x1024_S256x256_0_768 inb_S256x256_S128x256_128_0)) (oh3 c i arg2 harg2 arg3 harg3 arg4 harg4 arg5 harg5 arg9 arg10 arg11 x0 x1 x2 x3) (zb3 c i arg2 harg2 arg4 harg4 arg5 harg5 arg10 x0 x2 x3)) (ix2 a d)
end Head3

end Cert.Ret

end
-- ==== Proof.Spec.lean ====
/- The bidirectional retention of one head in extended reals, with no program in sight: what a chunk of 128 rows gives, how the
   state goes from chunk to chunk, the two directions, and the one fact by which the kernel differs from the plain text: both
   directions can be taken in one pass over the scores, with the sum of the two decay tables. -/
module

public import Idealize.ShloMosaic.Lib.Pointwise
public import Idealize.ShloMosaic.Lib.Pipeline.ValueKit

@[expose] public section

noncomputable section

open Idealize.ShloMosaic Idealize.ShloMosaic.TcCoe

namespace Cert.Spec

/-- A table of rows and columns of extended reals. -/
abbrev Tab (a b : ℕ) := Fin a → Fin b → EReal

/-- The number of a row, as the programs have it: a 32-bit word made a float. -/
def pos (i : Fin 128) : EReal := FloatOps.sitofp (F := Ideal) FTy.f32 (BitVec.ofNat 32 i.val)

/-- The constants 127, 128 and 256, and the small number under the root. -/
abbrev c127 : EReal := Ideal.ofBits FTy.f32 1123942400#32
abbrev c128 : EReal := Ideal.ofBits FTy.f32 1124073472#32
abbrev c256 : EReal := Ideal.ofBits FTy.f32 1132462080#32
abbrev cEps : EReal := Ideal.ofBits FTy.f32 925353388#32

/-- The decay from row `j` to row `i` of a chunk. -/
def decay (l : EReal) (i j : Fin 128) : EReal := if 0 ≤ pos i - pos j then Ideal.exp (max (pos i - pos j) 0 * l) else 0
/-- The decay of the state up to row `i`. -/
def xi (l : EReal) (i : Fin 128) : EReal := Ideal.exp ((pos i + 1) * l)
/-- The decay from row `j` to the end of the chunk. -/
def zeta (l : EReal) (j : Fin 128) : EReal := Ideal.exp ((c127 - pos j) * l)
/-- The decay over a whole chunk. -/
def gch (l : EReal) : EReal := Ideal.exp (c128 * l)

/-- The output of a chunk: its own rows under the decay `D`, and the state `s` under `X`. -/
def outC (D : Fin 128 → Fin 128 → EReal) (X : Fin 128 → EReal) (q k v : Tab 128 256) (s : Tab 256 256) (i : Fin 128) (e : Fin 256) : EReal :=
  ∑ x, (∑ d, q i d * k x d) * D i x * v x e + (∑ d, q i d * s d e) * X i
/-- The state after a chunk. -/
def stC (g : EReal) (Z : Fin 128 → EReal) (k v : Tab 128 256) (s : Tab 256 256) (d e : Fin 256) : EReal :=
  g * s d e + ∑ x, k x d * Z x * v x e

/-- Row `i` of the first chunk, and of the second. -/
def lo (i : Fin 128) : Fin 256 := ⟨i.val, by omega⟩
def hi (i : Fin 128) : Fin 256 := ⟨128 + i.val, by omega⟩

/-- The state zero. -/
def zero : Tab 256 256 := fun _ _ => 0

/-- The state after the first chunk, and after both. -/
def st1 (l : EReal) (k v : Tab 256 256) : Tab 256 256 := stC (gch l) (zeta l) (fun j => k (lo j)) (fun j => v (lo j)) zero
def st2 (l : EReal) (k v : Tab 256 256) : Tab 256 256 := stC (gch l) (zeta l) (fun j => k (hi j)) (fun j => v (hi j)) (st1 l k v)

/-- The retention of the rows in order: the first chunk's output, and the second's. -/
def outLo (l : EReal) (q k v : Tab 256 256) : Tab 128 256 :=
  outC (decay l) (xi l) (fun j => q (lo j)) (fun j => k (lo j)) (fun j => v (lo j)) zero
def outHi (l : EReal) (q k v : Tab 256 256) : Tab 128 256 :=
  outC (decay l) (xi l) (fun j => q (hi j)) (fun j => k (hi j)) (fun j => v (hi j)) (st1 l k v)
/-- Both chunks, row by row. -/
def scan (l : EReal) (q k v : Tab 256 256) (n e : Fin 256) : EReal :=
  if h : n.val < 128 then outLo l q k v ⟨n.val, h⟩ e else outHi l q k v ⟨n.val - 128, by omega⟩ e

/-- The rows in the opposite order. -/
def opp (q : Tab 256 256) : Tab 256 256 := fun n => q n.rev

/-- Both directions: the rows in order, and in the opposite order. -/
def bi (lf lb : EReal) (q k v : Tab 256 256) (n e : Fin 256) : EReal :=
  scan lf q k v n e + scan lb (opp q) (opp k) (opp v) n.rev e

/-- A row with its mean taken off, over its standard deviation. -/
def normed (o : Fin 256 → EReal) (e : Fin 256) : EReal :=
  (o e - Ideal.div (∑ x, o x) c256)
    * Ideal.rsqrt (Ideal.div (∑ x, (o x - Ideal.div (∑ x, o x) c256) * (o x - Ideal.div (∑ x, o x) c256)) c256 + cEps)

/-! ## The tables -/

theorem pos_real (i : Fin 128) : pos i = ((i.val : ℝ) : EReal) := by
  have e : (BitVec.ofNat 32 i.val).toInt = (i.val : ℤ) := by
    rw [BitVec.toInt_eq_toNat_of_lt] <;> simp <;> omega
  show (((BitVec.ofNat 32 i.val).toInt : ℝ) : EReal) = _
  rw [e]; norm_cast

theorem sub_real (i j : Fin 128) : FloatOps.sitofp (F := Ideal) FTy.f32 (IntOp.subi (BitVec.ofNat 32 i.val) (BitVec.ofNat 32 j.val))
    = pos i - pos j := by
  have hi : (BitVec.ofNat 32 i.val).toInt = (i.val : ℤ) := by
    rw [BitVec.toInt_eq_toNat_of_lt] <;> simp <;> omega
  have hj : (BitVec.ofNat 32 j.val).toInt = (j.val : ℤ) := by
    rw [BitVec.toInt_eq_toNat_of_lt] <;> simp <;> omega
  have e : (BitVec.ofNat 32 i.val - BitVec.ofNat 32 j.val).toInt = (i.val : ℤ) - (j.val : ℤ) := by
    rw [BitVec.toInt_sub, hi, hj, Int.bmod_def]; omega
  show ((((BitVec.ofNat 32 i.val - BitVec.ofNat 32 j.val).toInt : ℤ) : ℝ) : EReal) = _
  rw [e, pos_real, pos_real, ← EReal.coe_sub]; push_cast; rfl

theorem c127_real : c127 = ((127 : ℝ) : EReal) := by
  show Ideal.ofBits FTy.f32 1123942400#32 = _
  simp [Ideal.ofBits, Ideal.ieee, -EReal.coe_mul]; norm_num
theorem c128_real : c128 = ((128 : ℝ) : EReal) := by
  show Ideal.ofBits FTy.f32 1124073472#32 = _
  simp [Ideal.ofBits, Ideal.ieee, -EReal.coe_mul]; norm_num

theorem rev_real (i : Fin 128) : ((i.rev.val : ℝ)) = 127 - (i.val : ℝ) := by
  have : i.rev.val + i.val = 127 := by rw [Fin.val_rev]; omega
  have h : ((i.rev.val : ℝ)) + (i.val : ℝ) = 127 := by exact_mod_cast this
  linarith

/-- The distance of two rows counted from the end is the distance the other way. -/
theorem rev_sub (i j : Fin 128) : pos i.rev - pos j.rev = 0 - (pos i - pos j) := by
  simp only [pos_real, rev_real]
  rw [← EReal.coe_zero, ← EReal.coe_sub, ← EReal.coe_sub, ← EReal.coe_sub]
  congr 1; ring

theorem sub_nonpos (i j : Fin 128) : pos i - pos j ≤ 0 ↔ 0 ≤ pos i.rev - pos j.rev := by
  simp only [pos_real, rev_real]
  rw [← EReal.coe_zero, ← EReal.coe_sub, ← EReal.coe_sub, EReal.coe_le_coe_iff, EReal.coe_le_coe_iff]
  constructor <;> intro h <;> linarith

/-- The backward decay as the kernel writes it. -/
theorem decay_rev (l : EReal) (i j : Fin 128) :
    (if pos i - pos j ≤ 0 then Ideal.exp (max (0 - (pos i - pos j)) 0 * l) else 0) = decay l i.rev j.rev := by
  unfold decay
  rw [rev_sub]
  exact if_congr ((sub_nonpos i j).trans (by rw [rev_sub])) rfl rfl

theorem xi_rev (l : EReal) (i : Fin 128) : Ideal.exp ((c128 - pos i) * l) = xi l i.rev := by
  unfold xi
  rw [c128_real, pos_real, pos_real, rev_real, ← EReal.coe_one, ← EReal.coe_sub, ← EReal.coe_add]
  congr 3; ring

theorem zeta_rev (l : EReal) (i : Fin 128) : Ideal.exp (pos i * l) = zeta l i.rev := by
  unfold zeta
  rw [c127_real, pos_real, pos_real, rev_real, ← EReal.coe_sub]
  congr 3; ring

theorem exp_nonneg (x : EReal) : 0 ≤ Ideal.exp x := by
  induction x using EReal.rec with
  | bot => exact le_rfl
  | coe r => exact EReal.coe_nonneg.2 (Real.exp_pos r).le
  | top => exact le_top

theorem decay_nonneg (l : EReal) (i j : Fin 128) : 0 ≤ decay l i j := by
  unfold decay; split
  · exact exp_nonneg _
  · exact le_rfl

/-! ## Reading the rows from the end -/

theorem sum_rev (f : Fin 128 → EReal) : ∑ x : Fin 128, f (Fin.rev x) = ∑ x, f x := Equiv.sum_comp Fin.revPerm f

theorem stC_rev (g : EReal) (Z : Fin 128 → EReal) (k v : Tab 128 256) (s : Tab 256 256) :
    stC g (fun j => Z j.rev) k v s = stC g Z (fun j => k j.rev) (fun j => v j.rev) s := by
  funext d e
  show _ + _ = _ + _
  rw [← sum_rev (fun x => k x.rev d * Z x * v x.rev e)]
  simp only [Fin.rev_rev]

theorem outC_rev (D : Fin 128 → Fin 128 → EReal) (X : Fin 128 → EReal) (q k v : Tab 128 256) (s : Tab 256 256) (i : Fin 128) (e : Fin 256) :
    outC (fun i j => D i.rev j.rev) (fun i => X i.rev) q k v s i e
      = outC D X (fun j => q j.rev) (fun j => k j.rev) (fun j => v j.rev) s i.rev e := by
  unfold outC
  rw [← sum_rev (fun x => (∑ d, q i.rev.rev d * k x.rev d) * D i.rev x * v x.rev e)]
  simp only [Fin.rev_rev]

/-- One pass over the scores with the sum of two tables of decays is the sum of the two passes. -/
theorem outC_add (D D' : Fin 128 → Fin 128 → EReal) (X X' : Fin 128 → EReal) (q k v : Tab 128 256) (s s' : Tab 256 256)
    (hD : ∀ i j, 0 ≤ D i j) (hD' : ∀ i j, 0 ≤ D' i j) (i : Fin 128) (e : Fin 256) :
    ∑ x, (∑ d, q i d * k x d) * (D i x + D' i x) * v x e + (∑ d, q i d * s d e) * X i + (∑ d, q i d * s' d e) * X' i
      = outC D X q k v s i e + outC D' X' q k v s' i e := by
  have h : ∀ x, (∑ d, q i d * k x d) * (D i x + D' i x) * v x e
      = (∑ d, q i d * k x d) * D i x * v x e + (∑ d, q i d * k x d) * D' i x * v x e := fun x => by
    rw [mul_right_comm, EReal.left_distrib_of_nonneg (hD i x) (hD' i x), mul_right_comm _ (v x e), mul_right_comm _ (v x e)]
  unfold outC
  rw [Finset.sum_congr rfl fun x _ => h x, Finset.sum_add_distrib]
  ac_rfl

theorem flip_lo (q : Tab 256 256) (j : Fin 128) : opp q (lo j) = q (hi j.rev) :=
  congrArg q (Fin.ext (by simp only [lo, hi, Fin.val_rev]; omega))
theorem flip_hi (q : Tab 256 256) (j : Fin 128) : opp q (hi j) = q (lo j.rev) :=
  congrArg q (Fin.ext (by simp only [lo, hi, Fin.val_rev]; omega))

/-- The state of the opposite direction after its first chunk, on the rows in order. -/
theorem st1_flip (l : EReal) (k v : Tab 256 256) :
    stC (gch l) (fun j => zeta l j.rev) (fun j => k (hi j)) (fun j => v (hi j)) zero = st1 l (opp k) (opp v) := by
  rw [stC_rev]; unfold st1; simp only [flip_lo]
/-- The same after both chunks. -/
theorem st2_flip (l : EReal) (k v : Tab 256 256) :
    stC (gch l) (fun j => zeta l j.rev) (fun j => k (lo j)) (fun j => v (lo j)) (st1 l (opp k) (opp v)) = st2 l (opp k) (opp v) := by
  rw [stC_rev]; unfold st2; simp only [flip_hi]

theorem scan_lo (l : EReal) (q k v : Tab 256 256) (i : Fin 128) (e : Fin 256) : scan l q k v (lo i) e = outLo l q k v i e :=
  dif_pos i.isLt
theorem scan_hi (l : EReal) (q k v : Tab 256 256) (i : Fin 128) (e : Fin 256) : scan l q k v (hi i) e = outHi l q k v i e := by
  have h : ¬ (hi i).val < 128 := by show ¬ 128 + i.val < 128; omega
  refine (dif_neg h).trans (congrArg (fun j => outHi l q k v j e) (Fin.ext ?_))
  show 128 + i.val - 128 = i.val; omega

theorem lo_rev (i : Fin 128) : (lo i).rev = hi i.rev := Fin.ext (by simp only [lo, hi, Fin.val_rev]; omega)
theorem hi_rev (i : Fin 128) : (hi i).rev = lo i.rev := Fin.ext (by simp only [lo, hi, Fin.val_rev]; omega)

/-- The first chunk in one pass: both directions. -/
theorem bi_lo (lf lb : EReal) (q k v : Tab 256 256) (i : Fin 128) (e : Fin 256) :
    ∑ x, (∑ d, q (lo i) d * k (lo x) d) * (decay lf i x + decay lb i.rev x.rev) * v (lo x) e + (∑ d, q (lo i) d * zero d e) * xi lf i
      + (∑ d, q (lo i) d * st1 lb (opp k) (opp v) d e) * xi lb i.rev = bi lf lb q k v (lo i) e := by
  refine (outC_add (decay lf) (fun i j => decay lb i.rev j.rev) (xi lf) (fun i => xi lb i.rev) (fun j => q (lo j)) (fun j => k (lo j))
    (fun j => v (lo j)) zero _ (decay_nonneg lf) (fun i j => decay_nonneg lb _ _) i e).trans ?_
  unfold bi
  rw [scan_lo, lo_rev, scan_hi, outC_rev]
  unfold outLo outHi
  simp only [flip_hi]

/-- The second chunk in one pass: both directions. -/
theorem bi_hi (lf lb : EReal) (q k v : Tab 256 256) (i : Fin 128) (e : Fin 256) :
    ∑ x, (∑ d, q (hi i) d * k (hi x) d) * (decay lf i x + decay lb i.rev x.rev) * v (hi x) e + (∑ d, q (hi i) d * st1 lf k v d e) * xi lf i
      + (∑ d, q (hi i) d * zero d e) * xi lb i.rev = bi lf lb q k v (hi i) e := by
  refine (outC_add (decay lf) (fun i j => decay lb i.rev j.rev) (xi lf) (fun i => xi lb i.rev) (fun j => q (hi j)) (fun j => k (hi j))
    (fun j => v (hi j)) _ zero (decay_nonneg lf) (fun i j => decay_nonneg lb _ _) i e).trans ?_
  unfold bi
  rw [scan_hi, hi_rev, scan_lo, outC_rev]
  unfold outLo outHi
  simp only [flip_lo]

end Cert.Spec

end
-- ==== Proof.Head.lean ====
module

public import proofs.«01_k».proof.Proof.Gen.KernelIdeal.Value
public import proofs.«01_k».proof.Proof.Words
public import proofs.«01_k».proof.Proof.Spec
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret

open Cert.KernelIdeal Cert.KernelIdeal.Gen Cert.Spec

section
variable (lf lb : EReal) (Q K V : Vec Ideal S128x256 .f32) (o : Vec Ideal S128x256 .f32) (s : Vec Ideal S1x1x1x256x256 .f32)

/-- The kernel's table for both directions is the sum of the two tables. -/
theorem table_at (i j : Fin 128) : k0_pay2 (F := Ideal) lf lb (ix2 i j) = decay lf i j + decay lb i.rev j.rev := by
  refine Eq.trans (b := (if 0 ≤ pos i - pos j then Ideal.exp (max (pos i - pos j) 0 * lf) else 0)
      + (if pos i - pos j ≤ 0 then Ideal.exp (max (0 - (pos i - pos j)) 0 * lb) else 0)) ?_
    (congrArg₂ (· + ·) rfl (decay_rev lb i j))
  rw [← sub_real]
  pointwise [k0_pay2]

/-- The forward state after a chunk. -/
theorem stF_at (d e : Fin 256) : stF lf K V s (ix5 0 0 0 d e)
    = stC (gch lf) (zeta lf) (fun j d => K (ix2 j d)) (fun j e => V (ix2 j e)) (fun d e => s (ix5 0 0 0 d e)) d e := by
  unfold stC gch zeta pos
  pointwise [stF, k0_pay15, k0_pay5, k0_pay9, k0_pay3]

/-- The backward state after a chunk. -/
theorem stB_at (d e : Fin 256) : stB lb K V s (ix5 0 0 0 d e)
    = stC (gch lb) (fun j => zeta lb j.rev) (fun j d => K (ix2 j d)) (fun j e => V (ix2 j e)) (fun d e => s (ix5 0 0 0 d e)) d e := by
  have h : (fun j : Fin 128 => zeta lb j.rev) = fun j => Ideal.exp (pos j * lb) := funext fun j => (zeta_rev lb j).symm
  rw [h]
  unfold stC gch pos
  pointwise [stB, k0_pay21, k0_pay20, k0_pay10, k0_pay8, k0_pay3]

/-- A chunk's scores under the table of both directions, and the forward state. -/
theorem oF_at (i : Fin 128) (e : Fin 256) : oF lf lb Q K V s (ix2 i e)
    = ∑ x, (∑ d, Q (ix2 i d) * K (ix2 x d)) * (decay lf i x + decay lb i.rev x.rev) * V (ix2 x e)
      + (∑ d, Q (ix2 i d) * s (ix5 0 0 0 d e)) * xi lf i := by
  simp only [← table_at]
  unfold xi pos
  pointwise [oF, k0_pay16, k0_pay4, k0_pay3]

/-- The backward state added. -/
theorem oB_at (i : Fin 128) (e : Fin 256) : oB lb Q o s (ix2 i e)
    = o (ix2 i e) + (∑ d, Q (ix2 i d) * s (ix5 0 0 0 d e)) * xi lb i.rev := by
  rw [← xi_rev]
  unfold pos
  pointwise [oB, k0_pay19, k0_pay7, k0_pay6, k0_pay3]

/-- The normalised rows under gate and weight. -/
theorem fin_at (o : Vec Ideal S1x256x256 .f32) (G : Vec Ideal S256x256 .bf16) (W : Vec Ideal S1x256 .f32) (n e : Fin 256) :
    fin o G W (ix2 n e) = G (ix2 n e) * (normed (fun x => o (ix3 0 n x)) e * W (ix2 0 e)) := by
  unfold normed
  pointwise [fin, k0_pay28, k0_pay26, k0_pay27, kernelRun0_A.sl.cst_179]

theorem zero_at (d e : Fin 256) : k0_pay11 (F := Ideal) (ix5 0 0 0 d e) = 0 := by
  pointwise [k0_pay11]
end

/-! ## A head as a whole -/

section
variable (lf lb : EReal) (q k v : Tab 256 256) (Q0 Q1 K0 K1 V0 V1 : Vec Ideal S128x256 .f32)
  (hQ0 : ∀ j d, Q0 (ix2 j d) = q (lo j) d) (hQ1 : ∀ j d, Q1 (ix2 j d) = q (hi j) d)
  (hK0 : ∀ j d, K0 (ix2 j d) = k (lo j) d) (hK1 : ∀ j d, K1 (ix2 j d) = k (hi j) d)
  (hV0 : ∀ j d, V0 (ix2 j d) = v (lo j) d) (hV1 : ∀ j d, V1 (ix2 j d) = v (hi j) d)

theorem zero_tab : (fun d e => k0_pay11 (F := Ideal) (ix5 0 0 0 d e)) = Spec.zero := funext fun d => funext fun e => zero_at d e

include hK0 hV0 in
/-- The forward state after the first chunk. -/
theorem stF_one (d e : Fin 256) : stF lf K0 V0 (k0_pay11 (F := Ideal)) (ix5 0 0 0 d e) = st1 lf k v d e := by
  rw [stF_at, zero_tab]
  simp only [hK0, hV0]
  rfl

include hK0 hV0 hK1 hV1 in
/-- The forward state after both chunks. -/
theorem stF_two (d e : Fin 256) :
    stF lf K1 V1 (stF lf K0 V0 (k0_pay11 (F := Ideal))) (ix5 0 0 0 d e) = st2 lf k v d e := by
  rw [stF_at]
  simp only [stF_one lf k v K0 V0 hK0 hV0, hK1, hV1]
  rfl

include hK1 hV1 in
/-- The backward state after the second chunk. -/
theorem stB_one (d e : Fin 256) : stB lb K1 V1 (k0_pay11 (F := Ideal)) (ix5 0 0 0 d e) = st1 lb (opp k) (opp v) d e := by
  rw [stB_at, zero_tab, ← st1_flip]
  simp only [hK1, hV1]

include hK0 hV0 hK1 hV1 in
/-- The backward state after both. -/
theorem stB_two (d e : Fin 256) : stB lb K0 V0 (stB lb K1 V1 (k0_pay11 (F := Ideal))) (ix5 0 0 0 d e)
    = st2 lb (opp k) (opp v) d e := by
  rw [stB_at, ← st2_flip]
  simp only [stB_one lb k v K1 V1 hK1 hV1, hK0, hV0]

include hQ0 hK0 hV0 hK1 hV1 in
/-- The first chunk's output is both directions' output. -/
theorem head_lo (i : Fin 128) (e : Fin 256) :
    oB lb Q0 (oF lf lb Q0 K0 V0 (k0_pay11 (F := Ideal))) (stB lb K1 V1 (k0_pay11 (F := Ideal))) (ix2 i e)
      = bi lf lb q k v (lo i) e := by
  rw [oB_at, oF_at, ← bi_lo]
  simp only [stB_one lb k v K1 V1 hK1 hV1, hQ0, hK0, hV0, zero_at]
  rfl

include hQ1 hK0 hV0 hK1 hV1 in
/-- The second chunk's output is both directions' output. -/
theorem head_hi (i : Fin 128) (e : Fin 256) :
    oB lb Q1 (oF lf lb Q1 K1 V1 (stF lf K0 V0 (k0_pay11 (F := Ideal)))) (k0_pay11 (F := Ideal)) (ix2 i e)
      = bi lf lb q k v (hi i) e := by
  rw [oB_at, oF_at, ← bi_hi]
  simp only [stF_one lf k v K0 V0 hK0 hV0, hQ1, hK1, hV1, zero_at]
  rfl
end

end Cert.Ret

end
-- ==== Proof.Outs.lean ====
module

public import proofs.«01_k».proof.Proof.Gen.KernelIdeal.Value
public import proofs.«01_k».proof.Proof.Head
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret

open Cert.KernelIdeal Cert.KernelIdeal.Gen Cert.Spec

section
variable (c : Dev nD) (i : grid0.Coords) (arg2 : Memref sig .tc .smem S2x8 .f32) (harg2 : arg2.IsWhole)
  (x0 : Vec Ideal S2x8 .f32)

/-- Head 0: the forward rate. -/
theorem rateF0 (g : Fin 8) (hg : g.val = 4 * (i 1).val + 0) : kernelRun0_A.sl.r (F := Ideal) c i arg2 harg2 x0 = x0 (ix2 0 g) := by
  have hi : (i 1).val < 2 := (i 1).isLt
  unfold kernelRun0_A.sl.r
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 0#32)).toNat + 1 * 0 = 4 * (i 1).val + 0
    generalize (i 1).val = n at hi
    have : n = 0 ∨ n = 1 := by omega
    rcases this with rfl | rfl <;> rfl

/-- Head 0: the backward rate. -/
theorem rateB0 (g : Fin 8) (hg : g.val = 4 * (i 1).val + 0) : kernelRun0_A.sl.r_1 (F := Ideal) c i arg2 harg2 x0 = x0 (ix2 1 g) := by
  have hi : (i 1).val < 2 := (i 1).isLt
  unfold kernelRun0_A.sl.r_1
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 0#32)).toNat + 1 * 0 = 4 * (i 1).val + 0
    generalize (i 1).val = n at hi
    have : n = 0 ∨ n = 1 := by omega
    rcases this with rfl | rfl <;> rfl

/-- Head 1: the forward rate. -/
theorem rateF1 (g : Fin 8) (hg : g.val = 4 * (i 1).val + 1) : kernelRun0_A.sl.r_22 (F := Ideal) c i arg2 harg2 x0 = x0 (ix2 0 g) := by
  have hi : (i 1).val < 2 := (i 1).isLt
  unfold kernelRun0_A.sl.r_22
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 1#32)).toNat + 1 * 0 = 4 * (i 1).val + 1
    generalize (i 1).val = n at hi
    have : n = 0 ∨ n = 1 := by omega
    rcases this with rfl | rfl <;> rfl

/-- Head 1: the backward rate. -/
theorem rateB1 (g : Fin 8) (hg : g.val = 4 * (i 1).val + 1) : kernelRun0_A.sl.r_23 (F := Ideal) c i arg2 harg2 x0 = x0 (ix2 1 g) := by
  have hi : (i 1).val < 2 := (i 1).isLt
  unfold kernelRun0_A.sl.r_23
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 1#32)).toNat + 1 * 0 = 4 * (i 1).val + 1
    generalize (i 1).val = n at hi
    have : n = 0 ∨ n = 1 := by omega
    rcases this with rfl | rfl <;> rfl

/-- Head 2: the forward rate. -/
theorem rateF2 (g : Fin 8) (hg : g.val = 4 * (i 1).val + 2) : kernelRun0_A.sl.r_43 (F := Ideal) c i arg2 harg2 x0 = x0 (ix2 0 g) := by
  have hi : (i 1).val < 2 := (i 1).isLt
  unfold kernelRun0_A.sl.r_43
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 2#32)).toNat + 1 * 0 = 4 * (i 1).val + 2
    generalize (i 1).val = n at hi
    have : n = 0 ∨ n = 1 := by omega
    rcases this with rfl | rfl <;> rfl

/-- Head 2: the backward rate. -/
theorem rateB2 (g : Fin 8) (hg : g.val = 4 * (i 1).val + 2) : kernelRun0_A.sl.r_44 (F := Ideal) c i arg2 harg2 x0 = x0 (ix2 1 g) := by
  have hi : (i 1).val < 2 := (i 1).isLt
  unfold kernelRun0_A.sl.r_44
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 2#32)).toNat + 1 * 0 = 4 * (i 1).val + 2
    generalize (i 1).val = n at hi
    have : n = 0 ∨ n = 1 := by omega
    rcases this with rfl | rfl <;> rfl

/-- Head 3: the forward rate. -/
theorem rateF3 (g : Fin 8) (hg : g.val = 4 * (i 1).val + 3) : kernelRun0_A.sl.r_61 (F := Ideal) c i arg2 harg2 x0 = x0 (ix2 0 g) := by
  have hi : (i 1).val < 2 := (i 1).isLt
  unfold kernelRun0_A.sl.r_61
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 3#32)).toNat + 1 * 0 = 4 * (i 1).val + 3
    generalize (i 1).val = n at hi
    have : n = 0 ∨ n = 1 := by omega
    rcases this with rfl | rfl <;> rfl

/-- Head 3: the backward rate. -/
theorem rateB3 (g : Fin 8) (hg : g.val = 4 * (i 1).val + 3) : kernelRun0_A.sl.r_62 (F := Ideal) c i arg2 harg2 x0 = x0 (ix2 1 g) := by
  have hi : (i 1).val < 2 := (i 1).isLt
  unfold kernelRun0_A.sl.r_62
  refine (congrFun (harg2.read_unread x0) _).trans (congrArg x0 (funext fun b => Fin.ext ?_))
  fin_cases b
  · rfl
  · refine Eq.trans ?_ hg.symm
    show (Scalar.indexCast (Scalar.addi (Scalar.muli (BitVec.ofNat 32 (i 1).val) 4#32) 3#32)).toNat + 1 * 0 = 4 * (i 1).val + 3
    generalize (i 1).val = n at hi
    have : n = 0 ∨ n = 1 := by omega
    rcases this with rfl | rfl <;> rfl

end

/-- The columns of one head of a block of four. -/
def cols (x : Vec Ideal S256x1024 .bf16) (h : Fin 4) : Tab 256 256 := fun n d => x (ix2 n ⟨256 * h.val + d.val, by omega⟩)

section
variable (c : Dev nD) (i : grid0.Coords) (arg2 : Memref sig .tc .smem S2x8 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S1x1024 .f32) (harg7 : arg7.IsWhole) (arg8 : Memref sig .tc .vmem S256x1024 .bf16) (harg8 : arg8.IsWhole)
  (arg9 : Memref sig .tc .vmem S1x1x4x256x256 .f32) (harg9 : arg9.IsWhole) (arg10 : Memref sig .tc .vmem S1x1x4x256x256 .f32) (harg10 : arg10.IsWhole)
  (arg11 : Memref sig .tc .vmem S4x256x256 .f32) (harg11 : arg11.IsWhole)
  (x0 : Vec Ideal S2x8 .f32) (x1 x2 x3 x4 : Vec Ideal S256x1024 .bf16) (x5 : Vec Ideal S1x1024 .f32)

/-- Head 0 of a block: the forward state the kernel leaves. -/
theorem out7_0 (g : Fin 8) (hg : g.val = 4 * (i 1).val + 0) (d e : Fin 256) :
    out0_A_7 (F := Ideal) c i arg2 harg2 arg3 harg3 arg4 harg4 arg5 harg5 arg6 harg6 arg7 harg7 arg8 harg8 arg9 harg9 arg10 harg10 arg11 harg11 x0 x1 x2 x3 x4 x5 (ix5 0 0 0 d e) = st2 (x0 (ix2 0 g)) (cols x2 0) (cols x3 0) d e := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_miss 3 _ _ _ _ (show 0 ≠ 3 by decide)).trans ?_
  refine (state_miss 3 _ _ _ _ (show 0 ≠ 3 by decide)).trans ?_
  refine (state_miss 3 _ _ _ _ (show 0 ≠ 3 by decide)).trans ?_
  refine (state_miss 2 _ _ _ _ (show 0 ≠ 2 by decide)).trans ?_
  refine (state_miss 2 _ _ _ _ (show 0 ≠ 2 by decide)).trans ?_
  refine (state_miss 2 _ _ _ _ (show 0 ≠ 2 by decide)).trans ?_
  refine (state_miss 1 _ _ _ _ (show 0 ≠ 1 by decide)).trans ?_
  refine (state_miss 1 _ _ _ _ (show 0 ≠ 1 by decide)).trans ?_
  refine (state_miss 1 _ _ _ _ (show 0 ≠ 1 by decide)).trans ?_
  refine (state_hit 0 _ _ _ (ix5 0 0 0 d e) d e rfl rfl rfl).trans ?_
  refine (congrFun (congrArg (stF (kernelRun0_A.sl.r (F := Ideal) c i arg2 harg2 x0) (rd arg4 harg4 x2 0 128 inb_S256x1024_S256x256_0_0 inb_S256x256_S128x256_128_0) (rd arg5 harg5 x3 0 128 inb_S256x1024_S256x256_0_0 inb_S256x256_S128x256_128_0)) (sf0 c i arg2 harg2 arg4 harg4 arg5 harg5 arg9 x0 x2 x3)) (ix5 0 0 0 d e)).trans ?_
  rw [rateF0 c i arg2 harg2 x0 g hg]
  exact stF_two (x0 (ix2 0 g)) (cols x2 0) (cols x3 0) _ _ _ _ (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl)
    (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl) d e

/-- Head 0 of a block: the backward state the kernel leaves. -/
theorem out8_0 (g : Fin 8) (hg : g.val = 4 * (i 1).val + 0) (d e : Fin 256) :
    out0_A_8 (F := Ideal) c i arg2 harg2 arg3 harg3 arg4 harg4 arg5 harg5 arg6 harg6 arg7 harg7 arg8 harg8 arg9 harg9 arg10 harg10 arg11 harg11 x0 x1 x2 x3 x4 x5 (ix5 0 0 0 d e) = st2 (x0 (ix2 1 g)) (opp (cols x2 0)) (opp (cols x3 0)) d e := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_miss 3 _ _ _ _ (show 0 ≠ 3 by decide)).trans ?_
  refine (state_miss 3 _ _ _ _ (show 0 ≠ 3 by decide)).trans ?_
  refine (state_miss 3 _ _ _ _ (show 0 ≠ 3 by decide)).trans ?_
  refine (state_miss 2 _ _ _ _ (show 0 ≠ 2 by decide)).trans ?_
  refine (state_miss 2 _ _ _ _ (show 0 ≠ 2 by decide)).trans ?_
  refine (state_miss 2 _ _ _ _ (show 0 ≠ 2 by decide)).trans ?_
  refine (state_miss 1 _ _ _ _ (show 0 ≠ 1 by decide)).trans ?_
  refine (state_miss 1 _ _ _ _ (show 0 ≠ 1 by decide)).trans ?_
  refine (state_miss 1 _ _ _ _ (show 0 ≠ 1 by decide)).trans ?_
  refine (state_hit 0 _ _ _ (ix5 0 0 0 d e) d e rfl rfl rfl).trans ?_
  refine (congrFun (congrArg (stB (kernelRun0_A.sl.r_1 (F := Ideal) c i arg2 harg2 x0) (rd arg4 harg4 x2 0 0 inb_S256x1024_S256x256_0_0 inb_S256x256_S128x256_0_0) (rd arg5 harg5 x3 0 0 inb_S256x1024_S256x256_0_0 inb_S256x256_S128x256_0_0)) (sb0 c i arg2 harg2 arg4 harg4 arg5 harg5 arg10 x0 x2 x3)) (ix5 0 0 0 d e)).trans ?_
  rw [rateB0 c i arg2 harg2 x0 g hg]
  exact stB_two (x0 (ix2 1 g)) (cols x2 0) (cols x3 0) _ _ _ _ (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl)
    (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl) d e

/-- Head 1 of a block: the forward state the kernel leaves. -/
theorem out7_1 (g : Fin 8) (hg : g.val = 4 * (i 1).val + 1) (d e : Fin 256) :
    out0_A_7 (F := Ideal) c i arg2 harg2 arg3 harg3 arg4 harg4 arg5 harg5 arg6 harg6 arg7 harg7 arg8 harg8 arg9 harg9 arg10 harg10 arg11 harg11 x0 x1 x2 x3 x4 x5 (ix5 0 0 1 d e) = st2 (x0 (ix2 0 g)) (cols x2 1) (cols x3 1) d e := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_miss 3 _ _ _ _ (show 1 ≠ 3 by decide)).trans ?_
  refine (state_miss 3 _ _ _ _ (show 1 ≠ 3 by decide)).trans ?_
  refine (state_miss 3 _ _ _ _ (show 1 ≠ 3 by decide)).trans ?_
  refine (state_miss 2 _ _ _ _ (show 1 ≠ 2 by decide)).trans ?_
  refine (state_miss 2 _ _ _ _ (show 1 ≠ 2 by decide)).trans ?_
  refine (state_miss 2 _ _ _ _ (show 1 ≠ 2 by decide)).trans ?_
  refine (state_hit 1 _ _ _ (ix5 0 0 1 d e) d e rfl rfl rfl).trans ?_
  refine (congrFun (congrArg (stF (kernelRun0_A.sl.r_22 (F := Ideal) c i arg2 harg2 x0) (rd arg4 harg4 x2 256 128 inb_S256x1024_S256x256_0_256 inb_S256x256_S128x256_128_0) (rd arg5 harg5 x3 256 128 inb_S256x1024_S256x256_0_256 inb_S256x256_S128x256_128_0)) (sf1 c i arg2 harg2 arg4 harg4 arg5 harg5 arg9 x0 x2 x3)) (ix5 0 0 0 d e)).trans ?_
  rw [rateF1 c i arg2 harg2 x0 g hg]
  exact stF_two (x0 (ix2 0 g)) (cols x2 1) (cols x3 1) _ _ _ _ (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl)
    (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl) d e

/-- Head 1 of a block: the backward state the kernel leaves. -/
theorem out8_1 (g : Fin 8) (hg : g.val = 4 * (i 1).val + 1) (d e : Fin 256) :
    out0_A_8 (F := Ideal) c i arg2 harg2 arg3 harg3 arg4 harg4 arg5 harg5 arg6 harg6 arg7 harg7 arg8 harg8 arg9 harg9 arg10 harg10 arg11 harg11 x0 x1 x2 x3 x4 x5 (ix5 0 0 1 d e) = st2 (x0 (ix2 1 g)) (opp (cols x2 1)) (opp (cols x3 1)) d e := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_miss 3 _ _ _ _ (show 1 ≠ 3 by decide)).trans ?_
  refine (state_miss 3 _ _ _ _ (show 1 ≠ 3 by decide)).trans ?_
  refine (state_miss 3 _ _ _ _ (show 1 ≠ 3 by decide)).trans ?_
  refine (state_miss 2 _ _ _ _ (show 1 ≠ 2 by decide)).trans ?_
  refine (state_miss 2 _ _ _ _ (show 1 ≠ 2 by decide)).trans ?_
  refine (state_miss 2 _ _ _ _ (show 1 ≠ 2 by decide)).trans ?_
  refine (state_hit 1 _ _ _ (ix5 0 0 1 d e) d e rfl rfl rfl).trans ?_
  refine (congrFun (congrArg (stB (kernelRun0_A.sl.r_23 (F := Ideal) c i arg2 harg2 x0) (rd arg4 harg4 x2 256 0 inb_S256x1024_S256x256_0_256 inb_S256x256_S128x256_0_0) (rd arg5 harg5 x3 256 0 inb_S256x1024_S256x256_0_256 inb_S256x256_S128x256_0_0)) (sb1 c i arg2 harg2 arg4 harg4 arg5 harg5 arg10 x0 x2 x3)) (ix5 0 0 0 d e)).trans ?_
  rw [rateB1 c i arg2 harg2 x0 g hg]
  exact stB_two (x0 (ix2 1 g)) (cols x2 1) (cols x3 1) _ _ _ _ (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl)
    (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl) d e

/-- Head 2 of a block: the forward state the kernel leaves. -/
theorem out7_2 (g : Fin 8) (hg : g.val = 4 * (i 1).val + 2) (d e : Fin 256) :
    out0_A_7 (F := Ideal) c i arg2 harg2 arg3 harg3 arg4 harg4 arg5 harg5 arg6 harg6 arg7 harg7 arg8 harg8 arg9 harg9 arg10 harg10 arg11 harg11 x0 x1 x2 x3 x4 x5 (ix5 0 0 2 d e) = st2 (x0 (ix2 0 g)) (cols x2 2) (cols x3 2) d e := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_miss 3 _ _ _ _ (show 2 ≠ 3 by decide)).trans ?_
  refine (state_miss 3 _ _ _ _ (show 2 ≠ 3 by decide)).trans ?_
  refine (state_miss 3 _ _ _ _ (show 2 ≠ 3 by decide)).trans ?_
  refine (state_hit 2 _ _ _ (ix5 0 0 2 d e) d e rfl rfl rfl).trans ?_
  refine (congrFun (congrArg (stF (kernelRun0_A.sl.r_43 (F := Ideal) c i arg2 harg2 x0) (rd arg4 harg4 x2 512 128 inb_S256x1024_S256x256_0_512 inb_S256x256_S128x256_128_0) (rd arg5 harg5 x3 512 128 inb_S256x1024_S256x256_0_512 inb_S256x256_S128x256_128_0)) (sf2 c i arg2 harg2 arg4 harg4 arg5 harg5 arg9 x0 x2 x3)) (ix5 0 0 0 d e)).trans ?_
  rw [rateF2 c i arg2 harg2 x0 g hg]
  exact stF_two (x0 (ix2 0 g)) (cols x2 2) (cols x3 2) _ _ _ _ (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl)
    (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl) d e

/-- Head 2 of a block: the backward state the kernel leaves. -/
theorem out8_2 (g : Fin 8) (hg : g.val = 4 * (i 1).val + 2) (d e : Fin 256) :
    out0_A_8 (F := Ideal) c i arg2 harg2 arg3 harg3 arg4 harg4 arg5 harg5 arg6 harg6 arg7 harg7 arg8 harg8 arg9 harg9 arg10 harg10 arg11 harg11 x0 x1 x2 x3 x4 x5 (ix5 0 0 2 d e) = st2 (x0 (ix2 1 g)) (opp (cols x2 2)) (opp (cols x3 2)) d e := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_miss 3 _ _ _ _ (show 2 ≠ 3 by decide)).trans ?_
  refine (state_miss 3 _ _ _ _ (show 2 ≠ 3 by decide)).trans ?_
  refine (state_miss 3 _ _ _ _ (show 2 ≠ 3 by decide)).trans ?_
  refine (state_hit 2 _ _ _ (ix5 0 0 2 d e) d e rfl rfl rfl).trans ?_
  refine (congrFun (congrArg (stB (kernelRun0_A.sl.r_44 (F := Ideal) c i arg2 harg2 x0) (rd arg4 harg4 x2 512 0 inb_S256x1024_S256x256_0_512 inb_S256x256_S128x256_0_0) (rd arg5 harg5 x3 512 0 inb_S256x1024_S256x256_0_512 inb_S256x256_S128x256_0_0)) (sb2 c i arg2 harg2 arg4 harg4 arg5 harg5 arg10 x0 x2 x3)) (ix5 0 0 0 d e)).trans ?_
  rw [rateB2 c i arg2 harg2 x0 g hg]
  exact stB_two (x0 (ix2 1 g)) (cols x2 2) (cols x3 2) _ _ _ _ (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl)
    (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl) d e

/-- Head 3 of a block: the forward state the kernel leaves. -/
theorem out7_3 (g : Fin 8) (hg : g.val = 4 * (i 1).val + 3) (d e : Fin 256) :
    out0_A_7 (F := Ideal) c i arg2 harg2 arg3 harg3 arg4 harg4 arg5 harg5 arg6 harg6 arg7 harg7 arg8 harg8 arg9 harg9 arg10 harg10 arg11 harg11 x0 x1 x2 x3 x4 x5 (ix5 0 0 3 d e) = st2 (x0 (ix2 0 g)) (cols x2 3) (cols x3 3) d e := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_hit 3 _ _ _ (ix5 0 0 3 d e) d e rfl rfl rfl).trans ?_
  refine (congrFun (congrArg (stF (kernelRun0_A.sl.r_61 (F := Ideal) c i arg2 harg2 x0) (rd arg4 harg4 x2 768 128 inb_S256x1024_S256x256_0_768 inb_S256x256_S128x256_128_0) (rd arg5 harg5 x3 768 128 inb_S256x1024_S256x256_0_768 inb_S256x256_S128x256_128_0)) (sf3 c i arg2 harg2 arg4 harg4 arg5 harg5 arg9 x0 x2 x3)) (ix5 0 0 0 d e)).trans ?_
  rw [rateF3 c i arg2 harg2 x0 g hg]
  exact stF_two (x0 (ix2 0 g)) (cols x2 3) (cols x3 3) _ _ _ _ (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl)
    (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl) d e

/-- Head 3 of a block: the backward state the kernel leaves. -/
theorem out8_3 (g : Fin 8) (hg : g.val = 4 * (i 1).val + 3) (d e : Fin 256) :
    out0_A_8 (F := Ideal) c i arg2 harg2 arg3 harg3 arg4 harg4 arg5 harg5 arg6 harg6 arg7 harg7 arg8 harg8 arg9 harg9 arg10 harg10 arg11 harg11 x0 x1 x2 x3 x4 x5 (ix5 0 0 3 d e) = st2 (x0 (ix2 1 g)) (opp (cols x2 3)) (opp (cols x3 3)) d e := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (state_hit 3 _ _ _ (ix5 0 0 3 d e) d e rfl rfl rfl).trans ?_
  refine (congrFun (congrArg (stB (kernelRun0_A.sl.r_62 (F := Ideal) c i arg2 harg2 x0) (rd arg4 harg4 x2 768 0 inb_S256x1024_S256x256_0_768 inb_S256x256_S128x256_0_0) (rd arg5 harg5 x3 768 0 inb_S256x1024_S256x256_0_768 inb_S256x256_S128x256_0_0)) (sb3 c i arg2 harg2 arg4 harg4 arg5 harg5 arg10 x0 x2 x3)) (ix5 0 0 0 d e)).trans ?_
  rw [rateB3 c i arg2 harg2 x0 g hg]
  exact stB_two (x0 (ix2 1 g)) (cols x2 3) (cols x3 3) _ _ _ _ (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl)
    (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl) d e

/-- An entry outside the columns of a head's output block. -/
theorem col_miss (C : ℕ) (ih) (w) (L : List (View.Piece (Elt Ideal) S256x1024 .bf16)) (y : S256x1024.Idx) (hy : (y 1).val < C ∨ C + 256 ≤ (y 1).val) :
    View.canon (⟨Rect.unit (s := S256x1024) ![0, C] S256x256.size ih, w⟩ :: L) y = View.canon L y :=
  View.canon_cons_of_not_mem _ _ (Rect.not_mem_set_of_axis (Rect.unit (s := S256x1024) ![0, C] S256x256.size ih) y (1 : Fin 2) C 256 rfl rfl rfl hy)

/-- An entry of the columns of a head's output block. -/
theorem col_hit (C : ℕ) (ih) (w : S256x256.Idx → Elt Ideal .bf16) (L : List (View.Piece (Elt Ideal) S256x1024 .bf16)) (y : S256x1024.Idx) (n e : Fin 256)
    (y0 : (y 0).val = n.val) (y1 : (y 1).val = C + e.val) :
    View.canon (⟨Rect.unit (s := S256x1024) ![0, C] S256x256.size ih, w⟩ :: L) y = w (ix2 n e) := by
  have e1 : (Rect.unit (s := S256x1024) ![0, C] S256x256.size ih).emb (ix2 n e : S256x256.Idx) = y := by
    refine Rect.emb_eq_of_coords _ _ _ fun a => ?_
    fin_cases a
    · refine y0.trans ?_
      show n.val = 0 + 1 * n.val; omega
    · refine y1.trans ?_
      show C + e.val = C + 1 * e.val; omega
  exact (congrArg (View.canon _) e1.symm).trans (View.canon_cons_emb (Rect.unit (s := S256x1024) ![0, C] S256x256.size ih) w L _)

/-- Head 0 of a block: the output of both directions as the scratch holds it. -/
theorem ret_0 (g : Fin 8) (hg : g.val = 4 * (i 1).val + 0) (n d : Fin 256) :
    kernelRun0_A.sl.v209 (F := Ideal) c i arg2 harg2 arg3 harg3 arg4 harg4 arg5 harg5 arg9 arg10 arg11 x0 x1 x2 x3 (ix3 (0 : Fin 1) n d) = bi (x0 (ix2 0 g)) (x0 (ix2 1 g)) (cols x1 0) (cols x2 0) (cols x3 0) n d := by
  rw [← rateF0 c i arg2 harg2 x0 g hg, ← rateB0 c i arg2 harg2 x0 g hg]
  by_cases hn : n.val < 128
  · refine (lo0 c i arg2 harg2 arg3 harg3 arg4 harg4 arg5 harg5 arg9 arg10 arg11 x0 x1 x2 x3 ⟨n.val, hn⟩ d n rfl).trans ?_
    exact head_lo _ _ (cols x1 0) (cols x2 0) (cols x3 0) _ _ _ _ _ (fun j d => rd_at _ _ _ _ _ _ _ j d (lo j) ⟨256 * 0 + d.val, by omega⟩ (Nat.zero_add _).symm rfl) (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl) (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl) ⟨n.val, hn⟩ d
  · have e : n = hi ⟨n.val - 128, by omega⟩ := Fin.ext (show n.val = 128 + (n.val - 128) by omega)
    refine (hi0 c i arg2 harg2 arg3 harg3 arg4 harg4 arg5 harg5 arg9 arg10 arg11 x0 x1 x2 x3 ⟨n.val - 128, by omega⟩ d n (show n.val = 128 + (n.val - 128) by omega)).trans ?_
    refine Eq.trans ?_ (congrArg (fun n => bi (kernelRun0_A.sl.r (F := Ideal) c i arg2 harg2 x0) (kernelRun0_A.sl.r_1 (F := Ideal) c i arg2 harg2 x0) (cols x1 0) (cols x2 0) (cols x3 0) n d) e.symm)
    exact head_hi _ _ (cols x1 0) (cols x2 0) (cols x3 0) _ _ _ _ _ (fun j d => rd_at _ _ _ _ _ _ _ j d (hi j) ⟨256 * 0 + d.val, by omega⟩ rfl rfl) (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl) (fun j d => rd_at _ _ _ _ _ _ _ j d (lo j) ⟨256 * 0 + d.val, by omega⟩ (Nat.zero_add _).symm rfl) (fun j d => rd_at _ _ _ _ _ _ _ j d (hi j) ⟨256 * 0 + d.val, by omega⟩ rfl rfl) ⟨n.val - 128, by omega⟩ d

/-- Head 0 of a block: the rows normalised, under gate and weight. -/
theorem out6_0 (g : Fin 8) (hg : g.val = 4 * (i 1).val + 0) (n e : Fin 256) (E : Fin 1024) (hE : E.val = 256 * 0 + e.val) :
    out0_A_6 (F := Ideal) c i arg2 harg2 arg3 harg3 arg4 harg4 arg5 harg5 arg6 harg6 arg7 harg7 arg8 harg8 arg9 harg9 arg10 harg10 arg11 harg11 x0 x1 x2 x3 x4 x5 (ix2 n E)
      = x4 (ix2 n E) * (normed (fun x => bi (x0 (ix2 0 g)) (x0 (ix2 1 g)) (cols x1 0) (cols x2 0) (cols x3 0) n x) e * x5 (ix2 0 E)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (col_miss 768 _ _ _ _ (Or.inl (show E.val < 768 by omega))).trans ?_
  refine (col_miss 512 _ _ _ _ (Or.inl (show E.val < 512 by omega))).trans ?_
  refine (col_miss 256 _ _ _ _ (Or.inl (show E.val < 256 by omega))).trans ?_
  refine (col_hit 0 _ _ _ (ix2 n E) n e rfl hE).trans ?_
  refine (fin_at (kernelRun0_A.sl.v209 (F := Ideal) c i arg2 harg2 arg3 harg3 arg4 harg4 arg5 harg5 arg9 arg10 arg11 x0 x1 x2 x3) _ _ n e).trans ?_
  simp only [ret_0 c i arg2 harg2 arg3 harg3 arg4 harg4 arg5 harg5 arg9 arg10 arg11 x0 x1 x2 x3 g hg]
  refine congrArg₂ (· * ·) ?_ (congrArg₂ (· * ·) rfl ?_)
  · refine (congrFun (harg6.read_unread x4) _).trans (congrArg x4 (funext fun b => Fin.ext ?_))
    fin_cases b
    · exact (show 0 + 1 * n.val = n.val by omega)
    · exact (show 0 + 1 * e.val = E.val by omega)
  · refine (congrFun (harg7.read_unread x5) _).trans (congrArg x5 (funext fun b => Fin.ext ?_))
    fin_cases b
    · rfl
    · exact (show 0 + 1 * e.val = E.val by omega)

/-- Head 1 of a block: the output of both directions as the scratch holds it. -/
theorem ret_1 (g : Fin 8) (hg : g.val = 4 * (i 1).val + 1) (n d : Fin 256) :
    kernelRun0_A.sl.v445 (F := Ideal) c i arg2 harg2 arg3 harg3 arg4 harg4 arg5 harg5 arg9 arg10 arg11 x0 x1 x2 x3 (ix3 (0 : Fin 1) n d) = bi (x0 (ix2 0 g)) (x0 (ix2 1 g)) (cols x1 1) (cols x2 1) (cols x3 1) n d := by
  rw [← rateF1 c i arg2 harg2 x0 g hg, ← rateB1 c i arg2 harg2 x0 g hg]
  by_cases hn : n.val < 128
  · refine (lo1 c i arg2 harg2 arg3 harg3 arg4 harg4 arg5 harg5 arg9 arg10 arg11 x0 x1 x2 x3 ⟨n.val, hn⟩ d n rfl).trans ?_
    exact head_lo _ _ (cols x1 1) (cols x2 1) (cols x3 1) _ _ _ _ _ (fun j d => rd_at _ _ _ _ _ _ _ j d (lo j) ⟨256 * 1 + d.val, by omega⟩ (Nat.zero_add _).symm rfl) (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl) (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl) ⟨n.val, hn⟩ d
  · have e : n = hi ⟨n.val - 128, by omega⟩ := Fin.ext (show n.val = 128 + (n.val - 128) by omega)
    refine (hi1 c i arg2 harg2 arg3 harg3 arg4 harg4 arg5 harg5 arg9 arg10 arg11 x0 x1 x2 x3 ⟨n.val - 128, by omega⟩ d n (show n.val = 128 + (n.val - 128) by omega)).trans ?_
    refine Eq.trans ?_ (congrArg (fun n => bi (kernelRun0_A.sl.r_22 (F := Ideal) c i arg2 harg2 x0) (kernelRun0_A.sl.r_23 (F := Ideal) c i arg2 harg2 x0) (cols x1 1) (cols x2 1) (cols x3 1) n d) e.symm)
    exact head_hi _ _ (cols x1 1) (cols x2 1) (cols x3 1) _ _ _ _ _ (fun j d => rd_at _ _ _ _ _ _ _ j d (hi j) ⟨256 * 1 + d.val, by omega⟩ rfl rfl) (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl) (fun j d => rd_at _ _ _ _ _ _ _ j d (lo j) ⟨256 * 1 + d.val, by omega⟩ (Nat.zero_add _).symm rfl) (fun j d => rd_at _ _ _ _ _ _ _ j d (hi j) ⟨256 * 1 + d.val, by omega⟩ rfl rfl) ⟨n.val - 128, by omega⟩ d

/-- Head 1 of a block: the rows normalised, under gate and weight. -/
theorem out6_1 (g : Fin 8) (hg : g.val = 4 * (i 1).val + 1) (n e : Fin 256) (E : Fin 1024) (hE : E.val = 256 * 1 + e.val) :
    out0_A_6 (F := Ideal) c i arg2 harg2 arg3 harg3 arg4 harg4 arg5 harg5 arg6 harg6 arg7 harg7 arg8 harg8 arg9 harg9 arg10 harg10 arg11 harg11 x0 x1 x2 x3 x4 x5 (ix2 n E)
      = x4 (ix2 n E) * (normed (fun x => bi (x0 (ix2 0 g)) (x0 (ix2 1 g)) (cols x1 1) (cols x2 1) (cols x3 1) n x) e * x5 (ix2 0 E)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (col_miss 768 _ _ _ _ (Or.inl (show E.val < 768 by omega))).trans ?_
  refine (col_miss 512 _ _ _ _ (Or.inl (show E.val < 512 by omega))).trans ?_
  refine (col_hit 256 _ _ _ (ix2 n E) n e rfl hE).trans ?_
  refine (fin_at (kernelRun0_A.sl.v445 (F := Ideal) c i arg2 harg2 arg3 harg3 arg4 harg4 arg5 harg5 arg9 arg10 arg11 x0 x1 x2 x3) _ _ n e).trans ?_
  simp only [ret_1 c i arg2 harg2 arg3 harg3 arg4 harg4 arg5 harg5 arg9 arg10 arg11 x0 x1 x2 x3 g hg]
  refine congrArg₂ (· * ·) ?_ (congrArg₂ (· * ·) rfl ?_)
  · refine (congrFun (harg6.read_unread x4) _).trans (congrArg x4 (funext fun b => Fin.ext ?_))
    fin_cases b
    · exact (show 0 + 1 * n.val = n.val by omega)
    · exact (show 256 + 1 * e.val = E.val by omega)
  · refine (congrFun (harg7.read_unread x5) _).trans (congrArg x5 (funext fun b => Fin.ext ?_))
    fin_cases b
    · rfl
    · exact (show 256 + 1 * e.val = E.val by omega)

/-- Head 2 of a block: the output of both directions as the scratch holds it. -/
theorem ret_2 (g : Fin 8) (hg : g.val = 4 * (i 1).val + 2) (n d : Fin 256) :
    kernelRun0_A.sl.v681 (F := Ideal) c i arg2 harg2 arg3 harg3 arg4 harg4 arg5 harg5 arg9 arg10 arg11 x0 x1 x2 x3 (ix3 (0 : Fin 1) n d) = bi (x0 (ix2 0 g)) (x0 (ix2 1 g)) (cols x1 2) (cols x2 2) (cols x3 2) n d := by
  rw [← rateF2 c i arg2 harg2 x0 g hg, ← rateB2 c i arg2 harg2 x0 g hg]
  by_cases hn : n.val < 128
  · refine (lo2 c i arg2 harg2 arg3 harg3 arg4 harg4 arg5 harg5 arg9 arg10 arg11 x0 x1 x2 x3 ⟨n.val, hn⟩ d n rfl).trans ?_
    exact head_lo _ _ (cols x1 2) (cols x2 2) (cols x3 2) _ _ _ _ _ (fun j d => rd_at _ _ _ _ _ _ _ j d (lo j) ⟨256 * 2 + d.val, by omega⟩ (Nat.zero_add _).symm rfl) (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl) (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl) ⟨n.val, hn⟩ d
  · have e : n = hi ⟨n.val - 128, by omega⟩ := Fin.ext (show n.val = 128 + (n.val - 128) by omega)
    refine (hi2 c i arg2 harg2 arg3 harg3 arg4 harg4 arg5 harg5 arg9 arg10 arg11 x0 x1 x2 x3 ⟨n.val - 128, by omega⟩ d n (show n.val = 128 + (n.val - 128) by omega)).trans ?_
    refine Eq.trans ?_ (congrArg (fun n => bi (kernelRun0_A.sl.r_43 (F := Ideal) c i arg2 harg2 x0) (kernelRun0_A.sl.r_44 (F := Ideal) c i arg2 harg2 x0) (cols x1 2) (cols x2 2) (cols x3 2) n d) e.symm)
    exact head_hi _ _ (cols x1 2) (cols x2 2) (cols x3 2) _ _ _ _ _ (fun j d => rd_at _ _ _ _ _ _ _ j d (hi j) ⟨256 * 2 + d.val, by omega⟩ rfl rfl) (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl) (fun j d => rd_at _ _ _ _ _ _ _ j d (lo j) ⟨256 * 2 + d.val, by omega⟩ (Nat.zero_add _).symm rfl) (fun j d => rd_at _ _ _ _ _ _ _ j d (hi j) ⟨256 * 2 + d.val, by omega⟩ rfl rfl) ⟨n.val - 128, by omega⟩ d

/-- Head 2 of a block: the rows normalised, under gate and weight. -/
theorem out6_2 (g : Fin 8) (hg : g.val = 4 * (i 1).val + 2) (n e : Fin 256) (E : Fin 1024) (hE : E.val = 256 * 2 + e.val) :
    out0_A_6 (F := Ideal) c i arg2 harg2 arg3 harg3 arg4 harg4 arg5 harg5 arg6 harg6 arg7 harg7 arg8 harg8 arg9 harg9 arg10 harg10 arg11 harg11 x0 x1 x2 x3 x4 x5 (ix2 n E)
      = x4 (ix2 n E) * (normed (fun x => bi (x0 (ix2 0 g)) (x0 (ix2 1 g)) (cols x1 2) (cols x2 2) (cols x3 2) n x) e * x5 (ix2 0 E)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (col_miss 768 _ _ _ _ (Or.inl (show E.val < 768 by omega))).trans ?_
  refine (col_hit 512 _ _ _ (ix2 n E) n e rfl hE).trans ?_
  refine (fin_at (kernelRun0_A.sl.v681 (F := Ideal) c i arg2 harg2 arg3 harg3 arg4 harg4 arg5 harg5 arg9 arg10 arg11 x0 x1 x2 x3) _ _ n e).trans ?_
  simp only [ret_2 c i arg2 harg2 arg3 harg3 arg4 harg4 arg5 harg5 arg9 arg10 arg11 x0 x1 x2 x3 g hg]
  refine congrArg₂ (· * ·) ?_ (congrArg₂ (· * ·) rfl ?_)
  · refine (congrFun (harg6.read_unread x4) _).trans (congrArg x4 (funext fun b => Fin.ext ?_))
    fin_cases b
    · exact (show 0 + 1 * n.val = n.val by omega)
    · exact (show 512 + 1 * e.val = E.val by omega)
  · refine (congrFun (harg7.read_unread x5) _).trans (congrArg x5 (funext fun b => Fin.ext ?_))
    fin_cases b
    · rfl
    · exact (show 512 + 1 * e.val = E.val by omega)

/-- Head 3 of a block: the output of both directions as the scratch holds it. -/
theorem ret_3 (g : Fin 8) (hg : g.val = 4 * (i 1).val + 3) (n d : Fin 256) :
    kernelRun0_A.sl.v917 (F := Ideal) c i arg2 harg2 arg3 harg3 arg4 harg4 arg5 harg5 arg9 arg10 arg11 x0 x1 x2 x3 (ix3 (0 : Fin 1) n d) = bi (x0 (ix2 0 g)) (x0 (ix2 1 g)) (cols x1 3) (cols x2 3) (cols x3 3) n d := by
  rw [← rateF3 c i arg2 harg2 x0 g hg, ← rateB3 c i arg2 harg2 x0 g hg]
  by_cases hn : n.val < 128
  · refine (lo3 c i arg2 harg2 arg3 harg3 arg4 harg4 arg5 harg5 arg9 arg10 arg11 x0 x1 x2 x3 ⟨n.val, hn⟩ d n rfl).trans ?_
    exact head_lo _ _ (cols x1 3) (cols x2 3) (cols x3 3) _ _ _ _ _ (fun j d => rd_at _ _ _ _ _ _ _ j d (lo j) ⟨256 * 3 + d.val, by omega⟩ (Nat.zero_add _).symm rfl) (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl) (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl) ⟨n.val, hn⟩ d
  · have e : n = hi ⟨n.val - 128, by omega⟩ := Fin.ext (show n.val = 128 + (n.val - 128) by omega)
    refine (hi3 c i arg2 harg2 arg3 harg3 arg4 harg4 arg5 harg5 arg9 arg10 arg11 x0 x1 x2 x3 ⟨n.val - 128, by omega⟩ d n (show n.val = 128 + (n.val - 128) by omega)).trans ?_
    refine Eq.trans ?_ (congrArg (fun n => bi (kernelRun0_A.sl.r_61 (F := Ideal) c i arg2 harg2 x0) (kernelRun0_A.sl.r_62 (F := Ideal) c i arg2 harg2 x0) (cols x1 3) (cols x2 3) (cols x3 3) n d) e.symm)
    exact head_hi _ _ (cols x1 3) (cols x2 3) (cols x3 3) _ _ _ _ _ (fun j d => rd_at _ _ _ _ _ _ _ j d (hi j) ⟨256 * 3 + d.val, by omega⟩ rfl rfl) (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl) (fun j d => rd_at _ _ _ _ _ _ _ j d (lo j) ⟨256 * 3 + d.val, by omega⟩ (Nat.zero_add _).symm rfl) (fun j d => rd_at _ _ _ _ _ _ _ j d (hi j) ⟨256 * 3 + d.val, by omega⟩ rfl rfl) ⟨n.val - 128, by omega⟩ d

/-- Head 3 of a block: the rows normalised, under gate and weight. -/
theorem out6_3 (g : Fin 8) (hg : g.val = 4 * (i 1).val + 3) (n e : Fin 256) (E : Fin 1024) (hE : E.val = 256 * 3 + e.val) :
    out0_A_6 (F := Ideal) c i arg2 harg2 arg3 harg3 arg4 harg4 arg5 harg5 arg6 harg6 arg7 harg7 arg8 harg8 arg9 harg9 arg10 harg10 arg11 harg11 x0 x1 x2 x3 x4 x5 (ix2 n E)
      = x4 (ix2 n E) * (normed (fun x => bi (x0 (ix2 0 g)) (x0 (ix2 1 g)) (cols x1 3) (cols x2 3) (cols x3 3) n x) e * x5 (ix2 0 E)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  refine (col_hit 768 _ _ _ (ix2 n E) n e rfl hE).trans ?_
  refine (fin_at (kernelRun0_A.sl.v917 (F := Ideal) c i arg2 harg2 arg3 harg3 arg4 harg4 arg5 harg5 arg9 arg10 arg11 x0 x1 x2 x3) _ _ n e).trans ?_
  simp only [ret_3 c i arg2 harg2 arg3 harg3 arg4 harg4 arg5 harg5 arg9 arg10 arg11 x0 x1 x2 x3 g hg]
  refine congrArg₂ (· * ·) ?_ (congrArg₂ (· * ·) rfl ?_)
  · refine (congrFun (harg6.read_unread x4) _).trans (congrArg x4 (funext fun b => Fin.ext ?_))
    fin_cases b
    · exact (show 0 + 1 * n.val = n.val by omega)
    · exact (show 768 + 1 * e.val = E.val by omega)
  · refine (congrFun (harg7.read_unread x5) _).trans (congrArg x5 (funext fun b => Fin.ext ?_))
    fin_cases b
    · rfl
    · exact (show 768 + 1 * e.val = E.val by omega)

/-- Every head of a block: the rows normalised, under gate and weight. -/
theorem out6 (h : Fin 4) (g : Fin 8) (hg : g.val = 4 * (i 1).val + h.val) (n e : Fin 256) (E : Fin 1024) (hE : E.val = 256 * h.val + e.val) :
    out0_A_6 (F := Ideal) c i arg2 harg2 arg3 harg3 arg4 harg4 arg5 harg5 arg6 harg6 arg7 harg7 arg8 harg8 arg9 harg9 arg10 harg10 arg11 harg11 x0 x1 x2 x3 x4 x5 (ix2 n E)
      = x4 (ix2 n E) * (normed (fun x => bi (x0 (ix2 0 g)) (x0 (ix2 1 g)) (cols x1 h) (cols x2 h) (cols x3 h) n x) e * x5 (ix2 0 E)) := by
  fin_cases h

  · exact out6_0 c i arg2 harg2 arg3 harg3 arg4 harg4 arg5 harg5 arg6 harg6 arg7 harg7 arg8 harg8 arg9 harg9 arg10 harg10 arg11 harg11 x0 x1 x2 x3 x4 x5 g hg n e E hE
  · exact out6_1 c i arg2 harg2 arg3 harg3 arg4 harg4 arg5 harg5 arg6 harg6 arg7 harg7 arg8 harg8 arg9 harg9 arg10 harg10 arg11 harg11 x0 x1 x2 x3 x4 x5 g hg n e E hE
  · exact out6_2 c i arg2 harg2 arg3 harg3 arg4 harg4 arg5 harg5 arg6 harg6 arg7 harg7 arg8 harg8 arg9 harg9 arg10 harg10 arg11 harg11 x0 x1 x2 x3 x4 x5 g hg n e E hE
  · exact out6_3 c i arg2 harg2 arg3 harg3 arg4 harg4 arg5 harg5 arg6 harg6 arg7 harg7 arg8 harg8 arg9 harg9 arg10 harg10 arg11 harg11 x0 x1 x2 x3 x4 x5 g hg n e E hE

/-- Every head of a block: the forward state. -/
theorem out7 (h : Fin 4) (g : Fin 8) (hg : g.val = 4 * (i 1).val + h.val) (d e : Fin 256) :
    out0_A_7 (F := Ideal) c i arg2 harg2 arg3 harg3 arg4 harg4 arg5 harg5 arg6 harg6 arg7 harg7 arg8 harg8 arg9 harg9 arg10 harg10 arg11 harg11 x0 x1 x2 x3 x4 x5 (ix5 0 0 h d e) = st2 (x0 (ix2 0 g)) (cols x2 h) (cols x3 h) d e := by
  fin_cases h
  · exact out7_0 c i arg2 harg2 arg3 harg3 arg4 harg4 arg5 harg5 arg6 harg6 arg7 harg7 arg8 harg8 arg9 harg9 arg10 harg10 arg11 harg11 x0 x1 x2 x3 x4 x5 g hg d e
  · exact out7_1 c i arg2 harg2 arg3 harg3 arg4 harg4 arg5 harg5 arg6 harg6 arg7 harg7 arg8 harg8 arg9 harg9 arg10 harg10 arg11 harg11 x0 x1 x2 x3 x4 x5 g hg d e
  · exact out7_2 c i arg2 harg2 arg3 harg3 arg4 harg4 arg5 harg5 arg6 harg6 arg7 harg7 arg8 harg8 arg9 harg9 arg10 harg10 arg11 harg11 x0 x1 x2 x3 x4 x5 g hg d e
  · exact out7_3 c i arg2 harg2 arg3 harg3 arg4 harg4 arg5 harg5 arg6 harg6 arg7 harg7 arg8 harg8 arg9 harg9 arg10 harg10 arg11 harg11 x0 x1 x2 x3 x4 x5 g hg d e

/-- Every head of a block: the backward state. -/
theorem out8 (h : Fin 4) (g : Fin 8) (hg : g.val = 4 * (i 1).val + h.val) (d e : Fin 256) :
    out0_A_8 (F := Ideal) c i arg2 harg2 arg3 harg3 arg4 harg4 arg5 harg5 arg6 harg6 arg7 harg7 arg8 harg8 arg9 harg9 arg10 harg10 arg11 harg11 x0 x1 x2 x3 x4 x5 (ix5 0 0 h d e) = st2 (x0 (ix2 1 g)) (opp (cols x2 h)) (opp (cols x3 h)) d e := by
  fin_cases h
  · exact out8_0 c i arg2 harg2 arg3 harg3 arg4 harg4 arg5 harg5 arg6 harg6 arg7 harg7 arg8 harg8 arg9 harg9 arg10 harg10 arg11 harg11 x0 x1 x2 x3 x4 x5 g hg d e
  · exact out8_1 c i arg2 harg2 arg3 harg3 arg4 harg4 arg5 harg5 arg6 harg6 arg7 harg7 arg8 harg8 arg9 harg9 arg10 harg10 arg11 harg11 x0 x1 x2 x3 x4 x5 g hg d e
  · exact out8_2 c i arg2 harg2 arg3 harg3 arg4 harg4 arg5 harg5 arg6 harg6 arg7 harg7 arg8 harg8 arg9 harg9 arg10 harg10 arg11 harg11 x0 x1 x2 x3 x4 x5 g hg d e
  · exact out8_3 c i arg2 harg2 arg3 harg3 arg4 harg4 arg5 harg5 arg6 harg6 arg7 harg7 arg8 harg8 arg9 harg9 arg10 harg10 arg11 harg11 x0 x1 x2 x3 x4 x5 g hg d e
end

end Cert.Ret

end
-- ==== Proof.Ref.lean ====
module

public import proofs.«01_k».proof.Proof.Gen.ReferenceIdeal.Run
public import proofs.«01_k».proof.Proof.Gen.ReferenceIdeal.Read
public import proofs.«01_k».proof.Proof.Spec
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.RetR

open Cert.ReferenceIdeal Cert.ReferenceIdeal.Gen Cert.ReferenceIdeal.Read Cert.Spec

variable (x0 : (⟨S8192x8192, .bf16⟩ : BufTy).Contents (Elt Ideal)) (x1 x2 : (⟨S1x8, .f32⟩ : BufTy).Contents (Elt Ideal))
  (x3 : (⟨S1x2048, .f32⟩ : BufTy).Contents (Elt Ideal))

/-- The queries, keys and values of one sequence and head. -/
def qT (b : Fin 16) (h : Fin 8) : Tab 256 256 := fun n d => x0 (ix2 ⟨b.val * 256 + n.val, by omega⟩ ⟨h.val * 256 + d.val, by omega⟩)
def kT (b : Fin 16) (h : Fin 8) : Tab 256 256 := fun n d => x0 (ix2 ⟨b.val * 256 + n.val, by omega⟩ ⟨2048 + (h.val * 256 + d.val), by omega⟩)
def vT (b : Fin 16) (h : Fin 8) : Tab 256 256 := fun n d => x0 (ix2 ⟨b.val * 256 + n.val, by omega⟩ ⟨4096 + (h.val * 256 + d.val), by omega⟩)

/-- The rate of a head in either direction. -/
def lF (h : Fin 8) : EReal := val_main_v16 (F := Ideal) x1 (ix1 h)
def lB (h : Fin 8) : EReal := val_main_v18 (F := Ideal) x2 (ix1 h)

/-- The queries of a sequence and head. -/
theorem q_at (b : Fin 16) (h : Fin 8) (n d : Fin 256) : val_main_v8 (F := Ideal) x0 (ix4 b h n d) = qT x0 b h n d := by
  unfold qT
  pointwise [val_main_v0, val_main_v1, val_main_v2, val_main_v3, val_main_v4, val_main_v5, val_main_v6, val_main_v7, val_main_v8]

/-- The keys of a sequence and head. -/
theorem k_at (b : Fin 16) (h : Fin 8) (n d : Fin 256) : val_main_v10 (F := Ideal) x0 (ix4 b h n d) = kT x0 b h n d := by
  unfold kT
  pointwise [val_main_v0, val_main_v1, val_main_v2, val_main_v3, val_main_v4, val_main_v5, val_main_v6, val_main_v7, val_main_v8, val_main_v9, val_main_v10]

/-- The values of a sequence and head. -/
theorem v_at (b : Fin 16) (h : Fin 8) (n d : Fin 256) : val_main_v12 (F := Ideal) x0 (ix4 b h n d) = vT x0 b h n d := by
  unfold vT
  pointwise [val_main_v0, val_main_v1, val_main_v2, val_main_v3, val_main_v4, val_main_v5, val_main_v6, val_main_v7, val_main_v8, val_main_v9, val_main_v10, val_main_v11, val_main_v12]

/-- The decay within a chunk. -/
theorem decF (h : Fin 8) (i j : Fin 128) : val_main_v35 (F := Ideal) x1 (ix3 h i j) = decay (lF x1 h) i j := by
  have e : val_main_v35 (F := Ideal) x1 (ix3 h i j) = if 0 ≤ pos i - pos j then Ideal.exp (max (pos i - pos j) 0 * val_main_v16 (F := Ideal) x1 (ix1 h))
      else id (constant (F := Ideal) S_ FTy.f32 0#32) ix0 := by
    unfold pos
    pointwise [val_main_v19, val_main_v20, val_main_v21, val_main_v22, val_main_v23, val_main_v24, val_main_v25, val_main_v26, val_main_v27, val_main_v28, val_main_v29, val_main_v30, val_main_v31, val_main_v32, val_main_v33, val_main_v34, val_main_v35, val_main_v19, val_main_cst_1, val_main_cst_2, val_main_cst_3, val_main_call2_v0, val_main_call2_v1, val_main_call2_v2]
  have z : id (constant (F := Ideal) S_ FTy.f32 0#32) ix0 = (0 : EReal) := by
    show Ideal.ofBits .f32 0#32 = 0
    simp [Ideal.ofBits, Ideal.ieee]
  rw [e, z]; rfl

/-- The state's decay up to a row. -/
theorem xiF (h : Fin 8) (i : Fin 128) : val_main_v44 (F := Ideal) x1 (ix4 (0 : Fin 1) h i (0 : Fin 1)) = xi (lF x1 h) i := by
  unfold xi lF pos
  pointwise [val_main_v36, val_main_v37, val_main_v38, val_main_v39, val_main_v40, val_main_v41, val_main_v42, val_main_v43, val_main_v44, val_main_v19, val_main_cst_4]

/-- The decay from a row to the chunk's end. -/
theorem zeF (h : Fin 8) (i : Fin 128) : val_main_v53 (F := Ideal) x1 (ix4 (0 : Fin 1) h i (0 : Fin 1)) = zeta (lF x1 h) i := by
  unfold zeta lF pos
  pointwise [val_main_v45, val_main_v46, val_main_v47, val_main_v48, val_main_v49, val_main_v50, val_main_v51, val_main_v52, val_main_v53, val_main_v19, val_main_cst_5]

/-- The decay over a chunk. -/
theorem gF (h : Fin 8) : val_main_v57 (F := Ideal) x1 (ix4 (0 : Fin 1) h (0 : Fin 1) (0 : Fin 1)) = gch (lF x1 h) := by
  unfold gch lF
  pointwise [val_main_v54, val_main_v55, val_main_v56, val_main_v57, val_main_cst_6]

/-- The decay within a chunk. -/
theorem decB (h : Fin 8) (i j : Fin 128) : val_main_v114 (F := Ideal) x2 (ix3 h i j) = decay (lB x2 h) i j := by
  have e : val_main_v114 (F := Ideal) x2 (ix3 h i j) = if 0 ≤ pos i - pos j then Ideal.exp (max (pos i - pos j) 0 * val_main_v18 (F := Ideal) x2 (ix1 h))
      else id (constant (F := Ideal) S_ FTy.f32 0#32) ix0 := by
    unfold pos
    pointwise [val_main_v98, val_main_v99, val_main_v100, val_main_v101, val_main_v102, val_main_v103, val_main_v104, val_main_v105, val_main_v106, val_main_v107, val_main_v108, val_main_v109, val_main_v110, val_main_v111, val_main_v112, val_main_v113, val_main_v114, val_main_v98, val_main_cst_7, val_main_cst_8, val_main_cst_9, val_main_call6_v0, val_main_call6_v1, val_main_call6_v2]
  have z : id (constant (F := Ideal) S_ FTy.f32 0#32) ix0 = (0 : EReal) := by
    show Ideal.ofBits .f32 0#32 = 0
    simp [Ideal.ofBits, Ideal.ieee]
  rw [e, z]; rfl

/-- The state's decay up to a row. -/
theorem xiB (h : Fin 8) (i : Fin 128) : val_main_v123 (F := Ideal) x2 (ix4 (0 : Fin 1) h i (0 : Fin 1)) = xi (lB x2 h) i := by
  unfold xi lB pos
  pointwise [val_main_v115, val_main_v116, val_main_v117, val_main_v118, val_main_v119, val_main_v120, val_main_v121, val_main_v122, val_main_v123, val_main_v98, val_main_cst_10]

/-- The decay from a row to the chunk's end. -/
theorem zeB (h : Fin 8) (i : Fin 128) : val_main_v132 (F := Ideal) x2 (ix4 (0 : Fin 1) h i (0 : Fin 1)) = zeta (lB x2 h) i := by
  unfold zeta lB pos
  pointwise [val_main_v124, val_main_v125, val_main_v126, val_main_v127, val_main_v128, val_main_v129, val_main_v130, val_main_v131, val_main_v132, val_main_v98, val_main_cst_11]

/-- The decay over a chunk. -/
theorem gB (h : Fin 8) : val_main_v136 (F := Ideal) x2 (ix4 (0 : Fin 1) h (0 : Fin 1) (0 : Fin 1)) = gch (lB x2 h) := by
  unfold gch lB
  pointwise [val_main_v133, val_main_v134, val_main_v135, val_main_v136, val_main_cst_12]

/-- The same in the opposite order. -/
theorem qR_at (b : Fin 16) (h : Fin 8) (n d : Fin 256) : val_main_v95 (F := Ideal) x0 (ix4 b h n d) = opp (qT x0 b h) n d := by
  refine (show _ = val_main_v8 (F := Ideal) x0 (ix4 b h n.rev d) from congrArg (val_main_v8 (F := Ideal) x0) ?_).trans (q_at x0 b h n.rev d)
  funext a; fin_cases a <;> rfl

/-- The same in the opposite order. -/
theorem kR_at (b : Fin 16) (h : Fin 8) (n d : Fin 256) : val_main_v96 (F := Ideal) x0 (ix4 b h n d) = opp (kT x0 b h) n d := by
  refine (show _ = val_main_v10 (F := Ideal) x0 (ix4 b h n.rev d) from congrArg (val_main_v10 (F := Ideal) x0) ?_).trans (k_at x0 b h n.rev d)
  funext a; fin_cases a <;> rfl

/-- The same in the opposite order. -/
theorem vR_at (b : Fin 16) (h : Fin 8) (n d : Fin 256) : val_main_v97 (F := Ideal) x0 (ix4 b h n d) = opp (vT x0 b h) n d := by
  refine (show _ = val_main_v12 (F := Ideal) x0 (ix4 b h n.rev d) from congrArg (val_main_v12 (F := Ideal) x0) ?_).trans (v_at x0 b h n.rev d)
  funext a; fin_cases a <;> rfl

/-- The first chunk's output. -/
theorem o0F (b : Fin 16) (h : Fin 8) (i : Fin 128) (e : Fin 256) : val_main_v69 (F := Ideal) x0 x1 (ix4 b h i e) = outLo (lF x1 h) (qT x0 b h) (kT x0 b h) (vT x0 b h) i e := by
  pointwise [val_main_v58, val_main_v59, val_main_v60, val_main_v61, val_main_v62, val_main_v63, val_main_v64, val_main_v65, val_main_v66, val_main_v67, val_main_v68, val_main_v69, val_main_v13, val_main_cst]
  simp only [q_at, k_at, v_at, decF, xiF]
  rfl

/-- The state after the first chunk. -/
theorem s0F (b : Fin 16) (h : Fin 8) (d e : Fin 256) : val_main_v75 (F := Ideal) x0 x1 (ix4 b h d e) = st1 (lF x1 h) (kT x0 b h) (vT x0 b h) d e := by
  pointwise [val_main_v70, val_main_v71, val_main_v72, val_main_v73, val_main_v74, val_main_v75, val_main_v58, val_main_v59, val_main_v60, val_main_v13, val_main_cst]
  simp only [k_at, v_at, gF, zeF]
  rfl

/-- The second chunk's output. -/
theorem o1F (b : Fin 16) (h : Fin 8) (i : Fin 128) (e : Fin 256) : val_main_v87 (F := Ideal) x0 x1 (ix4 b h i e) = outHi (lF x1 h) (qT x0 b h) (kT x0 b h) (vT x0 b h) i e := by
  pointwise [val_main_v76, val_main_v77, val_main_v78, val_main_v79, val_main_v80, val_main_v81, val_main_v82, val_main_v83, val_main_v84, val_main_v85, val_main_v86, val_main_v87]
  simp only [q_at, k_at, v_at, decF, xiF, s0F]
  rfl

/-- The state after both chunks. -/
theorem s1F (b : Fin 16) (h : Fin 8) (d e : Fin 256) : val_main_v93 (F := Ideal) x0 x1 (ix4 b h d e) = st2 (lF x1 h) (kT x0 b h) (vT x0 b h) d e := by
  pointwise [val_main_v76, val_main_v77, val_main_v78, val_main_v88, val_main_v89, val_main_v90, val_main_v91, val_main_v92, val_main_v93]
  simp only [k_at, v_at, gF, zeF, s0F]
  rfl

/-- The retention of all rows. -/
theorem scF (b : Fin 16) (h : Fin 8) (n e : Fin 256) : val_main_v94 (F := Ideal) x0 x1 (ix4 b h n e) = scan (lF x1 h) (qT x0 b h) (kT x0 b h) (vT x0 b h) n e := by
  pointwise [val_main_v94]
  simp only [o0F, o1F]
  rfl

/-- The first chunk's output. -/
theorem o0B (b : Fin 16) (h : Fin 8) (i : Fin 128) (e : Fin 256) : val_main_v148 (F := Ideal) x0 x2 (ix4 b h i e) = outLo (lB x2 h) (opp (qT x0 b h)) (opp (kT x0 b h)) (opp (vT x0 b h)) i e := by
  pointwise [val_main_v137, val_main_v138, val_main_v139, val_main_v140, val_main_v141, val_main_v142, val_main_v143, val_main_v144, val_main_v145, val_main_v146, val_main_v147, val_main_v148, val_main_v14, val_main_cst_0]
  simp only [qR_at, kR_at, vR_at, decB, xiB]
  rfl

/-- The state after the first chunk. -/
theorem s0B (b : Fin 16) (h : Fin 8) (d e : Fin 256) : val_main_v154 (F := Ideal) x0 x2 (ix4 b h d e) = st1 (lB x2 h) (opp (kT x0 b h)) (opp (vT x0 b h)) d e := by
  pointwise [val_main_v149, val_main_v150, val_main_v151, val_main_v152, val_main_v153, val_main_v154, val_main_v137, val_main_v138, val_main_v139, val_main_v14, val_main_cst_0]
  simp only [kR_at, vR_at, gB, zeB]
  rfl

/-- The second chunk's output. -/
theorem o1B (b : Fin 16) (h : Fin 8) (i : Fin 128) (e : Fin 256) : val_main_v166 (F := Ideal) x0 x2 (ix4 b h i e) = outHi (lB x2 h) (opp (qT x0 b h)) (opp (kT x0 b h)) (opp (vT x0 b h)) i e := by
  pointwise [val_main_v155, val_main_v156, val_main_v157, val_main_v158, val_main_v159, val_main_v160, val_main_v161, val_main_v162, val_main_v163, val_main_v164, val_main_v165, val_main_v166]
  simp only [qR_at, kR_at, vR_at, decB, xiB, s0B]
  rfl

/-- The state after both chunks. -/
theorem s1B (b : Fin 16) (h : Fin 8) (d e : Fin 256) : val_main_v172 (F := Ideal) x0 x2 (ix4 b h d e) = st2 (lB x2 h) (opp (kT x0 b h)) (opp (vT x0 b h)) d e := by
  pointwise [val_main_v155, val_main_v156, val_main_v157, val_main_v167, val_main_v168, val_main_v169, val_main_v170, val_main_v171, val_main_v172]
  simp only [kR_at, vR_at, gB, zeB, s0B]
  rfl

/-- The retention of all rows. -/
theorem scB (b : Fin 16) (h : Fin 8) (n e : Fin 256) : val_main_v173 (F := Ideal) x0 x2 (ix4 b h n e) = scan (lB x2 h) (opp (qT x0 b h)) (opp (kT x0 b h)) (opp (vT x0 b h)) n e := by
  pointwise [val_main_v173]
  simp only [o0B, o1B]
  rfl

theorem ix2_congr {a b : ℕ} {x x' : Fin a} {y y' : Fin b} (h0 : x = x') (h1 : y = y') :
    (ix2 x y : (⟨2, ![a, b]⟩ : Shape).Idx) = ix2 x' y' := by subst h0 h1; rfl
theorem ix4_congr {a b c d : ℕ} {x x' : Fin a} {y y' : Fin b} {z z' : Fin c} {w w' : Fin d} (h0 : x = x') (h1 : y = y') (h2 : z = z')
    (h3 : w = w') : (ix4 x y z w : (⟨4, ![a, b, c, d]⟩ : Shape).Idx) = ix4 x' y' z' w' := by subst h0 h1 h2 h3; rfl

/-- The reverse of the rows read at an index. -/
theorem reverse_at (f : (⟨S16x8x256x256, .f32⟩ : BufTy).Contents (Elt Ideal)) (b : Fin 16) (h : Fin 8) (n e : Fin 256) :
    Host.reverse (s := S16x8x256x256) [2] f (ix4 b h n e) = f (ix4 b h n.rev e) := by
  unfold Host.reverse
  exact congrArg f (by funext a; fin_cases a <;> rfl)

/-- Both directions. -/
theorem both (b : Fin 16) (h : Fin 8) (n e : Fin 256) : val_main_v175 (F := Ideal) x0 x1 x2 (ix4 b h n e)
    = bi (lF x1 h) (lB x2 h) (qT x0 b h) (kT x0 b h) (vT x0 b h) n e := by
  have r : val_main_v174 (F := Ideal) x0 x2 (ix4 b h n e) = val_main_v173 (F := Ideal) x0 x2 (ix4 b h n.rev e) :=
    reverse_at (val_main_v173 (F := Ideal) x0 x2) b h n e
  refine (show _ = val_main_v94 (F := Ideal) x0 x1 (ix4 b h n e) + val_main_v174 (F := Ideal) x0 x2 (ix4 b h n e) from rfl).trans ?_
  rw [r, scF, scB]; rfl

/-- Every row of the heads normalised. -/
theorem ln_at (b : Fin 16) (h : Fin 8) (n e : Fin 256) : val_main_v193 (F := Ideal) x0 x1 x2 (ix4 b h n e)
    = normed (fun x => bi (lF x1 h) (lB x2 h) (qT x0 b h) (kT x0 b h) (vT x0 b h) n x) e := by
  simp only [← both]
  unfold normed
  pointwise [val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_cst_13, val_main_cst_14, val_main_cst_15, val_main_cst_16, val_main_cst_17]

/-- The first result: gate, norm and weight. -/
theorem out_at (b : Fin 16) (h : Fin 8) (n e : Fin 256) (N : Fin 4096) (E : Fin 2048) (hN : N.val = b.val * 256 + n.val) (hE : E.val = h.val * 256 + e.val) :
    val_main_v202 (F := Ideal) x0 x1 x2 x3 (ix2 N E)
    = x0 (ix2 ⟨b.val * 256 + n.val, by omega⟩ ⟨6144 + (h.val * 256 + e.val), by omega⟩)
      * (normed (fun x => bi (lF x1 h) (lB x2 h) (qT x0 b h) (kT x0 b h) (vT x0 b h) n x) e * x3 (ix2 0 E)) := by
  rw [← ln_at]
  pointwise [val_main_v194, val_main_v195, val_main_v196, val_main_v197, val_main_v198, val_main_v199, val_main_v200, val_main_v201, val_main_v202, val_main_v0, val_main_v1, val_main_v2, val_main_v3, val_main_v4, val_main_v5, val_main_v6]
  refine congrArg₂ (· * ·) (congrArg x0 (ix2_congr (Fin.ext ?_) (Fin.ext ?_))) (congrArg₂ (· * ·)
    (congrArg (val_main_v193 (F := Ideal) x0 x1 x2) (ix4_congr (Fin.ext ?_) (Fin.ext ?_) (Fin.ext ?_) (Fin.ext ?_))) rfl) <;> dsimp only <;> omega

/-- The second result: the forward states. -/
theorem stateF_at (b : Fin 16) (h : Fin 8) (d e : Fin 256) : val_main_v203 (F := Ideal) x0 x1 (ix5 b 0 h d e)
    = st2 (lF x1 h) (kT x0 b h) (vT x0 b h) d e := by
  rw [← s1F]
  pointwise [val_main_v203]

/-- The third result: the backward states. -/
theorem stateB_at (b : Fin 16) (h : Fin 8) (d e : Fin 256) : val_main_v204 (F := Ideal) x0 x2 (ix5 b 0 h d e)
    = st2 (lB x2 h) (opp (kT x0 b h)) (opp (vT x0 b h)) d e := by
  rw [← s1B]
  pointwise [val_main_v204]

end Cert.RetR

end
-- ==== Proof.Final.lean ====
module

public import proofs.«01_k».proof.Proof.Gen.KernelIdeal.Value
public import proofs.«01_k».proof.Proof.Outs
public import proofs.«01_k».proof.Proof.Ref
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret

open Cert.KernelIdeal Cert.KernelIdeal.Gen Cert.Spec Cert.RetR

variable (m : (ℓ : Loc nD τ sig) → Buf (Elt Ideal) ℓ)

open Cert.ReferenceIdeal.Read in
/-- The rates as the host stacks them. -/
theorem V_v6 (c : Dev nD) : V m c main_v6 = concatenate S2x8 0 [⟨S1x8, broadcastInDim S1x8 ![1] bcast_S8_S1x8_1 (val_main_v16 (F := Ideal) (m ((c : Thread nD τ).loc main_arg1)))⟩,
      ⟨S1x8, broadcastInDim S1x8 ![1] bcast_S8_S1x8_1 (val_main_v18 (F := Ideal) (m ((c : Thread nD τ).loc main_arg2)))⟩] concatenates_S1x8_S1x8_S2x8_d0 := by
  unfold V
  simp only [List.flatten_cons, List.flatten_nil, List.cons_append, List.nil_append, List.append_nil]
  after_results
  rfl

/-- The weights as the host hands them on. -/
theorem V_v8 (c : Dev nD) : V m c main_v8 = shapeCast S1x2048 (shapeCast S2048 (m ((c : Thread nD τ).loc main_arg3) : Vec Ideal S1x2048 .f32) shapeCasts_S1x2048_S2048) shapeCasts_S2048_S1x2048 := by
  unfold V
  simp only [List.flatten_cons, List.flatten_nil, List.cons_append, List.nil_append, List.append_nil]
  after_results
  rfl

/-- The stacked rates at an index. -/
theorem stack_at (a b : Vec Ideal S8 .f32) (r : Fin 2) (g : Fin 8) : concatenate S2x8 0 [⟨S1x8, broadcastInDim S1x8 ![1] bcast_S8_S1x8_1 a⟩,
      ⟨S1x8, broadcastInDim S1x8 ![1] bcast_S8_S1x8_1 b⟩] concatenates_S1x8_S1x8_S2x8_d0 (ix2 r g) = if r.val < 1 then a (ix1 g) else b (ix1 g) := by
  pointwise
  rfl

/-- The weights reshaped twice are the weights. -/
theorem flat_at (x : Vec Ideal S1x2048 .f32) (E : Fin 2048) :
    shapeCast S1x2048 (shapeCast S2048 x shapeCasts_S1x2048_S2048) shapeCasts_S2048_S1x2048 (ix2 0 E) = x (ix2 0 E) := by
  pointwise

/-- The windows' block indices at a point of the grid, and the point's coordinates. -/
theorem idx : ∀ t : Fin cfg0.N, win0_0.index t = ![0, 0] ∧ win0_1.index t = ![t.val / 2, t.val % 2]
    ∧ win0_2.index t = ![t.val / 2, t.val % 2 + 2] ∧ win0_3.index t = ![t.val / 2, t.val % 2 + 4] ∧ win0_4.index t = ![t.val / 2, t.val % 2 + 6]
    ∧ win0_5.index t = ![0, t.val % 2] ∧ win0_6.index t = ![t.val / 2, t.val % 2] ∧ win0_7.index t = ![t.val / 2, 0, t.val % 2, 0, 0]
    ∧ win0_8.index t = ![t.val / 2, 0, t.val % 2, 0, 0] ∧ t.val / 2 < 16 ∧ (grid0.coords t 1).val = t.val % 2 :=
  (by decide +kernel : ∀ t : Fin grid0.N, _)

section
variable (c : Dev nD) (t : Fin cfg0.N) (b : Fin 16) (hb : b.val = t.val / 2) (h : Fin 4) (g : Fin 8) (hg : g.val = 4 * (t.val % 2) + h.val)

/-- The forward rates the kernel is given are the reference's. -/
theorem rates_F : (iblk m c 0 t : Vec Ideal S2x8 .f32) (ix2 0 g) = lF (m ((c : Thread nD τ).loc main_arg1)) g := by
  refine Eq.trans (b := V m c main_v6 (ix2 0 g)) ?_ ((congrFun (V_v6 m c) _).trans (stack_at _ _ 0 g))
  blk_ext [iblk, idx t]

/-- The backward rates the kernel is given are the reference's. -/
theorem rates_B : (iblk m c 0 t : Vec Ideal S2x8 .f32) (ix2 1 g) = lB (m ((c : Thread nD τ).loc main_arg2)) g := by
  refine Eq.trans (b := V m c main_v6 (ix2 1 g)) ?_ ((congrFun (V_v6 m c) _).trans (stack_at _ _ 1 g))
  blk_ext [iblk, idx t]

include hb hg
/-- The block's queries are the head's. -/
theorem q_blk : cols (iblk m c 1 t) h = qT (m ((c : Thread nD τ).loc main_arg0)) b g := by
  funext n d; unfold cols qT
  blk_ext [iblk, V, idx t]
/-- The block's keys are the head's. -/
theorem k_blk : cols (iblk m c 2 t) h = kT (m ((c : Thread nD τ).loc main_arg0)) b g := by
  funext n d; unfold cols kT
  blk_ext [iblk, V, idx t]
/-- The block's values are the head's. -/
theorem v_blk : cols (iblk m c 3 t) h = vT (m ((c : Thread nD τ).loc main_arg0)) b g := by
  funext n d; unfold cols vT
  blk_ext [iblk, V, idx t]
/-- The block's gate is the head's. -/
theorem g_blk (n e : Fin 256) (E : Fin 1024) (hE : E.val = 256 * h.val + e.val) : (iblk m c 4 t : Vec Ideal S256x1024 .bf16) (ix2 n E)
    = m ((c : Thread nD τ).loc main_arg0) (ix2 ⟨b.val * 256 + n.val, by omega⟩ ⟨6144 + (g.val * 256 + e.val), by omega⟩) := by
  blk_ext [iblk, V, idx t]
omit hb in
/-- The block's weights are the head's. -/
theorem w_blk (e : Fin 256) (E : Fin 1024) (hE : E.val = 256 * h.val + e.val) (E' : Fin 2048) (hE' : E'.val = g.val * 256 + e.val) :
    (iblk m c 5 t : Vec Ideal S1x1024 .f32) (ix2 0 E) = m ((c : Thread nD τ).loc main_arg3) (ix2 0 E') := by
  refine Eq.trans (b := V m c main_v8 (ix2 0 E')) ?_ ((congrFun (V_v8 m c) _).trans (flat_at _ E'))
  blk_ext [iblk, idx t]
end

section
/-- The index of a head within a block, and the head's number. -/
theorem head_of (t : ℕ) (h : Fin 4) : 4 * (t % 2) + h.val < 8 := by omega

/-- The kernel's first result is the reference's. -/
theorem final6 (c : Dev nD) : (dats m 0 c).arrAt 6 (cfgs 0).N
    = Cert.ReferenceIdeal.Read.val_main_v202 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  blk_simp
  rw [after0_6]
  obtain ⟨n, E, rfl⟩ : ∃ (a : Fin 256) (b : Fin 1024), y = ix2 a b := ⟨y 0, y 1, eq_ix2 y⟩
  obtain ⟨-, -, -, -, -, -, h6, -, -, ht, hc⟩ := idx t
  let b : Fin 16 := ⟨t.val / 2, ht⟩
  let h : Fin 4 := ⟨E.val / 256, by omega⟩
  let g : Fin 8 := ⟨4 * (t.val % 2) + E.val / 256, by omega⟩
  let e : Fin 256 := ⟨E.val % 256, by omega⟩
  have hE : E.val = 256 * h.val + e.val := (Nat.div_add_mod E.val 256).symm
  have hg : g.val = 4 * (grid0.coords t 1).val + h.val := by rw [hc]
  have em : ((View.whole main_v9_0).slice (win0_6.rect t)).emb (ix2 n E : S256x1024.Idx)
      = (ix2 ⟨b.val * 256 + n.val, by omega⟩ ⟨g.val * 256 + e.val, by omega⟩ : S4096x2048.Idx) := by
    show _ = (ix2 ⟨t.val / 2 * 256 + n.val, _⟩ ⟨(4 * (t.val % 2) + E.val / 256) * 256 + E.val % 256, _⟩ : S4096x2048.Idx)
    blk_ext [h6]
  unfold outsAt0; dsimp only
  refine (out6 _ _ _ _ _ _ _ _ _ _ _ _ _ _ _ _ _ _ _ _ _ _ _ _ _ _ _ _ h g hg n e E hE).trans (Eq.trans ?_
    ((congrArg _ em).trans (out_at _ _ _ _ b g n e ⟨b.val * 256 + n.val, by omega⟩ ⟨g.val * 256 + e.val, by omega⟩ rfl rfl)).symm)
  rw [rates_F, rates_B, q_blk m c t b rfl h g rfl, k_blk m c t b rfl h g rfl, v_blk m c t b rfl h g rfl,
    g_blk m c t b rfl h g rfl n e E hE, w_blk m c t h g rfl e E hE ⟨g.val * 256 + e.val, by omega⟩ rfl]

/-- The kernel's second result is the reference's. -/
theorem final7 (c : Dev nD) : (dats m 0 c).arrAt 7 (cfgs 0).N
    = Cert.ReferenceIdeal.Read.val_main_v203 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  obtain ⟨z0, z1, h, d, e, rfl⟩ : ∃ (z0 : Fin 1) (z1 : Fin 1) (h : Fin 4) (d e : Fin 256), y = ix5 z0 z1 h d e := ⟨y 0, y 1, y 2, y 3, y 4, eq_ix5 y⟩
  obtain rfl : z0 = 0 := Subsingleton.elim _ _
  obtain rfl : z1 = 0 := Subsingleton.elim _ _
  obtain ⟨-, -, -, -, -, -, -, h7, h8, ht, hc⟩ := idx t
  let b : Fin 16 := ⟨t.val / 2, ht⟩
  let g : Fin 8 := ⟨4 * (t.val % 2) + h.val, by omega⟩
  have hg : g.val = 4 * (grid0.coords t 1).val + h.val := by rw [hc]
  have em : ((View.whole main_v9_1).slice (win0_7.rect t)).emb (ix5 0 0 h d e : S1x1x4x256x256.Idx) = (ix5 b 0 g d e : S16x1x8x256x256.Idx) := by
    show _ = (ix5 ⟨t.val / 2, ht⟩ 0 ⟨4 * (t.val % 2) + h.val, _⟩ d e : S16x1x8x256x256.Idx)
    blk_ext [h7]
  unfold outsAt0; dsimp only
  refine (out7 _ _ _ _ _ _ _ _ _ _ _ _ _ _ _ _ _ _ _ _ _ _ _ _ _ _ _ _ h g hg d e).trans (Eq.trans ?_
    ((congrArg _ em).trans (stateF_at _ _ b g d e)).symm)
  rw [rates_F, k_blk m c t b rfl h g rfl, v_blk m c t b rfl h g rfl]

/-- The kernel's third result is the reference's. -/
theorem final8 (c : Dev nD) : (dats m 0 c).arrAt 8 (cfgs 0).N
    = Cert.ReferenceIdeal.Read.val_main_v204 (F := Ideal) (m ((c : Thread nD τ).loc main_arg0)) (m ((c : Thread nD τ).loc main_arg2)) := by
  refine (dats m 0 c).arrAt_eq_of_covers 8 _ (by decide +kernel) fun t _ y => ?_
  blk_simp
  rw [after0_8]
  obtain ⟨z0, z1, h, d, e, rfl⟩ : ∃ (z0 : Fin 1) (z1 : Fin 1) (h : Fin 4) (d e : Fin 256), y = ix5 z0 z1 h d e := ⟨y 0, y 1, y 2, y 3, y 4, eq_ix5 y⟩
  obtain rfl : z0 = 0 := Subsingleton.elim _ _
  obtain rfl : z1 = 0 := Subsingleton.elim _ _
  obtain ⟨-, -, -, -, -, -, -, h7, h8, ht, hc⟩ := idx t
  let b : Fin 16 := ⟨t.val / 2, ht⟩
  let g : Fin 8 := ⟨4 * (t.val % 2) + h.val, by omega⟩
  have hg : g.val = 4 * (grid0.coords t 1).val + h.val := by rw [hc]
  have em : ((View.whole main_v9_2).slice (win0_8.rect t)).emb (ix5 0 0 h d e : S1x1x4x256x256.Idx) = (ix5 b 0 g d e : S16x1x8x256x256.Idx) := by
    show _ = (ix5 ⟨t.val / 2, ht⟩ 0 ⟨4 * (t.val % 2) + h.val, _⟩ d e : S16x1x8x256x256.Idx)
    blk_ext [h8]
  unfold outsAt0; dsimp only
  refine (out8 _ _ _ _ _ _ _ _ _ _ _ _ _ _ _ _ _ _ _ _ _ _ _ _ _ _ _ _ h g hg d e).trans (Eq.trans ?_
    ((congrArg _ em).trans (stateB_at _ _ b g d e)).symm)
  rw [rates_B, k_blk m c t b rfl h g rfl, v_blk m c t b rfl h g rfl]
end

end Cert.Ret

end
-- ==== Proof.QkvgRef.lean ====
module

public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Qkvg

open Cert.Reference2Ideal Cert.Reference2Ideal.Read

variable (X : FVec Ideal S8192x4096 .bf16) (W : FVec Ideal S1x4096x12288 .f32)

/-- One element of the projection: a row of the hidden states times a column of the weights. -/
def Z (r : Fin 8192) (c : Fin 12288) : EReal := ∑ k : Fin 4096, X (ix2 r k) * W (ix3 0 k c)

/-- The prompt's rows of the projection. -/
theorem v3_at (r : Fin 4096) (c : Fin 12288) : val_main_v3 (F := Ideal) X W (ix2 r c) = Z X W ⟨r.val, by omega⟩ c := by
  pointwise [val_main_v3, val_main_v2, val_main_v1, val_main_v0]
  rfl

/-- The samples' rows of the projection. -/
theorem v25_at (r : Fin 4096) (c : Fin 12288) : val_main_v25 (F := Ideal) X W (ix2 r c) = Z X W ⟨4096 + r.val, by omega⟩ c := by
  pointwise [val_main_v25, val_main_v24, val_main_v23, val_main_v0]
  rfl

/-- An element of the result in the prompt's rows. -/
theorem prompt_at (r : Fin 8192) (h : r.val < 4096) (l : Fin 8192) :
    val_main_v178 (F := Ideal) X W (ix2 r l) = val_main_v22 (F := Ideal) X W (ix2 ⟨r.val, h⟩ l) := by
  pointwise [val_main_v178, val_main_v177]
  rw [dif_pos h]

/-- An element of the result in the samples' rows. -/
theorem sample_at (r : Fin 8192) (h : 4096 ≤ r.val) (l : Fin 8192) :
    val_main_v178 (F := Ideal) X W (ix2 r l) = val_main_v176 (F := Ideal) X W (ix2 ⟨r.val - 4096, by omega⟩ l) := by
  pointwise [val_main_v178, val_main_v177]
  rw [dif_neg (by omega)]

/-- The scale of the keys: the word of one sixteenth. -/
abbrev kScale : EReal := Ideal.ofBits .f32 0x3D800000#32

/-- The angle of frequency `f` at position `p`. -/
def ang (p f : ℕ) : EReal :=
  FloatOps.sitofp (F := Ideal) FTy.f32 (BitVec.ofNat 32 p)
    * Ideal.pow (Ideal.ofBits .f32 0x461C4000#32) (Ideal.div (-FloatOps.sitofp (F := Ideal) FTy.f32 (BitVec.ofNat 32 f)) (Ideal.ofBits .f32 0x42800000#32))

/-- The prompt's queries. -/
theorem pq_at (r : Fin 4096) (l : Fin 8192) (h : l.val < 2048) :
    val_main_v22 (F := Ideal) X W (ix2 r l) = Z X W ⟨r.val, by omega⟩ ⟨4096 + l.val, by omega⟩ := by
  rw [← v3_at X W r]
  pointwise [val_main_v22, val_main_v16, val_main_v15, val_main_v10, val_main_v9, val_main_v5, val_main_v4]
  rw [dif_pos h]
  congr 1; blk_ext

/-- The prompt's keys. -/
theorem pk_at (r : Fin 4096) (l : Fin 8192) (h0 : 2048 ≤ l.val) (h1 : l.val < 4096) :
    val_main_v22 (F := Ideal) X W (ix2 r l) = Z X W ⟨r.val, by omega⟩ ⟨4096 + l.val, by omega⟩ * kScale := by
  rw [← v3_at X W r]
  pointwise [val_main_v22, val_main_v18, val_main_v17, val_main_v14, val_main_v13, val_main_cst, val_main_v12, val_main_v11, val_main_v6, val_main_v4]
  rw [dif_neg (by omega), dif_pos (by omega)]
  congr 2; blk_ext

/-- The prompt's values. -/
theorem pv_at (r : Fin 4096) (l : Fin 8192) (h0 : 4096 ≤ l.val) (h1 : l.val < 6144) :
    val_main_v22 (F := Ideal) X W (ix2 r l) = Z X W ⟨r.val, by omega⟩ ⟨4096 + l.val, by omega⟩ := by
  rw [← v3_at X W r]
  pointwise [val_main_v22, val_main_v19, val_main_v7, val_main_v4]
  rw [dif_neg (by omega), dif_neg (by omega), dif_pos (by omega)]
  exact congrArg (val_main_v3 (F := Ideal) X W) (by blk_ext)

/-- The prompt's gates. -/
theorem pg_at (r : Fin 4096) (l : Fin 8192) (h : 6144 ≤ l.val) :
    val_main_v22 (F := Ideal) X W (ix2 r l) = Z X W ⟨r.val, by omega⟩ ⟨4096 + l.val, by omega⟩
      * Ideal.div 1 (1 + Ideal.exp (-(Z X W ⟨r.val, by omega⟩ ⟨4096 + l.val, by omega⟩))) := by
  rw [← v3_at X W r]
  pointwise [val_main_v22, val_main_v21, val_main_v20, val_main_call0_v5, val_main_call0_v4, val_main_call0_v3, val_main_call0_v2,
    val_main_call0_v1, val_main_call0_v0, val_main_call0_cst, val_main_call0_cst_0, val_main_v8, val_main_v4]
  rw [dif_neg (by omega), dif_neg (by omega), dif_neg (by omega)]
  have e : (ix2 r ⟨10240 + (l.val - 2048 - 2048 - 2048), by omega⟩ : S4096x12288.Idx) = ix2 r ⟨4096 + l.val, by omega⟩ := by blk_ext
  rw [e]

/-- The samples' values. -/
theorem sv_at (r : Fin 4096) (l : Fin 8192) (h0 : 4096 ≤ l.val) (h1 : l.val < 6144) :
    val_main_v176 (F := Ideal) X W (ix2 r l) = Z X W ⟨4096 + r.val, by omega⟩ ⟨4096 + l.val, by omega⟩ := by
  rw [← v25_at X W r]
  pointwise [val_main_v176, val_main_v173, val_main_v29, val_main_v26]
  rw [dif_neg (by omega), dif_neg (by omega), dif_pos (by omega)]
  exact congrArg (val_main_v25 (F := Ideal) X W) (by blk_ext)

/-- The samples' gates. -/
theorem sg_at (r : Fin 4096) (l : Fin 8192) (h : 6144 ≤ l.val) :
    val_main_v176 (F := Ideal) X W (ix2 r l) = Z X W ⟨4096 + r.val, by omega⟩ ⟨4096 + l.val, by omega⟩
      * Ideal.div 1 (1 + Ideal.exp (-(Z X W ⟨4096 + r.val, by omega⟩ ⟨4096 + l.val, by omega⟩))) := by
  rw [← v25_at X W r]
  pointwise [val_main_v176, val_main_v175, val_main_v174, val_main_call1_v5, val_main_call1_v4, val_main_call1_v3, val_main_call1_v2,
    val_main_call1_v1, val_main_call1_v0, val_main_call1_cst, val_main_call1_cst_0, val_main_v30, val_main_v26]
  rw [dif_neg (by omega), dif_neg (by omega), dif_neg (by omega)]
  have e : (ix2 r ⟨10240 + (l.val - 2048 - 2048 - 2048), by omega⟩ : S4096x12288.Idx) = ix2 r ⟨4096 + l.val, by omega⟩ := by blk_ext
  rw [e]

/-- The row angles of the queries. -/
theorem q_row (n : Fin 1024) (l : Fin 64) : val_main_v57 (F := Ideal) (ix2 n l) = ang (n.val / 64) l.val := by
  pointwise [val_main_v57, val_main_v56, val_main_v55, val_main_v54, val_main_v53, val_main_v51, val_main_v50, val_main_v49, val_main_v48, val_main_v47, val_main_v46, val_main_cst_1, val_main_cst_2, val_main_v40, val_main_v39, val_main_v38, val_main_v37]
  rfl

/-- The column angles of the queries. -/
theorem q_col (n : Fin 1024) (l : Fin 64) : val_main_v82 (F := Ideal) (ix2 n l) = ang (n.val % 64) l.val := by
  pointwise [val_main_v82, val_main_v81, val_main_v80, val_main_v79, val_main_v78, val_main_v51, val_main_v50, val_main_v49, val_main_v48, val_main_v47, val_main_v46, val_main_v45, val_main_v44, val_main_v43, val_main_v42, val_main_v41, val_main_cst_1, val_main_cst_2]
  rfl

/-- The first lanes of the row half of the turned queries. -/
theorem q_row_lo (b : Fin 4) (hd : Fin 8) (n : Fin 1024) (l : Fin 256) (h : l.val < 64) :
    val_main_v102 (F := Ideal) X W (ix4 b hd n l)
      = val_main_v32 (F := Ideal) X W (ix4 b hd n l) * Ideal.cos (ang (n.val / 64) (l.val % 64)) - val_main_v32 (F := Ideal) X W (ix4 b hd n ⟨l.val + 64, by omega⟩) * Ideal.sin (ang (n.val / 64) (l.val % 64)) := by
  pointwise [val_main_v102, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v52]
  rw [dif_pos (by omega), dif_pos (by omega)]
  simp only [q_row]
  blk_point []
  exact congrArg (BitVec.ofNat 32) (by omega)

/-- The last lanes of the row half of the turned queries. -/
theorem q_row_hi (b : Fin 4) (hd : Fin 8) (n : Fin 1024) (l : Fin 256) (h0 : 64 ≤ l.val) (h : l.val < 128) :
    val_main_v102 (F := Ideal) X W (ix4 b hd n l)
      = val_main_v32 (F := Ideal) X W (ix4 b hd n ⟨l.val - 64, by omega⟩) * Ideal.sin (ang (n.val / 64) (l.val % 64)) + val_main_v32 (F := Ideal) X W (ix4 b hd n l) * Ideal.cos (ang (n.val / 64) (l.val % 64)) := by
  pointwise [val_main_v102, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v52]
  rw [dif_pos (by omega), dif_neg (by omega)]
  simp only [q_row]
  blk_point []
  exact congrArg (BitVec.ofNat 32) (by omega)

/-- The first lanes of the col half of the turned queries. -/
theorem q_col_lo (b : Fin 4) (hd : Fin 8) (n : Fin 1024) (l : Fin 256) (h0 : 128 ≤ l.val) (h : l.val < 192) :
    val_main_v102 (F := Ideal) X W (ix4 b hd n l)
      = val_main_v32 (F := Ideal) X W (ix4 b hd n l) * Ideal.cos (ang (n.val % 64) (l.val % 64)) - val_main_v32 (F := Ideal) X W (ix4 b hd n ⟨l.val + 64, by omega⟩) * Ideal.sin (ang (n.val % 64) (l.val % 64)) := by
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v77]
  rw [dif_neg (by omega), dif_pos (by omega)]
  simp only [q_col]
  blk_point []
  exact congrArg (BitVec.ofNat 32) (by omega)

/-- The last lanes of the col half of the turned queries. -/
theorem q_col_hi (b : Fin 4) (hd : Fin 8) (n : Fin 1024) (l : Fin 256) (h : 192 ≤ l.val) :
    val_main_v102 (F := Ideal) X W (ix4 b hd n l)
      = val_main_v32 (F := Ideal) X W (ix4 b hd n ⟨l.val - 64, by omega⟩) * Ideal.sin (ang (n.val % 64) (l.val % 64)) + val_main_v32 (F := Ideal) X W (ix4 b hd n l) * Ideal.cos (ang (n.val % 64) (l.val % 64)) := by
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v77]
  rw [dif_neg (by omega), dif_neg (by omega)]
  simp only [q_col]
  blk_point []
  exact congrArg (BitVec.ofNat 32) (by omega)

/-- The row angles of the keys. -/
theorem k_row (n : Fin 1024) (l : Fin 64) : val_main_v123 (F := Ideal) (ix2 n l) = ang (n.val / 64) l.val := by
  pointwise [val_main_v123, val_main_v122, val_main_v121, val_main_v120, val_main_v119, val_main_v117, val_main_v116, val_main_v115, val_main_v114, val_main_v113, val_main_v112, val_main_cst_3, val_main_cst_4, val_main_v106, val_main_v105, val_main_v104, val_main_v103]
  rfl

/-- The column angles of the keys. -/
theorem k_col (n : Fin 1024) (l : Fin 64) : val_main_v148 (F := Ideal) (ix2 n l) = ang (n.val % 64) l.val := by
  pointwise [val_main_v148, val_main_v147, val_main_v146, val_main_v145, val_main_v144, val_main_v117, val_main_v116, val_main_v115, val_main_v114, val_main_v113, val_main_v112, val_main_v111, val_main_v110, val_main_v109, val_main_v108, val_main_v107, val_main_cst_3, val_main_cst_4]
  rfl

/-- The first lanes of the row half of the turned keys. -/
theorem k_row_lo (b : Fin 4) (hd : Fin 8) (n : Fin 1024) (l : Fin 256) (h : l.val < 64) :
    val_main_v168 (F := Ideal) X W (ix4 b hd n l)
      = val_main_v36 (F := Ideal) X W (ix4 b hd n l) * Ideal.cos (ang (n.val / 64) (l.val % 64)) - val_main_v36 (F := Ideal) X W (ix4 b hd n ⟨l.val + 64, by omega⟩) * Ideal.sin (ang (n.val / 64) (l.val % 64)) := by
  pointwise [val_main_v168, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v118]
  rw [dif_pos (by omega), dif_pos (by omega)]
  simp only [k_row]
  blk_point []
  exact congrArg (BitVec.ofNat 32) (by omega)

/-- The last lanes of the row half of the turned keys. -/
theorem k_row_hi (b : Fin 4) (hd : Fin 8) (n : Fin 1024) (l : Fin 256) (h0 : 64 ≤ l.val) (h : l.val < 128) :
    val_main_v168 (F := Ideal) X W (ix4 b hd n l)
      = val_main_v36 (F := Ideal) X W (ix4 b hd n ⟨l.val - 64, by omega⟩) * Ideal.sin (ang (n.val / 64) (l.val % 64)) + val_main_v36 (F := Ideal) X W (ix4 b hd n l) * Ideal.cos (ang (n.val / 64) (l.val % 64)) := by
  pointwise [val_main_v168, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v118]
  rw [dif_pos (by omega), dif_neg (by omega)]
  simp only [k_row]
  blk_point []
  exact congrArg (BitVec.ofNat 32) (by omega)

/-- The first lanes of the col half of the turned keys. -/
theorem k_col_lo (b : Fin 4) (hd : Fin 8) (n : Fin 1024) (l : Fin 256) (h0 : 128 ≤ l.val) (h : l.val < 192) :
    val_main_v168 (F := Ideal) X W (ix4 b hd n l)
      = val_main_v36 (F := Ideal) X W (ix4 b hd n l) * Ideal.cos (ang (n.val % 64) (l.val % 64)) - val_main_v36 (F := Ideal) X W (ix4 b hd n ⟨l.val + 64, by omega⟩) * Ideal.sin (ang (n.val % 64) (l.val % 64)) := by
  pointwise [val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v143]
  rw [dif_neg (by omega), dif_pos (by omega)]
  simp only [k_col]
  blk_point []
  exact congrArg (BitVec.ofNat 32) (by omega)

/-- The last lanes of the col half of the turned keys. -/
theorem k_col_hi (b : Fin 4) (hd : Fin 8) (n : Fin 1024) (l : Fin 256) (h : 192 ≤ l.val) :
    val_main_v168 (F := Ideal) X W (ix4 b hd n l)
      = val_main_v36 (F := Ideal) X W (ix4 b hd n ⟨l.val - 64, by omega⟩) * Ideal.sin (ang (n.val % 64) (l.val % 64)) + val_main_v36 (F := Ideal) X W (ix4 b hd n l) * Ideal.cos (ang (n.val % 64) (l.val % 64)) := by
  pointwise [val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v143]
  rw [dif_neg (by omega), dif_neg (by omega)]
  simp only [k_col]
  blk_point []
  exact congrArg (BitVec.ofNat 32) (by omega)

/-- A sample's queries before the turn. -/
theorem q_in (b : Fin 4) (hd : Fin 8) (n : Fin 1024) (l : Fin 256) :
    val_main_v32 (F := Ideal) X W (ix4 b hd n l) = Z X W ⟨4096 + (b.val * 1024 + n.val), by omega⟩ ⟨4096 + (hd.val * 256 + l.val), by omega⟩ * 1 := by
  rw [mul_one, ← v25_at X W ⟨b.val * 1024 + n.val, by omega⟩]
  pointwise [val_main_v32, val_main_v31, val_main_v27, val_main_v26]

/-- A sample's keys before the turn. -/
theorem k_in (b : Fin 4) (hd : Fin 8) (n : Fin 1024) (l : Fin 256) :
    val_main_v36 (F := Ideal) X W (ix4 b hd n l) = Z X W ⟨4096 + (b.val * 1024 + n.val), by omega⟩ ⟨6144 + (hd.val * 256 + l.val), by omega⟩ * kScale := by
  rw [← v25_at X W ⟨b.val * 1024 + n.val, by omega⟩]
  pointwise [val_main_v36, val_main_v35, val_main_cst_0, val_main_v34, val_main_v33, val_main_v28, val_main_v26]

/-- The samples' queries in the result. -/
theorem sq_at (r : Fin 4096) (l : Fin 8192) (h : l.val < 2048) :
    val_main_v176 (F := Ideal) X W (ix2 r l)
      = val_main_v102 (F := Ideal) X W (ix4 ⟨r.val / 1024, by omega⟩ ⟨l.val / 256, by omega⟩ ⟨r.val % 1024, by omega⟩ ⟨l.val % 256, by omega⟩) := by
  pointwise [val_main_v176, val_main_v170, val_main_v169]
  rw [dif_pos h]

/-- The samples' keys in the result. -/
theorem sk_at (r : Fin 4096) (l : Fin 8192) (h0 : 2048 ≤ l.val) (h : l.val < 4096) :
    val_main_v176 (F := Ideal) X W (ix2 r l)
      = val_main_v168 (F := Ideal) X W (ix4 ⟨r.val / 1024, by omega⟩ ⟨(l.val - 2048) / 256, by omega⟩ ⟨r.val % 1024, by omega⟩ ⟨(l.val - 2048) % 256, by omega⟩) := by
  pointwise [val_main_v176, val_main_v172, val_main_v171]
  rw [dif_neg (by omega), dif_pos (by omega)]

/-- A query or a key: the projection, a key's scaled. -/
def Zs (r : Fin 8192) (l : Fin 4096) : EReal := Z X W r ⟨4096 + l.val, by omega⟩ * (if l.val < 2048 then 1 else kScale)

/-- The position that turns lane `l` of row `r`: the row of the grid in the first half of a head's lanes, the column in the second. -/
def pos (r l : ℕ) : ℕ := if l % 256 < 128 then r % 1024 / 64 else r % 1024 % 64

/-- The queries or keys of the prompt. -/
theorem pqk_at (r : Fin 4096) (l : Fin 8192) (h : l.val < 4096) :
    val_main_v22 (F := Ideal) X W (ix2 r l) = Zs X W ⟨r.val, by omega⟩ ⟨l.val, h⟩ := by
  unfold Zs
  by_cases hq : l.val < 2048
  · rw [pq_at X W r l hq, if_pos hq, mul_one]
  · rw [pk_at X W r l (by omega) h, if_neg hq]

/-- Equal rows, columns, positions and frequencies turn to the same element. -/
theorem lo_congr {r r' : Fin 8192} {c c' d d' : Fin 12288} {p p' f f' : ℕ} {s : EReal} (hr : r.val = r'.val) (hc : c.val = c'.val)
    (hd : d.val = d'.val) (hp : p = p') (hf : f = f') :
    Z X W r c * s * Ideal.cos (ang p f) - Z X W r d * s * Ideal.sin (ang p f)
      = Z X W r' c' * s * Ideal.cos (ang p' f') - Z X W r' d' * s * Ideal.sin (ang p' f') := by
  rw [Fin.ext hr, Fin.ext hc, Fin.ext hd, hp, hf]

/-- The same of the last lanes. -/
theorem hi_congr {r r' : Fin 8192} {c c' d d' : Fin 12288} {p p' f f' : ℕ} {s : EReal} (hr : r.val = r'.val) (hc : c.val = c'.val)
    (hd : d.val = d'.val) (hp : p = p') (hf : f = f') :
    Z X W r c * s * Ideal.sin (ang p f) + Z X W r d * s * Ideal.cos (ang p f)
      = Z X W r' c' * s * Ideal.sin (ang p' f') + Z X W r' d' * s * Ideal.cos (ang p' f') := by
  rw [Fin.ext hr, Fin.ext hc, Fin.ext hd, hp, hf]

/-- The turned queries and keys of the samples, in the first lanes of each half. -/
theorem turn_lo (r : Fin 4096) (l : Fin 8192) (h : l.val < 4096) (hl : l.val % 128 < 64) :
    val_main_v176 (F := Ideal) X W (ix2 r l)
      = Zs X W ⟨4096 + r.val, by omega⟩ ⟨l.val, h⟩ * Ideal.cos (ang (pos r.val l.val) (l.val % 64))
        - Zs X W ⟨4096 + r.val, by omega⟩ ⟨l.val + 64, by omega⟩ * Ideal.sin (ang (pos r.val l.val) (l.val % 64)) := by
  unfold Zs pos
  dsimp only
  by_cases hq : l.val < 2048
  · rw [sq_at X W r l hq, if_pos hq, if_pos (by omega : l.val + 64 < 2048)]
    by_cases hr : l.val % 256 < 128
    · rw [q_row_lo X W _ _ _ _ (by show l.val % 256 < 64; omega), q_in, q_in, if_pos hr]
      exact lo_congr X W (by dsimp only; omega) (by dsimp only; omega) (by dsimp only; omega) rfl (by dsimp only; omega)
    · rw [q_col_lo X W _ _ _ _ (by show 128 ≤ l.val % 256; omega) (by show l.val % 256 < 192; omega), q_in, q_in, if_neg hr]
      exact lo_congr X W (by dsimp only; omega) (by dsimp only; omega) (by dsimp only; omega) rfl (by dsimp only; omega)
  · rw [sk_at X W r l (by omega) h, if_neg hq, if_neg (by omega : ¬l.val + 64 < 2048)]
    by_cases hr : l.val % 256 < 128
    · rw [k_row_lo X W _ _ _ _ (by show (l.val - 2048) % 256 < 64; omega), k_in, k_in, if_pos hr]
      exact lo_congr X W (by dsimp only; omega) (by dsimp only; omega) (by dsimp only; omega) rfl (by dsimp only; omega)
    · rw [k_col_lo X W _ _ _ _ (by show 128 ≤ (l.val - 2048) % 256; omega) (by show (l.val - 2048) % 256 < 192; omega), k_in, k_in, if_neg hr]
      exact lo_congr X W (by dsimp only; omega) (by dsimp only; omega) (by dsimp only; omega) rfl (by dsimp only; omega)

/-- The turned queries and keys of the samples, in the last lanes of each half. -/
theorem turn_hi (r : Fin 4096) (l : Fin 8192) (h : l.val < 4096) (hl : 64 ≤ l.val % 128) :
    val_main_v176 (F := Ideal) X W (ix2 r l)
      = Zs X W ⟨4096 + r.val, by omega⟩ ⟨l.val - 64, by omega⟩ * Ideal.sin (ang (pos r.val l.val) (l.val % 64))
        + Zs X W ⟨4096 + r.val, by omega⟩ ⟨l.val, h⟩ * Ideal.cos (ang (pos r.val l.val) (l.val % 64)) := by
  unfold Zs pos
  dsimp only
  by_cases hq : l.val < 2048
  · rw [sq_at X W r l hq, if_pos hq, if_pos (by omega : l.val - 64 < 2048)]
    by_cases hr : l.val % 256 < 128
    · rw [q_row_hi X W _ _ _ _ (by show 64 ≤ l.val % 256; omega) (by show l.val % 256 < 128; omega), q_in, q_in, if_pos hr]
      exact hi_congr X W (by dsimp only; omega) (by dsimp only; omega) (by dsimp only; omega) rfl (by dsimp only; omega)
    · rw [q_col_hi X W _ _ _ _ (by show 192 ≤ l.val % 256; omega), q_in, q_in, if_neg hr]
      exact hi_congr X W (by dsimp only; omega) (by dsimp only; omega) (by dsimp only; omega) rfl (by dsimp only; omega)
  · rw [sk_at X W r l (by omega) h, if_neg hq, if_neg (by omega : ¬l.val - 64 < 2048)]
    by_cases hr : l.val % 256 < 128
    · rw [k_row_hi X W _ _ _ _ (by show 64 ≤ (l.val - 2048) % 256; omega) (by show (l.val - 2048) % 256 < 128; omega), k_in, k_in, if_pos hr]
      exact hi_congr X W (by dsimp only; omega) (by dsimp only; omega) (by dsimp only; omega) rfl (by dsimp only; omega)
    · rw [k_col_hi X W _ _ _ _ (by show 192 ≤ (l.val - 2048) % 256; omega), k_in, k_in, if_neg hr]
      exact hi_congr X W (by dsimp only; omega) (by dsimp only; omega) (by dsimp only; omega) rfl (by dsimp only; omega)

/-- The gates of every row. -/
theorem gates_at (r : Fin 8192) (l : Fin 8192) (h : 6144 ≤ l.val) :
    val_main_v178 (F := Ideal) X W (ix2 r l)
      = Z X W r ⟨4096 + l.val, by omega⟩ * Ideal.div 1 (1 + Ideal.exp (-(Z X W r ⟨4096 + l.val, by omega⟩))) := by
  by_cases hr : r.val < 4096
  · rw [prompt_at X W r hr, pg_at X W _ l h]
  · rw [sample_at X W r (by omega), sg_at X W _ l h]
    simp only [show 4096 + (r.val - 4096) = r.val by omega]

/-- The values of every row. -/
theorem values_at (r : Fin 8192) (l : Fin 8192) (h0 : 4096 ≤ l.val) (h1 : l.val < 6144) :
    val_main_v178 (F := Ideal) X W (ix2 r l) = Z X W r ⟨4096 + l.val, by omega⟩ := by
  by_cases hr : r.val < 4096
  · rw [prompt_at X W r hr, pv_at X W _ l h0 h1]
  · rw [sample_at X W r (by omega), sv_at X W _ l h0 h1]
    simp only [show 4096 + (r.val - 4096) = r.val by omega]

end Cert.Qkvg

end
-- ==== Proof.QkvgTab.lean ====
module

public import proofs.«01_k».proof.Proof.Gen.Kernel2Ideal.Value
public import proofs.«01_k».proof.Proof.QkvgRef
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Qkvg

open Cert.Kernel2Ideal Cert.Kernel2Ideal.Gen

variable (m : (ℓ : Loc nD τ sig) → Buf (Elt Ideal) ℓ)

/-- The weights that the windows read are the argument's. -/
theorem w_at (c : Dev nD) (k : Fin 4096) (l : Fin 12288) :
    V m c main_v55 (ix2 k l) = m ((c : Thread nD τ).loc main_arg1) (ix3 0 k l) := by
  unfold V
  after_results
  pointwise

/-- The position in the first half of a head's lanes. -/
theorem pos_row (n : Fin 1024) (l : Fin 256) (h : l.val < 128) : pos n.val l.val = n.val / 64 := by
  unfold pos
  rw [if_pos (by omega), Nat.mod_eq_of_lt n.isLt]

/-- The position in the second half. -/
theorem pos_col (n : Fin 1024) (l : Fin 256) (h : ¬l.val < 128) : pos n.val l.val = n.val % 64 := by
  unfold pos
  rw [if_neg (by omega), Nat.mod_eq_of_lt n.isLt]

/-- The cosine table. -/
theorem cos_at (c : Dev nD) (n : Fin 1024) (l : Fin 256) :
    V m c main_v51 (ix2 n l) = Ideal.cos (ang (pos n.val l.val) (l.val % 64)) := by
  unfold V
  after_results
  pointwise
  by_cases h : l.val < 128
  · rw [dif_pos h, pos_row n l h]
    by_cases h1 : l.val < 64
    · rw [dif_pos h1, Nat.mod_eq_of_lt h1]; rfl
    · rw [dif_neg h1, show l.val % 64 = l.val - 64 by omega]; rfl
  · rw [dif_neg h, pos_col n l h]
    by_cases h1 : l.val - 128 < 64
    · rw [dif_pos h1, show l.val % 64 = l.val - 128 by omega]; rfl
    · rw [dif_neg h1, show l.val % 64 = l.val - 128 - 64 by omega]; rfl

/-- The sine table: in the first lanes of each half its sign is turned. -/
theorem sin_at (c : Dev nD) (n : Fin 1024) (l : Fin 256) :
    V m c main_v54 (ix2 n l) = Ideal.sin (ang (pos n.val l.val) (l.val % 64)) * (if l.val % 128 < 64 then -1 else 1) := by
  unfold V
  after_results
  pointwise
  by_cases h : l.val < 128
  · rw [dif_pos h, pos_row n l h]
    by_cases h1 : l.val < 64
    · rw [dif_pos h1, dif_pos h1, if_pos (by omega), Nat.mod_eq_of_lt h1]; rfl
    · rw [dif_neg h1, dif_neg h1, if_neg (by omega), show l.val % 64 = l.val - 64 by omega]; rfl
  · rw [dif_neg h, pos_col n l h]
    by_cases h1 : l.val - 128 < 64
    · rw [dif_pos h1, dif_pos h1, if_pos (by omega), show l.val % 64 = l.val - 128 by omega]; rfl
    · rw [dif_neg h1, dif_neg h1, if_neg (by omega), show l.val % 64 = l.val - 128 - 64 by omega]; rfl

end Cert.Qkvg

end
-- ==== Proof.Qkvg.lean ====
module

public import proofs.«01_k».proof.Proof.QkvgTab

@[expose] public section

set_option maxRecDepth 16384

noncomputable section

open Idealize.ShloMosaic Idealize.ShloMosaic.TcCoe Idealize.SL.Sem
open Idealize.ShloMosaic.Pipeline (Dat)

namespace Cert.Qkvg

open Cert.Kernel2Ideal Cert.Kernel2Ideal.Gen

variable (m : (ℓ : Loc nD τ sig) → Buf (Elt Ideal) ℓ)

/-- One element of a tile's product. -/
def prod (x : Vec Ideal S1024x4096 .bf16) (w : Vec Ideal S4096x512 .f32) (r : Fin 1024) (l : Fin 512) : EReal :=
  ∑ k : Fin 4096, x (ix2 r k) * w (ix2 k l)

/-- One element of the block stored at a point of the gates. -/
theorem pay2_at (x : Vec Ideal S1024x4096 .bf16) (w : Vec Ideal S4096x512 .f32) (r : Fin 1024) (l : Fin 512) :
    k0_pay2 (F := Ideal) x w (ix2 r l) = prod x w r l
      * Ideal.div 1 (1 + Ideal.exp (-prod x w r l)) := by
  pointwise [k0_pay2, k0_pay1, prod]
  rw [sub_eq_add_neg, zero_add]

/-- The same of the values. -/
theorem pay3_at (x : Vec Ideal S1024x4096 .bf16) (w : Vec Ideal S4096x512 .f32) (r : Fin 1024) (l : Fin 512) :
    k0_pay3 (F := Ideal) x w (ix2 r l) = prod x w r l := by
  pointwise [k0_pay3, k0_pay1]
  rfl

/-- The scale that a tile of columns selects: the queries' tiles come before the keys'. -/
theorem select_eq (j : Fin 16) :
    Scalar.select (Scalar.cmpi .sge (BitVec.ofNat 32 j.val) 4#32) kScale 1 = if j.val < 4 then 1 else kScale := by
  fin_cases j <;> rfl

/-- The scaled product of the queries and keys. -/
theorem pay4_at (i : grid0.Coords) (x : Vec Ideal S1024x4096 .bf16) (w : Vec Ideal S4096x512 .f32) (r : Fin 1024) (l : Fin 512) :
    k0_pay4 (F := Ideal) i x w (ix2 r l) = prod x w r l
      * (if (i 1).val < 4 then 1 else kScale) := by
  pointwise [k0_pay4, k0_pay1]
  rw [select_eq (i 1)]
  rfl

/-- The prompt's queries and keys are stored as they are. -/
theorem pay5_at (i : grid0.Coords) (x : Vec Ideal S1024x4096 .bf16) (w : Vec Ideal S4096x512 .f32) (r : Fin 1024) (l : Fin 512) :
    k0_pay5 (F := Ideal) i x w (ix2 r l) = k0_pay4 (F := Ideal) i x w (ix2 r l) := by
  pointwise [k0_pay5]

/-- One element of the turned lanes from 0. -/
theorem pay7_at (z : Vec Ideal S1024x512 .f32) (c s : Vec Ideal S1024x128 .f32) (r : Fin 1024) (l : Fin 128) :
    k0_pay7 (F := Ideal) z c s (ix2 r l)
      = z (ix2 r ⟨l.val, by omega⟩) * c (ix2 r l) + z (ix2 r ⟨(l.val + 64) % 128, by omega⟩) * s (ix2 r l) := by
  pointwise [k0_pay7]
  have e : (l.val + 128 - 64) % 128 = (l.val + 64) % 128 := by omega
  simp only [e]

/-- One element of the turned lanes from 128. -/
theorem pay8_at (z : Vec Ideal S1024x512 .f32) (c s : Vec Ideal S1024x128 .f32) (r : Fin 1024) (l : Fin 128) :
    k0_pay8 (F := Ideal) z c s (ix2 r l)
      = z (ix2 r ⟨128 + l.val, by omega⟩) * c (ix2 r l) + z (ix2 r ⟨128 + (l.val + 64) % 128, by omega⟩) * s (ix2 r l) := by
  pointwise [k0_pay8]
  have e : (l.val + 128 - 64) % 128 = (l.val + 64) % 128 := by omega
  simp only [e]

/-- One element of the turned lanes from 256. -/
theorem pay9_at (z : Vec Ideal S1024x512 .f32) (c s : Vec Ideal S1024x128 .f32) (r : Fin 1024) (l : Fin 128) :
    k0_pay9 (F := Ideal) z c s (ix2 r l)
      = z (ix2 r ⟨256 + l.val, by omega⟩) * c (ix2 r l) + z (ix2 r ⟨256 + (l.val + 64) % 128, by omega⟩) * s (ix2 r l) := by
  pointwise [k0_pay9]
  have e : (l.val + 128 - 64) % 128 = (l.val + 64) % 128 := by omega
  simp only [e]

/-- One element of the turned lanes from 384. -/
theorem pay6_at (z : Vec Ideal S1024x512 .f32) (c s : Vec Ideal S1024x128 .f32) (r : Fin 1024) (l : Fin 128) :
    k0_pay6 (F := Ideal) (k0_pay10 (F := Ideal) z) c s (ix2 r l)
      = z (ix2 r ⟨384 + l.val, by omega⟩) * c (ix2 r l) + z (ix2 r ⟨384 + (l.val + 64) % 128, by omega⟩) * s (ix2 r l) := by
  pointwise [k0_pay6, k0_pay10]
  have e : (l.val + 128 - 64) % 128 = (l.val + 64) % 128 := by omega
  simp only [e]

/-- One element of the stored block: the lane by the cosine and its partner by the signed sine. -/
def turned (z : Vec Ideal S1024x512 .f32) (c s : Vec Ideal S1024x256 .f32) (r : Fin 1024) (l : Fin 512) : EReal :=
  z (ix2 r l) * c (ix2 r ⟨l.val % 256, by omega⟩)
    + z (ix2 r ⟨l.val / 128 * 128 + (l.val + 64) % 128, by omega⟩) * s (ix2 r ⟨l.val % 256, by omega⟩)

/-- A read of half of a table's lanes. -/
theorem ld0 (c : Vec Ideal S1024x256 .f32) (r : Fin 1024) (b : Fin 128) (q : Fin 256) (h : q.val = 0 + b.val) :
    View.ld c (Rect.unit (s := S1024x256) ![0, 0] ![1024, 128] inb_S1024x256_S1024x128_0_0) (ix2 r b) = c (ix2 r q) := by
  pointwise
  blk_ext

/-- A read of half of a table's lanes. -/
theorem ld128 (c : Vec Ideal S1024x256 .f32) (r : Fin 1024) (b : Fin 128) (q : Fin 256) (h : q.val = 128 + b.val) :
    View.ld c (Rect.unit (s := S1024x256) ![0, 128] ![1024, 128] inb_S1024x256_S1024x128_0_128) (ix2 r b) = c (ix2 r q) := by
  pointwise
  blk_ext

/-- The piece stored at lane 0 is its part of the block. -/
theorem piece7 (z : Vec Ideal S1024x512 .f32) (c s : Vec Ideal S1024x256 .f32) (x : S1024x128.Idx) (r : Fin 1024) (l : Fin 512)
    (h0 : r.val = (x 0).val) (h1 : l.val = (x 1).val) :
    k0_pay7 (F := Ideal) z (View.ld c (Rect.unit (s := S1024x256) ![0, 0] ![1024, 128] inb_S1024x256_S1024x128_0_0)) (View.ld s (Rect.unit (s := S1024x256) ![0, 0] ![1024, 128] inb_S1024x256_S1024x128_0_0)) x = turned z c s r l := by
  obtain ⟨a, b, rfl⟩ : ∃ (a : Fin 1024) (b : Fin 128), x = ix2 a b := ⟨x 0, x 1, eq_ix2 x⟩
  obtain rfl : r = a := Fin.ext h0
  have e : l = ⟨b.val, by omega⟩ := Fin.ext h1
  rw [e]
  rw [pay7_at, ld0 c r b ⟨(b.val) % 256, by omega⟩ (by dsimp only; omega), ld0 s r b ⟨(b.val) % 256, by omega⟩ (by dsimp only; omega)]
  unfold turned
  blk_point []

/-- The piece stored at lane 128 is its part of the block. -/
theorem piece8 (z : Vec Ideal S1024x512 .f32) (c s : Vec Ideal S1024x256 .f32) (x : S1024x128.Idx) (r : Fin 1024) (l : Fin 512)
    (h0 : r.val = (x 0).val) (h1 : l.val = 128 + (x 1).val) :
    k0_pay8 (F := Ideal) z (View.ld c (Rect.unit (s := S1024x256) ![0, 128] ![1024, 128] inb_S1024x256_S1024x128_0_128)) (View.ld s (Rect.unit (s := S1024x256) ![0, 128] ![1024, 128] inb_S1024x256_S1024x128_0_128)) x = turned z c s r l := by
  obtain ⟨a, b, rfl⟩ : ∃ (a : Fin 1024) (b : Fin 128), x = ix2 a b := ⟨x 0, x 1, eq_ix2 x⟩
  obtain rfl : r = a := Fin.ext h0
  have e : l = ⟨128 + b.val, by omega⟩ := Fin.ext h1
  rw [e]
  rw [pay8_at, ld128 c r b ⟨(128 + b.val) % 256, by omega⟩ (by dsimp only; omega), ld128 s r b ⟨(128 + b.val) % 256, by omega⟩ (by dsimp only; omega)]
  unfold turned
  blk_point []

/-- The piece stored at lane 256 is its part of the block. -/
theorem piece9 (z : Vec Ideal S1024x512 .f32) (c s : Vec Ideal S1024x256 .f32) (x : S1024x128.Idx) (r : Fin 1024) (l : Fin 512)
    (h0 : r.val = (x 0).val) (h1 : l.val = 256 + (x 1).val) :
    k0_pay9 (F := Ideal) z (View.ld c (Rect.unit (s := S1024x256) ![0, 0] ![1024, 128] inb_S1024x256_S1024x128_0_0)) (View.ld s (Rect.unit (s := S1024x256) ![0, 0] ![1024, 128] inb_S1024x256_S1024x128_0_0)) x = turned z c s r l := by
  obtain ⟨a, b, rfl⟩ : ∃ (a : Fin 1024) (b : Fin 128), x = ix2 a b := ⟨x 0, x 1, eq_ix2 x⟩
  obtain rfl : r = a := Fin.ext h0
  have e : l = ⟨256 + b.val, by omega⟩ := Fin.ext h1
  rw [e]
  rw [pay9_at, ld0 c r b ⟨(256 + b.val) % 256, by omega⟩ (by dsimp only; omega), ld0 s r b ⟨(256 + b.val) % 256, by omega⟩ (by dsimp only; omega)]
  unfold turned
  blk_point []

/-- The piece stored at lane 384 is its part of the block. -/
theorem piece6 (z : Vec Ideal S1024x512 .f32) (c s : Vec Ideal S1024x256 .f32) (x : S1024x128.Idx) (r : Fin 1024) (l : Fin 512)
    (h0 : r.val = (x 0).val) (h1 : l.val = 384 + (x 1).val) :
    k0_pay6 (F := Ideal) (k0_pay10 (F := Ideal) z) (View.ld c (Rect.unit (s := S1024x256) ![0, 128] ![1024, 128] inb_S1024x256_S1024x128_0_128)) (View.ld s (Rect.unit (s := S1024x256) ![0, 128] ![1024, 128] inb_S1024x256_S1024x128_0_128)) x = turned z c s r l := by
  obtain ⟨a, b, rfl⟩ : ∃ (a : Fin 1024) (b : Fin 128), x = ix2 a b := ⟨x 0, x 1, eq_ix2 x⟩
  obtain rfl : r = a := Fin.ext h0
  have e : l = ⟨384 + b.val, by omega⟩ := Fin.ext h1
  rw [e]
  rw [pay6_at, ld128 c r b ⟨(384 + b.val) % 256, by omega⟩ (by dsimp only; omega), ld128 s r b ⟨(384 + b.val) % 256, by omega⟩ (by dsimp only; omega)]
  unfold turned
  blk_point []

/-- The windows' block indices at a point of the grid. -/
theorem idx : ∀ t : Fin cfg0.N, win0_0.index t = ![t.val / 16, 0] ∧ win0_1.index t = ![0, t.val % 16 + 8]
    ∧ win0_2.index t = ![0, 0] ∧ win0_3.index t = ![0, 0] ∧ win0_4.index t = ![t.val / 16, t.val % 16] ∧ t.val / 16 < 8
    ∧ (grid0.coords t 1).val = t.val % 16 :=
  (by decide +kernel : ∀ t : Fin grid0.N, _)

/-- A row tile of the hidden states times a column tile of the weights. -/
theorem prod_at (c : Dev nD) (t : Fin cfg0.N) (r : Fin 1024) (l : Fin 512) (r' : Fin 8192) (l' : Fin 12288)
    (hr : r'.val = t.val / 16 * 1024 + r.val) (hl : l'.val = 4096 + (t.val % 16 * 512 + l.val)) :
    prod (iblk m c 0 t) (iblk m c 1 t) r l
      = Z (m ((c : Thread nD τ).loc main_arg0)) (m ((c : Thread nD τ).loc main_arg1)) r' l' := by
  obtain ⟨i0, i1, i2, i3, i4, hb, hi⟩ := idx t
  unfold prod Z
  refine Finset.sum_congr rfl fun k _ => ?_
  rw [← w_at m c k l']
  blk_point [iblk, V, i0, i1]

/-- The scaled tile of the queries and keys. -/
theorem z_at (c : Dev nD) (t : Fin cfg0.N) (r : Fin 1024) (l : Fin 512) (r' : Fin 8192) (l' : Fin 4096)
    (hr : r'.val = t.val / 16 * 1024 + r.val) (hl : l'.val = t.val % 16 * 512 + l.val) :
    k0_pay4 (F := Ideal) (grid0.coords t) (iblk m c 0 t) (iblk m c 1 t) (ix2 r l)
      = Zs (m ((c : Thread nD τ).loc main_arg0)) (m ((c : Thread nD τ).loc main_arg1)) r' l' := by
  obtain ⟨i0, i1, i2, i3, i4, hb, hi⟩ := idx t
  rw [pay4_at, prod_at m c t r l r' ⟨4096 + l'.val, by omega⟩ hr (by dsimp only; omega), hi]
  unfold Zs
  by_cases h : l'.val < 2048
  · rw [if_pos h, if_pos (by omega)]
  · rw [if_neg h, if_neg (by omega)]

/-- The cosine table's block is the whole table. -/
theorem c_at (c : Dev nD) (t : Fin cfg0.N) (n : Fin 1024) (l : Fin 256) :
    (iblk m c 2 t : Vec Ideal S1024x256 .f32) (ix2 n l) = Ideal.cos (ang (pos n.val l.val) (l.val % 64)) := by
  obtain ⟨i0, i1, i2, i3, i4, hb, hi⟩ := idx t
  rw [← cos_at m c n l]
  blk_point [iblk, V, i2]

/-- So is the sine table's. -/
theorem s_at (c : Dev nD) (t : Fin cfg0.N) (n : Fin 1024) (l : Fin 256) :
    (iblk m c 3 t : Vec Ideal S1024x256 .f32) (ix2 n l)
      = Ideal.sin (ang (pos n.val l.val) (l.val % 64)) * (if l.val % 128 < 64 then -1 else 1) := by
  obtain ⟨i0, i1, i2, i3, i4, hb, hi⟩ := idx t
  rw [← sin_at m c n l]
  blk_point [iblk, V, i3]

/-- The angle of a lane depends on its row within the sample and on its place within a head only. -/
theorem ang_eq (n : Fin 1024) (l : Fin 512) (r c : ℕ) (hr : r % 1024 = n.val) (hc : c % 512 = l.val) :
    ang (pos n.val (l.val % 256)) (l.val % 256 % 64) = ang (pos r c) (c % 64) := by
  have h1 : l.val % 256 % 64 = c % 64 := by omega
  have h2 : pos n.val (l.val % 256) = pos r c := by
    unfold pos
    rw [hr, Nat.mod_eq_of_lt n.isLt, show l.val % 256 % 256 = c % 256 by omega]
  rw [h1, h2]

/-- The turned block of the samples' queries or keys is the reference's. -/
theorem turned_at (c : Dev nD) (t : Fin cfg0.N) (hA : t.val % 16 ≤ 7) (hB : 64 ≤ t.val) (y0 : Fin 1024) (y1 : Fin 512)
    (h0 : t.val / 16 * 1024 + y0.val - 4096 < 4096) (h1 : t.val % 16 * 512 + y1.val < 8192) :
    turned (k0_pay4 (F := Ideal) (grid0.coords t) (iblk m c 0 t) (iblk m c 1 t)) (iblk m c 2 t) (iblk m c 3 t) y0 y1
      = Cert.Reference2Ideal.Read.val_main_v176 (F := Ideal) (m ((c : Thread nD τ).loc main_arg0)) (m ((c : Thread nD τ).loc main_arg1))
          (ix2 ⟨t.val / 16 * 1024 + y0.val - 4096, h0⟩ ⟨t.val % 16 * 512 + y1.val, h1⟩) := by
  unfold turned
  rw [c_at, s_at]
  dsimp only
  rw [ang_eq y0 y1 (t.val / 16 * 1024 + y0.val - 4096) (t.val % 16 * 512 + y1.val) (by omega) (by omega)]
  rw [z_at m c t y0 y1 ⟨4096 + (t.val / 16 * 1024 + y0.val - 4096), by omega⟩ ⟨t.val % 16 * 512 + y1.val, by omega⟩ (by dsimp only; omega) rfl]
  by_cases h : y1.val % 128 < 64
  · rw [turn_lo _ _ _ _ (by dsimp only; omega) (by dsimp only; omega), if_pos (by omega),
      z_at m c t y0 _ ⟨4096 + (t.val / 16 * 1024 + y0.val - 4096), by omega⟩ ⟨t.val % 16 * 512 + y1.val + 64, by omega⟩ (by dsimp only; omega) (by dsimp only; omega),
      mul_neg, mul_one, mul_neg, ← sub_eq_add_neg]
  · rw [turn_hi _ _ _ _ (by dsimp only; omega) (by dsimp only; omega), if_neg (by omega),
      z_at m c t y0 _ ⟨4096 + (t.val / 16 * 1024 + y0.val - 4096), by omega⟩ ⟨t.val % 16 * 512 + y1.val - 64, by omega⟩ (by dsimp only; omega) (by dsimp only; omega),
      mul_one, add_comm]

/-- What a point of the prompt's queries and keys leaves is the reference's block. -/
theorem caseA (c : Dev nD) (t : Fin cfg0.N) (hA : t.val % 16 ≤ 7) (hB : t.val < 64) (y0 : Fin 1024) (y1 : Fin 512) (r : Fin 8192) (l : Fin 8192)
    (hr : r.val = t.val / 16 * 1024 + y0.val) (hl : l.val = t.val % 16 * 512 + y1.val) :
    outsAt0 m c t.val t.isLt (ix2 y0 y1 : S1024x512.Idx)
      = Cert.Reference2Ideal.Read.val_main_v178 (F := Ideal) (m ((c : Thread nD τ).loc main_arg0)) (m ((c : Thread nD τ).loc main_arg1)) (ix2 r l) := by
  rw [outsAt0_A m c t (by omega) (by omega) hA hB (by omega)]; frame_out
  rw [prompt_at _ _ r (by omega), pqk_at _ _ _ _ (by omega), pay5_at]
  exact z_at m c t y0 y1 _ _ hr hl

/-- What a point of the values leaves is the reference's block. -/
theorem caseB (c : Dev nD) (t : Fin cfg0.N) (hA : 8 ≤ t.val % 16) (hB : t.val % 16 ≤ 11) (y0 : Fin 1024) (y1 : Fin 512) (r : Fin 8192) (l : Fin 8192)
    (hr : r.val = t.val / 16 * 1024 + y0.val) (hl : l.val = t.val % 16 * 512 + y1.val) :
    outsAt0 m c t.val t.isLt (ix2 y0 y1 : S1024x512.Idx)
      = Cert.Reference2Ideal.Read.val_main_v178 (F := Ideal) (m ((c : Thread nD τ).loc main_arg0)) (m ((c : Thread nD τ).loc main_arg1)) (ix2 r l) := by
  rw [outsAt0_B m c t (by omega) ⟨hA, hB⟩ (by omega)]; frame_out
  rw [pay3_at, prod_at m c t y0 y1 r ⟨4096 + l.val, by omega⟩ hr (by dsimp only; omega)]
  exact (values_at _ _ r l (by omega) (by omega)).symm

/-- What a point of the gates leaves is the reference's block. -/
theorem caseC (c : Dev nD) (t : Fin cfg0.N) (hA : 12 ≤ t.val % 16) (y0 : Fin 1024) (y1 : Fin 512) (r : Fin 8192) (l : Fin 8192)
    (hr : r.val = t.val / 16 * 1024 + y0.val) (hl : l.val = t.val % 16 * 512 + y1.val) :
    outsAt0 m c t.val t.isLt (ix2 y0 y1 : S1024x512.Idx)
      = Cert.Reference2Ideal.Read.val_main_v178 (F := Ideal) (m ((c : Thread nD τ).loc main_arg0)) (m ((c : Thread nD τ).loc main_arg1)) (ix2 r l) := by
  rw [outsAt0_C m c t hA (by omega) (by omega)]; frame_out
  rw [pay2_at, prod_at m c t y0 y1 r ⟨4096 + l.val, by omega⟩ hr (by dsimp only; omega)]
  exact (gates_at _ _ r l (by omega)).symm

/-- What a point of the samples' queries and keys leaves is the reference's block. -/
theorem caseD (c : Dev nD) (t : Fin cfg0.N) (hA : t.val % 16 ≤ 7) (hB : 64 ≤ t.val) (y0 : Fin 1024) (y1 : Fin 512) (r : Fin 8192) (l : Fin 8192)
    (hr : r.val = t.val / 16 * 1024 + y0.val) (hl : l.val = t.val % 16 * 512 + y1.val) :
    outsAt0 m c t.val t.isLt (ix2 y0 y1 : S1024x512.Idx)
      = Cert.Reference2Ideal.Read.val_main_v178 (F := Ideal) (m ((c : Thread nD τ).loc main_arg0)) (m ((c : Thread nD τ).loc main_arg1)) (ix2 r l) := by
  rw [outsAt0_D m c t (by omega) (by omega) hA (by omega) hB]; frame_out
  refine Eq.trans (b := turned (k0_pay4 (grid0.coords t) (iblk m c 0 t) (iblk m c 1 t)) (iblk m c 2 t) (iblk m c 3 t) y0 y1) ?_ ?_
  · clear hr hl hA hB
    canon_tiles x h
    · exact piece6 _ _ _ x y0 y1 h0 h1
    · exact piece9 _ _ _ x y0 y1 h0 h1
    · exact piece8 _ _ _ x y0 y1 h0 h1
    · exact piece7 _ _ _ x y0 y1 h0 h1
  · rw [sample_at _ _ r (by omega)]
    have e0 : r.val - 4096 = t.val / 16 * 1024 + y0.val - 4096 := by omega
    simp only [e0]
    have e1 : l = ⟨t.val % 16 * 512 + y1.val, by omega⟩ := Fin.ext hl
    rw [e1]
    exact turned_at m c t hA hB y0 y1 _ _

/-- The kernel's result array is the reference's term of the same arguments. -/
theorem final (c : Dev nD) : (dats m 0 c).arrAt 4 (cfgs 0).N
    = Cert.Reference2Ideal.Read.val_main_v178 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  obtain ⟨y0, y1, rfl⟩ : ∃ (a : Fin 1024) (b : Fin 512), y = ix2 a b := ⟨y 0, y 1, eq_ix2 y⟩
  obtain ⟨i0, i1, i2, i3, i4, hb, hi⟩ := idx t
  have e : ((View.whole main_v56).slice (win0_4.rect t)).emb (ix2 y0 y1 : S1024x512.Idx)
      = (ix2 ⟨t.val / 16 * 1024 + y0.val, by omega⟩ ⟨t.val % 16 * 512 + y1.val, by omega⟩ : S8192x8192.Idx) := by
    blk_ext [i4]
  rw [e]
  by_cases hA : t.val % 16 ≤ 7
  · by_cases hB : t.val < 64
    · exact caseA m c t hA hB y0 y1 _ _ rfl rfl
    · exact caseD m c t hA (by omega) y0 y1 _ _ rfl rfl
  · by_cases hC : 12 ≤ t.val % 16
    · exact caseC m c t hC y0 y1 _ _ rfl rfl
    · exact caseB m c t (by omega) (by omega) y0 y1 _ _ rfl rfl

end Cert.Qkvg

end
-- ==== Proof.Glu.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Glu

open Cert.Kernel3Ideal Cert.Kernel3Ideal.Gen

variable (m : (ℓ : Loc nD τ sig) → Buf (Elt Ideal) ℓ)

open Cert.Reference3Ideal.Read in
/-- One element of the reference's gated product: the first projection times the logistic of the second. -/
theorem ref_at (X : FVec Ideal S8192x4096 .bf16) (W : FVec Ideal S1x4096x12288 .f32) (r : Fin 8192) (l : Fin 2048) :
    val_main_v11 (F := Ideal) X W (ix2 r l)
      = (∑ k : Fin 4096, X (ix2 r k) * W (ix3 0 k ⟨l.val, by omega⟩))
        * Ideal.div 1 (1 + Ideal.exp (-(∑ k : Fin 4096, X (ix2 r k) * W (ix3 0 k ⟨2048 + l.val, by omega⟩)))) := by
  pointwise [val_main_v11, val_main_v10, val_main_v9, val_main_v8, val_main_v7, val_main_v6, val_main_v5, val_main_v4,
    val_main_v3, val_main_v2, val_main_v1, val_main_v0, val_main_cst, val_main_cst_0]

/-- One element of the block the body stores. -/
theorem pay_at (x : Vec Ideal S1024x4096 .bf16) (a b : Vec Ideal S4096x256 .f32) (r : Fin 1024) (l : Fin 256) :
    k0_pay1 (F := Ideal) x a b (ix2 r l)
      = (∑ k : Fin 4096, x (ix2 r k) * a (ix2 k l))
        * Ideal.div 1 (1 + Ideal.exp (-(∑ k : Fin 4096, x (ix2 r k) * b (ix2 k l)))) := by
  pointwise [k0_pay1]
  rw [sub_eq_add_neg, zero_add]

/-- The windows' block indices at a point of the grid. -/
theorem idx : ∀ t : Fin cfg0.N, win0_0.index t = ![t.val / 8, 0] ∧ win0_1.index t = ![0, t.val % 8]
    ∧ win0_2.index t = ![0, t.val % 8 + 8] ∧ win0_3.index t = ![t.val / 8, t.val % 8] ∧ t.val / 8 < 8 :=
  (by decide +kernel : ∀ t : Fin grid0.N, _)

/-- The kernel's result array is the reference's term of the same arguments. -/
theorem final (c : Dev nD) : (dats m 0 c).arrAt 3 (cfgs 0).N
    = Cert.Reference3Ideal.Read.val_main_v11 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  obtain ⟨y0, y1, rfl⟩ : ∃ (a : Fin 1024) (b : Fin 256), y = ix2 a b := ⟨y 0, y 1, eq_ix2 y⟩
  have h := (idx t).2.2.2.2
  have e : ((View.whole main_v1).slice (win0_3.rect t)).emb (ix2 y0 y1 : S1024x256.Idx)
      = (ix2 ⟨t.val / 8 * 1024 + y0.val, by omega⟩ ⟨t.val % 8 * 256 + y1.val, by omega⟩ : S8192x2048.Idx) := by
    blk_ext [idx t]
  refine (pay_at _ _ _ y0 y1).trans (Eq.trans ?_ ((congrArg _ e).trans (ref_at _ _ _ _)).symm)
  blk_point [iblk, V, idx t]

end Cert.Glu

end
-- ==== Proof.Out.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Out

open Cert.Kernel4Ideal Cert.Kernel4Ideal.Gen

variable (m : (ℓ : Loc nD τ sig) → Buf (Elt Ideal) ℓ)

/-- The weight of the residual: the word of the fourth root of two. -/
abbrev alpha : EReal := Ideal.ofBits .f32 0x3F9837F0#32

/-- The two products of one row of the mixers' outputs with one column of the weights. -/
def prod (U R : FVec Ideal S8192x2048 .bf16) (W : FVec Ideal S1x4096x4096 .f32) (r : Fin 8192) (l : Fin 4096) : EReal :=
  (∑ k : Fin 2048, U (ix2 r k) * W (ix3 0 ⟨k.val, by omega⟩ l)) + ∑ k : Fin 2048, R (ix2 r k) * W (ix3 0 ⟨2048 + k.val, by omega⟩ l)

open Cert.Reference4Ideal.Read in
/-- One element of the reference's product with the joined mixers' outputs. -/
theorem prod_at (U R : FVec Ideal S8192x2048 .bf16) (W : FVec Ideal S1x4096x4096 .f32) (r : Fin 8192) (l : Fin 4096) :
    val_main_v6 (F := Ideal) U R W (ix2 r l) = prod U R W r l := by
  pointwise [val_main_v6, val_main_v5, val_main_v4, val_main_v3, val_main_v2]
  rfl

open Cert.Reference4Ideal.Read in
/-- One element of the reference's result in the prompt's rows. -/
theorem refP_at (U R : FVec Ideal S8192x2048 .bf16) (W : FVec Ideal S1x4096x4096 .f32) (X : FVec Ideal Cert.Reference4Ideal.S16x256x4096 .f32)
    (Y : FVec Ideal Cert.Reference4Ideal.S4x1024x4096 .f32) (M : FVec Ideal Cert.Reference4Ideal.S8x24576 .f32) (r : Fin 8192) (h : r.val < 4096) (l : Fin 4096) :
    val_main_v25 (F := Ideal) U R W X Y M (ix2 r l)
      = alpha * X (ix3 ⟨r.val / 256, by omega⟩ ⟨r.val % 256, by omega⟩ l) + M (ix2 0 ⟨8192 + l.val, by omega⟩) * prod U R W r l := by
  rw [← prod_at]
  pointwise [val_main_v25, val_main_v23, val_main_v16, val_main_v15, val_main_v14, val_main_v13, val_main_v12, val_main_v11,
    val_main_cst, val_main_v8, val_main_v7, val_main_v1, val_main_v0]
  rw [dif_pos (by omega)]
  have e : (ix2 ⟨r.val / 256 * 256 + r.val % 256, by omega⟩ l : S8192x4096.Idx) = ix2 r l := by blk_ext
  rw [e]

open Cert.Reference4Ideal.Read in
/-- One element of the reference's result in the samples' rows. -/
theorem refS_at (U R : FVec Ideal S8192x2048 .bf16) (W : FVec Ideal S1x4096x4096 .f32) (X : FVec Ideal Cert.Reference4Ideal.S16x256x4096 .f32)
    (Y : FVec Ideal Cert.Reference4Ideal.S4x1024x4096 .f32) (M : FVec Ideal Cert.Reference4Ideal.S8x24576 .f32) (r : Fin 8192) (h : 4096 ≤ r.val) (l : Fin 4096) :
    val_main_v25 (F := Ideal) U R W X Y M (ix2 r l)
      = alpha * Y (ix3 ⟨(r.val - 4096) / 1024, by omega⟩ ⟨(r.val - 4096) % 1024, by omega⟩ l)
        + M (ix2 ⟨1 + (r.val - 4096) / 1024, by omega⟩ ⟨8192 + l.val, by omega⟩) * prod U R W r l := by
  rw [← prod_at]
  pointwise [val_main_v25, val_main_v24, val_main_v22, val_main_v21, val_main_v20, val_main_v19, val_main_v18, val_main_v17,
    val_main_cst_0, val_main_v10, val_main_v9, val_main_v1, val_main_v0]
  rw [dif_neg (by omega)]
  have e : (ix2 ⟨4096 + ((r.val - 4096) / 1024 * 1024 + (r.val - 4096) % 1024), by omega⟩ l : S8192x4096.Idx) = ix2 r l := by blk_ext
  rw [e]

/-- One element of the block stored at a point of the prompt's rows. -/
theorem pay2_at (u : Vec Ideal S1024x2048 .bf16) (w1 : Vec Ideal S2048x512 .f32) (v : Vec Ideal S1024x2048 .bf16) (w2 : Vec Ideal S2048x512 .f32)
    (x : Vec Ideal S1024x512 .f32) (g : Vec Ideal S1x1x512 .f32) (r : Fin 1024) (l : Fin 512) :
    k0_pay2 (F := Ideal) u w1 v w2 x g (ix2 r l)
      = alpha * x (ix2 r l) + g (ix3 0 0 l) * ((∑ k : Fin 2048, u (ix2 r k) * w1 (ix2 k l)) + ∑ k : Fin 2048, v (ix2 r k) * w2 (ix2 k l)) := by
  pointwise [k0_pay2, k0_pay1]

/-- The same at a point of the samples' rows. -/
theorem pay3_at (u : Vec Ideal S1024x2048 .bf16) (w1 : Vec Ideal S2048x512 .f32) (v : Vec Ideal S1024x2048 .bf16) (w2 : Vec Ideal S2048x512 .f32)
    (x : Vec Ideal S1024x512 .f32) (g : Vec Ideal S1x1x512 .f32) (r : Fin 1024) (l : Fin 512) :
    k0_pay3 (F := Ideal) u w1 v w2 x g (ix2 r l)
      = alpha * x (ix2 r l) + g (ix3 0 0 l) * ((∑ k : Fin 2048, u (ix2 r k) * w1 (ix2 k l)) + ∑ k : Fin 2048, v (ix2 r k) * w2 (ix2 k l)) :=
  pay2_at u w1 v w2 x g r l

/-- The windows' block indices at a point of the grid. -/
theorem idx : ∀ t : Fin cfg0.N, win0_0.index t = ![t.val / 8, 0] ∧ win0_1.index t = ![t.val / 8, 0]
    ∧ win0_2.index t = ![0, t.val % 8] ∧ win0_3.index t = ![1, t.val % 8]
    ∧ (t.val < 32 → win0_4.index t = ![t.val / 8, t.val % 8]) ∧ (32 ≤ t.val → win0_5.index t = ![t.val / 8 - 4, t.val % 8])
    ∧ win0_6.index t = ![if t.val < 32 then 0 else t.val / 8 - 3, 0, t.val % 8]
    ∧ win0_7.index t = ![t.val / 8, t.val % 8] ∧ t.val / 8 < 8 :=
  (by decide +kernel : ∀ t : Fin grid0.N, _)

/-- The kernel's result array is the reference's term of the same arguments. -/
theorem final (c : Dev nD) : (dats m 0 c).arrAt 7 (cfgs 0).N
    = Cert.Reference4Ideal.Read.val_main_v25 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨y0, y1, rfl⟩ : ∃ (a : Fin 1024) (b : Fin 512), y = ix2 a b := ⟨y 0, y 1, eq_ix2 y⟩
  obtain ⟨i0, i1, i2, i3, i4, i5, i6, i7, h⟩ := idx t
  have e : ((View.whole main_v5).slice (win0_7.rect t)).emb (ix2 y0 y1 : S1024x512.Idx)
      = (ix2 ⟨t.val / 8 * 1024 + y0.val, by omega⟩ ⟨t.val % 8 * 512 + y1.val, by omega⟩ : S8192x4096.Idx) := by
    blk_ext [i7]
  by_cases hA : t.val < 32
  · rw [outsAt0_A m c t hA (by omega)]; frame_out
    have i4 := i4 hA
    have hr : t.val / 8 * 1024 + y0.val < 4096 := by omega
    rw [if_pos hA] at i6
    refine (pay2_at _ _ _ _ _ _ y0 y1).trans (Eq.trans ?_ ((congrArg _ e).trans (refP_at _ _ _ _ _ _ _ hr _)).symm)
    unfold prod
    blk_point [iblk, V, i0, i1, i2, i3, i4, i6]
  · rw [outsAt0_B m c t hA (by omega)]; frame_out
    have i5 := i5 (by omega)
    have hr : 4096 ≤ t.val / 8 * 1024 + y0.val := by omega
    rw [if_neg hA] at i6
    refine (pay3_at _ _ _ _ _ _ y0 y1).trans (Eq.trans ?_ ((congrArg _ e).trans (refS_at _ _ _ _ _ _ _ hr _)).symm)
    unfold prod
    blk_point [iblk, V, i0, i1, i2, i3, i5, i6]

end Cert.Out

end
-- ==== Proof.Modul.lean ====
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Routing.OpsSet
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Routing (resultIdx?_ix2 scatter_set_hit scatter_set_miss)

namespace Cert.Modul

open Cert.Kernel5Ideal Cert.Kernel5Ideal.Gen

variable (m : (ℓ : Loc nD τ sig) → Buf (Elt Ideal) ℓ)

/-- Where an update of one row lands, its row number the one index word. -/
theorem lands_row (i : IVec S1 32) (k : ℕ) (hi : (i (ix1 0)).toInt = k) (w : Fin 4096) (r : Fin 8) (e : Fin 4096) :
    scatter_S8x4096_S1_S4096_0_0_0_0.resultIdx? (ix1 w) i = some (ix2 r e) ↔ r.val = k ∧ e = w := by
  have s0 : scatter_S8x4096_S1_S4096_0_0_0_0.start (ix1 w) i 0 = (i (ix1 0)).toInt := by
    unfold ScatterDims.start
    rw [dif_pos (by exact List.mem_singleton.2 rfl)]
    exact congrArg (fun j => (i j).toInt) (by funext b; match b with | ⟨0, _⟩ => exact Subsingleton.elim (α := Fin 1) _ _)
  have s1 : scatter_S8x4096_S1_S4096_0_0_0_0.start (ix1 w) i 1 = 0 := rfl
  have w0 : scatter_S8x4096_S1_S4096_0_0_0_0.window (ix1 w) 0 = 0 := rfl
  have w1 : scatter_S8x4096_S1_S4096_0_0_0_0.window (ix1 w) 1 = w.val := rfl
  refine (resultIdx?_ix2 _ _ _ _ _).trans ?_
  rw [s0, s1, w0, w1, hi, Fin.ext_iff]
  omega

/-- Where an update of four rows lands, the number of the first the one index word. -/
theorem lands_rows (i : IVec S1 32) (k : ℕ) (hi : (i (ix1 0)).toInt = k) (b : Fin 4) (w : Fin 4096) (r : Fin 8) (e : Fin 4096) :
    scatter_S8x4096_S1_S4x4096_01_n_0_0.resultIdx? (ix2 b w) i = some (ix2 r e) ↔ r.val = k + b.val ∧ e = w := by
  have s0 : scatter_S8x4096_S1_S4x4096_01_n_0_0.start (ix2 b w) i 0 = (i (ix1 0)).toInt := by
    unfold ScatterDims.start
    rw [dif_pos (by exact List.mem_singleton.2 rfl)]
    exact congrArg (fun j => (i j).toInt) (by funext b; match b with | ⟨0, _⟩ => exact Subsingleton.elim (α := Fin 1) _ _)
  have s1 : scatter_S8x4096_S1_S4x4096_01_n_0_0.start (ix2 b w) i 1 = 0 := rfl
  have w0 : scatter_S8x4096_S1_S4x4096_01_n_0_0.window (ix2 b w) 0 = b.val := rfl
  have w1 : scatter_S8x4096_S1_S4x4096_01_n_0_0.window (ix2 b w) 1 = w.val := rfl
  refine (resultIdx?_ix2 _ _ _ _ _).trans ?_
  rw [s0, s1, w0, w1, hi, Fin.ext_iff]
  omega

/-- One row set. -/
theorem set_row (x : FVec Ideal S8x4096 .f32) (i : IVec S1 32) (k : ℕ) (hi : (i (ix1 0)).toInt = k) (u : FVec Ideal S4096 .f32) (r : Fin 8) (e : Fin 4096) :
    Host.scatter scatter_S8x4096_S1_S4096_0_0_0_0 (fun _ b => b) x i u (ix2 r e) = if r.val = k then u (ix1 e) else x (ix2 r e) := by
  have q : ∀ j : S4096.Idx, scatter_S8x4096_S1_S4096_0_0_0_0.resultIdx? j i = some (ix2 r e) → r.val = k ∧ e = j 0 := fun j hj =>
    (lands_row i k hi (j 0) r e).1 ((congrArg (scatter_S8x4096_S1_S4096_0_0_0_0.resultIdx? · i) (eq_ix1 j).symm).trans hj)
  by_cases h : r.val = k
  · rw [if_pos h]
    exact scatter_set_hit _ x i u _ _ (fun j hj => congrArg u ((eq_ix1 j).trans (congrArg ix1 (q j hj).2.symm))) (ix1 e)
      ((lands_row i k hi e r e).2 ⟨h, rfl⟩)
  · rw [if_neg h]
    exact scatter_set_miss _ x i u _ fun j hj => h (q j hj).1

/-- Four rows set. -/
theorem set_rows (x : FVec Ideal S8x4096 .f32) (i : IVec S1 32) (k : ℕ) (hi : (i (ix1 0)).toInt = k) (u : FVec Ideal S4x4096 .f32) (r : Fin 8) (e : Fin 4096) :
    Host.scatter scatter_S8x4096_S1_S4x4096_01_n_0_0 (fun _ b => b) x i u (ix2 r e)
      = if h : k ≤ r.val ∧ r.val < k + 4 then u (ix2 ⟨r.val - k, by omega⟩ e) else x (ix2 r e) := by
  have q : ∀ j : S4x4096.Idx, scatter_S8x4096_S1_S4x4096_01_n_0_0.resultIdx? j i = some (ix2 r e) → r.val = k + (j 0).val ∧ e = j 1 := fun j hj =>
    (lands_rows i k hi (j 0) (j 1) r e).1 ((congrArg (scatter_S8x4096_S1_S4x4096_01_n_0_0.resultIdx? · i) (eq_ix2 j).symm).trans hj)
  by_cases h : k ≤ r.val ∧ r.val < k + 4
  · rw [dif_pos h]
    refine scatter_set_hit _ x i u _ _ (fun j hj => congrArg u ((eq_ix2 j).trans (congrArg₂ ix2 (Fin.ext ?_) (q j hj).2.symm))) (ix2 ⟨r.val - k, by omega⟩ e)
      ((lands_rows i k hi _ e r e).2 ⟨by dsimp only; omega, rfl⟩)
    have := (q j hj).1
    dsimp only; omega
  · rw [dif_neg h]
    refine scatter_set_miss _ x i u _ fun j hj => h ?_
    have := (q j hj).1
    have hj0 : (j 0).val < 4 := (j 0).isLt
    omega

/-- The condition vectors as the host stacks them are the reference's. -/
theorem V_cond (c : Dev nD) : V m c main_v4
    = Cert.Reference5Ideal.Read.val_main_v2 (F := Ideal) (m ((c : Thread nD τ).loc main_arg0)) (m ((c : Thread nD τ).loc main_arg1)) := by
  unfold V
  after_results
  funext y
  obtain ⟨r, e, rfl⟩ : ∃ (a : Fin 8) (b : Fin 4096), y = ix2 a b := ⟨y 0, y 1, eq_ix2 y⟩
  refine (set_rows _ _ 1 (by rfl) _ r e).trans ?_
  rw [set_row _ _ 0 (by rfl)]
  pointwise [Cert.Reference5Ideal.Read.val_main_v2, Cert.Reference5Ideal.Read.val_main_v1, Cert.Reference5Ideal.Read.val_main_v0, Cert.Reference5Ideal.Read.val_main_cst]
  by_cases h0 : r.val < 1
  · rw [dif_neg (by omega), if_pos (by omega), dif_pos h0]
  · rw [dif_neg h0]
    by_cases h1 : r.val - 1 < 4
    · rw [dif_pos (by omega), dif_pos h1]
    · rw [dif_neg (by omega), if_neg (by omega), dif_neg h1]

/-- The weight as the host hands it over. -/
theorem V_w (c : Dev nD) (k : Fin 4096) (l : Fin 24576) : V m c main_v5 (ix2 k l) = m ((c : Thread nD τ).loc main_arg2) (ix3 0 k l) := by
  unfold V
  after_results
  pointwise

/-- The bias as the host hands it over. -/
theorem V_b (c : Dev nD) (l : Fin 24576) : V m c main_v7 (ix2 0 l) = m ((c : Thread nD τ).loc main_arg3) (ix2 0 l) := by
  unfold V
  after_results
  pointwise

/-- A value through the gate of its own logistic. -/
def sil (x : EReal) : EReal := x * Ideal.div 1 (1 + Ideal.exp (-x))

open Cert.Reference5Ideal.Read in
/-- One element of the reference's modulation vectors. -/
theorem ref_at (C : FVec Ideal Cert.Reference5Ideal.S4x4096 .f32) (X : FVec Ideal Cert.Reference5Ideal.S4096 .f32)
    (W : FVec Ideal Cert.Reference5Ideal.S1x4096x24576 .f32) (B : FVec Ideal Cert.Reference5Ideal.S1x24576 .f32) (r : Fin 8) (l : Fin 24576) :
    val_main_v9 (F := Ideal) C X W B (ix2 r l)
      = (∑ k : Fin 4096, sil (val_main_v2 (F := Ideal) C X (ix2 r k)) * W (ix3 0 k l)) + B (ix2 0 l) := by
  unfold sil
  pointwise [val_main_v9, val_main_v8, val_main_v7, val_main_v6, val_main_v5, val_main_v4, val_main_v3, val_main_call0_v5, val_main_call0_v4,
    val_main_call0_cst_0, val_main_call0_v3, val_main_call0_v2, val_main_call0_cst, val_main_call0_v1, val_main_call0_v0]

/-- One element of the block the body stores. -/
theorem pay_at (x : Vec Ideal S8x4096 .f32) (w : Vec Ideal S4096x512 .f32) (b : Vec Ideal S1x512 .f32) (r : Fin 8) (l : Fin 512) :
    k0_pay1 (F := Ideal) x w b (ix2 r l) = (∑ k : Fin 4096, sil (x (ix2 r k)) * w (ix2 k l)) + b (ix2 0 l) := by
  unfold sil
  pointwise [k0_pay1]
  simp only [sub_eq_add_neg, zero_add]

/-- The windows' block indices at a point of the grid. -/
theorem idx : ∀ t : Fin cfg0.N, win0_0.index t = ![0, 0] ∧ win0_1.index t = ![0, t.val] ∧ win0_2.index t = ![0, t.val]
    ∧ win0_3.index t = ![0, t.val] ∧ t.val < 48 :=
  (by decide +kernel : ∀ t : Fin grid0.N, _)

/-- The kernel's result array is the reference's term of the same arguments. -/
theorem final (c : Dev nD) : (dats m 0 c).arrAt 3 (cfgs 0).N
    = Cert.Reference5Ideal.Read.val_main_v9 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t _ y => ?_
  blk_simp
  rw [after0_3]; frame_out
  obtain ⟨y0, y1, rfl⟩ : ∃ (a : Fin 8) (b : Fin 512), y = ix2 a b := ⟨y 0, y 1, eq_ix2 y⟩
  obtain ⟨i0, i1, i2, i3, h⟩ := idx t
  have e : ((View.whole main_v8).slice (win0_3.rect t)).emb (ix2 y0 y1 : S8x512.Idx)
      = (ix2 y0 ⟨t.val * 512 + y1.val, by omega⟩ : S8x24576.Idx) := by
    blk_ext [i3]
  refine (pay_at _ _ _ y0 y1).trans (Eq.trans ?_ ((congrArg _ e).trans (ref_at _ _ _ _ _ _)).symm)
  refine congrArg₂ (· + ·) (Finset.sum_congr rfl fun k _ => congrArg₂ (· * ·) (congrArg sil ?_) ?_) ?_
  · refine Eq.trans (b := V m c main_v4 (ix2 y0 k)) ?_ (congrFun (V_cond m c) _)
    unfold iblk; generalize V m c main_v4 = X
    blk_point [i0]
  · refine Eq.trans (b := V m c main_v5 (ix2 k ⟨t.val * 512 + y1.val, by omega⟩)) ?_ (V_w m c _ _)
    blk_point [iblk, i1]
  · refine Eq.trans (b := V m c main_v7 (ix2 0 ⟨t.val * 512 + y1.val, by omega⟩)) ?_ (V_b m c _)
    blk_point [iblk, i2]

end Cert.Modul

end
-- ==== Proof.Norm.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm

open Cert.Kernel6Ideal Cert.Kernel6Ideal.Gen

variable (m : (ℓ : Loc nD τ sig) → Buf (Elt Ideal) ℓ)

/-- The number of lanes of a row, as the programs divide by it. -/
abbrev width : EReal := Ideal.ofBits .f32 0x45800000#32
/-- The term under the root. -/
abbrev eps : EReal := Ideal.ofBits .f32 0x3727C5AC#32

/-- A row of the model with its mean taken off, over its standard deviation. -/
def normed (x : Fin 4096 → EReal) (l : Fin 4096) : EReal :=
  (x l - Ideal.div (∑ k, x k) width)
    * Ideal.rsqrt (Ideal.div (∑ k, (x k - Ideal.div (∑ k, x k) width) * (x k - Ideal.div (∑ k, x k) width)) width + eps)

/-- One element of the block stored at a point of the prompt's rows. -/
theorem pay1_at (x : Vec Ideal S512x4096 .f32) (s h : Vec Ideal S1x1x4096 .f32) (r : Fin 512) (l : Fin 4096) :
    k0_pay1 (F := Ideal) x s h (ix2 r l) = normed (fun k => x (ix2 r k)) l * (1 + s (ix3 0 0 l)) + h (ix3 0 0 l) := by
  unfold normed
  pointwise [k0_pay1]

/-- The same at a point of the samples' rows. -/
theorem pay2_at (x : Vec Ideal S512x4096 .f32) (s h : Vec Ideal S1x1x4096 .f32) (r : Fin 512) (l : Fin 4096) :
    k0_pay2 (F := Ideal) x s h (ix2 r l) = normed (fun k => x (ix2 r k)) l * (1 + s (ix3 0 0 l)) + h (ix3 0 0 l) :=
  pay1_at x s h r l

section
variable (X : FVec Ideal Cert.Reference6Ideal.S16x256x4096 .f32) (Y : FVec Ideal Cert.Reference6Ideal.S4x1024x4096 .f32)
  (M : FVec Ideal Cert.Reference6Ideal.S8x24576 .f32)

open Cert.Reference6Ideal.Read in
/-- The reference's normalised prompt. -/
theorem lnP_at (b : Fin 16) (n : Fin 256) (l : Fin 4096) : val_main_v21 (F := Ideal) X (ix3 b n l) = normed (fun k => X (ix3 b n k)) l := by
  unfold normed
  pointwise [val_main_cst, val_main_v4, val_main_v5, val_main_cst_0, val_main_v6, val_main_v7, val_main_v8, val_main_v9, val_main_v10,
    val_main_cst_1, val_main_v11, val_main_v12, val_main_cst_2, val_main_v13, val_main_v14, val_main_v15, val_main_v16, val_main_cst_3,
    val_main_v17, val_main_v18, val_main_v19, val_main_v20, val_main_v21]

open Cert.Reference6Ideal.Read in
/-- The reference's normalised samples. -/
theorem lnS_at (b : Fin 4) (n : Fin 1024) (l : Fin 4096) : val_main_v47 (F := Ideal) Y (ix3 b n l) = normed (fun k => Y (ix3 b n k)) l := by
  unfold normed
  pointwise [val_main_cst_5, val_main_v30, val_main_v31, val_main_cst_6, val_main_v32, val_main_v33, val_main_v34, val_main_v35, val_main_v36,
    val_main_cst_7, val_main_v37, val_main_v38, val_main_cst_8, val_main_v39, val_main_v40, val_main_v41, val_main_v42, val_main_cst_9,
    val_main_v43, val_main_v44, val_main_v45, val_main_v46, val_main_v47]

open Cert.Reference6Ideal.Read in
/-- One element of the reference's result in the prompt's rows. -/
theorem refP_at (r : Fin 8192) (h : r.val < 4096) (l : Fin 4096) : val_main_v59 (F := Ideal) X Y M (ix2 r l)
      = normed (fun k => X (ix3 ⟨r.val / 256, by omega⟩ ⟨r.val % 256, by omega⟩ k)) l * (1 + M (ix2 0 ⟨4096 + l.val, by omega⟩)) + M (ix2 0 ⟨l.val, by omega⟩) := by
  rw [← lnP_at]
  pointwise [val_main_v59, val_main_v58, val_main_v56, val_main_v29, val_main_v28, val_main_v27, val_main_v26, val_main_v25, val_main_v24,
    val_main_v23, val_main_v22, val_main_cst_4, val_main_v3, val_main_v2, val_main_v1, val_main_v0]
  rw [dif_pos (by omega)]

open Cert.Reference6Ideal.Read in
/-- One element of the reference's result in the samples' rows. -/
theorem refS_at (r : Fin 8192) (h : 4096 ≤ r.val) (l : Fin 4096) : val_main_v59 (F := Ideal) X Y M (ix2 r l)
      = normed (fun k => Y (ix3 ⟨(r.val - 4096) / 1024, by omega⟩ ⟨(r.val - 4096) % 1024, by omega⟩ k)) l
        * (1 + M (ix2 ⟨1 + (r.val - 4096) / 1024, by omega⟩ ⟨4096 + l.val, by omega⟩)) + M (ix2 ⟨1 + (r.val - 4096) / 1024, by omega⟩ ⟨l.val, by omega⟩) := by
  rw [← lnS_at]
  pointwise [val_main_v59, val_main_v58, val_main_v57, val_main_v55, val_main_v54, val_main_v53, val_main_v52, val_main_v51, val_main_v50,
    val_main_v49, val_main_v48, val_main_cst_10, val_main_v3, val_main_v2, val_main_v1, val_main_v0]
  rw [dif_neg (by omega)]
end

/-- The windows' block indices at a point of the grid. -/
theorem idx : ∀ t : Fin cfg0.N, (t.val < 8 → win0_0.index t = ![t.val, 0]) ∧ (8 ≤ t.val → win0_1.index t = ![t.val - 8, 0])
    ∧ win0_2.index t = ![if t.val < 8 then 0 else t.val / 2 - 3, 0, 0] ∧ win0_3.index t = ![if t.val < 8 then 0 else t.val / 2 - 3, 0, 0]
    ∧ win0_4.index t = ![t.val, 0] ∧ t.val < 16 :=
  (by decide +kernel : ∀ t : Fin grid0.N, _)

/-- The kernel's result array is the reference's term of the same arguments. -/
theorem final (c : Dev nD) : (dats m 0 c).arrAt 4 (cfgs 0).N
    = Cert.Reference6Ideal.Read.val_main_v59 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  obtain ⟨y0, y1, rfl⟩ : ∃ (a : Fin 512) (b : Fin 4096), y = ix2 a b := ⟨y 0, y 1, eq_ix2 y⟩
  obtain ⟨i0, i1, i2, i3, i4, h⟩ := idx t
  have e : ((View.whole main_v6).slice (win0_4.rect t)).emb (ix2 y0 y1 : S512x4096.Idx)
      = (ix2 ⟨t.val * 512 + y0.val, by omega⟩ y1 : S8192x4096.Idx) := by
    blk_ext [i4]
  by_cases hA : t.val < 8
  · rw [outsAt0_A m c t hA (by omega)]; frame_out
    have i0 := i0 hA
    have hr : t.val * 512 + y0.val < 4096 := by omega
    rw [if_pos hA] at i2 i3
    refine (pay1_at _ _ _ y0 y1).trans (Eq.trans ?_ ((congrArg _ e).trans (refP_at _ _ _ _ hr _)).symm)
    refine congrArg₂ (· + ·) (congrArg₂ (· * ·) (congrArg (normed · y1) (funext fun k => ?_)) (congrArg (1 + ·) ?_)) ?_
    · blk_point [iblk, V, i0]
    · blk_point [iblk, V, i2]
    · blk_point [iblk, V, i3]
  · rw [outsAt0_B m c t hA (by omega)]; frame_out
    have i1 := i1 (by omega)
    have hr : 4096 ≤ t.val * 512 + y0.val := by omega
    rw [if_neg hA] at i2 i3
    refine (pay2_at _ _ _ y0 y1).trans (Eq.trans ?_ ((congrArg _ e).trans (refS_at _ _ _ _ hr _)).symm)
    refine congrArg₂ (· + ·) (congrArg₂ (· * ·) (congrArg (normed · y1) (funext fun k => ?_)) (congrArg (1 + ·) ?_)) ?_
    · blk_point [iblk, V, i1]
    · blk_point [iblk, V, i2]
    · blk_point [iblk, V, i3]

end Cert.Norm

end
-- ==== Proof.Conv.lean ====
module

public import proofs.«01_k».proof.Proof.Gen.Kernel7Ideal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.Kernel7Ideal Cert.Kernel7Ideal.Gen

/-- The sum over the filter's 31 taps, the first tap first. -/
def taps (f : Fin 31 → EReal) : EReal :=
  0 + f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ + f ⟨15, by decide⟩ + f ⟨16, by decide⟩ + f ⟨17, by decide⟩ + f ⟨18, by decide⟩ + f ⟨19, by decide⟩ + f ⟨20, by decide⟩ + f ⟨21, by decide⟩ + f ⟨22, by decide⟩ + f ⟨23, by decide⟩ + f ⟨24, by decide⟩ + f ⟨25, by decide⟩ + f ⟨26, by decide⟩ + f ⟨27, by decide⟩ + f ⟨28, by decide⟩ + f ⟨29, by decide⟩ + f ⟨30, by decide⟩

theorem taps_congr {f g : Fin 31 → EReal} (h : ∀ j, f j = g j) : taps f = taps g := congrArg taps (funext h)

/-- One row of one group of 128 channels: the taps over the rows of `B` from the one after it, and the bias. -/
def convf (B : S16x288x128.Idx → EReal) (W : S16x32x128.Idx → EReal) (b : S16x1x128.Idx → EReal) (k : Fin 16) (r : Fin 256) (l : Fin 128) : EReal :=
  taps (fun j => B (ix3 k ⟨1 + j.val + r.val, by omega⟩ l) * W (ix3 k ⟨j.val, by omega⟩ l)) + b (ix3 k 0 l)

/-- What a trip of the loop stores, at an index. -/
theorem pay_at (B0 B1 B2 B3 B4 B5 B6 B7 B8 B9 B10 B11 B12 B13 B14 B15 B16 B17 B18 B19 B20 B21 B22 B23 B24 B25 B26 B27 B28 B29 B30 : Vec Ideal S1x256x128 .f32) (W0 W1 W2 W3 W4 W5 W6 W7 W8 W9 W10 W11 W12 W13 W14 W15 W16 W17 W18 W19 W20 W21 W22 W23 W24 W25 W26 W27 W28 W29 W30 b : Vec Ideal S1x1x128 .f32) (r : Fin 256) (l : Fin 128) :
    k0_pay12 (F := Ideal) (k0_pay10 (k0_pay7 (k0_pay6 (k0_pay4 (k0_pay3 (k0_pay1 B0 W0 B1 W1 B2 W2 B3 W3) (k0_pay2 B4) W4 B5 W5 B6 W6 B7 W7 B8 W8) B9 W9 B10 W10 B11 W11 B12 W12) (k0_pay5 B13) W13 B14 W14 B15 W15 B16 W16 B17 W17) B18 W18 B19 W19 B20 W20 B21 W21) (k0_pay8 B22) (k0_pay9 W22) B23 W23 B24 W24 B25 W25 B26 W26) (k0_pay11 B27) W27 B28 W28 B29 W29 B30 W30 b (ix3 0 r l)
      = 0 + B0 (ix3 0 r l) * W0 (ix3 0 0 l) + B1 (ix3 0 r l) * W1 (ix3 0 0 l) + B2 (ix3 0 r l) * W2 (ix3 0 0 l) + B3 (ix3 0 r l) * W3 (ix3 0 0 l) + B4 (ix3 0 r l) * W4 (ix3 0 0 l) + B5 (ix3 0 r l) * W5 (ix3 0 0 l) + B6 (ix3 0 r l) * W6 (ix3 0 0 l) + B7 (ix3 0 r l) * W7 (ix3 0 0 l) + B8 (ix3 0 r l) * W8 (ix3 0 0 l) + B9 (ix3 0 r l) * W9 (ix3 0 0 l) + B10 (ix3 0 r l) * W10 (ix3 0 0 l) + B11 (ix3 0 r l) * W11 (ix3 0 0 l) + B12 (ix3 0 r l) * W12 (ix3 0 0 l) + B13 (ix3 0 r l) * W13 (ix3 0 0 l) + B14 (ix3 0 r l) * W14 (ix3 0 0 l) + B15 (ix3 0 r l) * W15 (ix3 0 0 l) + B16 (ix3 0 r l) * W16 (ix3 0 0 l) + B17 (ix3 0 r l) * W17 (ix3 0 0 l) + B18 (ix3 0 r l) * W18 (ix3 0 0 l) + B19 (ix3 0 r l) * W19 (ix3 0 0 l) + B20 (ix3 0 r l) * W20 (ix3 0 0 l) + B21 (ix3 0 r l) * W21 (ix3 0 0 l) + B22 (ix3 0 r l) * W22 (ix3 0 0 l) + B23 (ix3 0 r l) * W23 (ix3 0 0 l) + B24 (ix3 0 r l) * W24 (ix3 0 0 l) + B25 (ix3 0 r l) * W25 (ix3 0 0 l) + B26 (ix3 0 r l) * W26 (ix3 0 0 l) + B27 (ix3 0 r l) * W27 (ix3 0 0 l) + B28 (ix3 0 r l) * W28 (ix3 0 0 l) + B29 (ix3 0 r l) * W29 (ix3 0 0 l) + B30 (ix3 0 r l) * W30 (ix3 0 0 l) + b (ix3 0 0 l) := by
  pointwise [k0_pay1, k0_pay2, k0_pay3, k0_pay4, k0_pay5, k0_pay6, k0_pay7, k0_pay8, k0_pay9, k0_pay10, k0_pay11, k0_pay12]

section
variable (c : Dev nD) (i : grid0.Coords) (arg1 : Memref sig .tc .vmem S256x2048 .f32) (harg1 : arg1.IsWhole) (arg2 : Memref sig .tc .vmem S16x2048 .f32) (harg2 : arg2.IsWhole)
  (arg3 : Memref sig .tc .vmem S16x2048 .f32) (harg3 : arg3.IsWhole) (arg4 : Memref sig .tc .vmem S16x32x128 .f32) (harg4 : arg4.IsWhole) (arg5 : Memref sig .tc .vmem S16x1x128 .f32) (harg5 : arg5.IsWhole)
  (arg6 : Memref sig .tc .vmem S16x1x128 .f32) (harg6 : arg6.IsWhole) (arg7 : Memref sig .tc .vmem S16x1x128 .f32) (harg7 : arg7.IsWhole) (arg8 : Memref sig .tc .vmem S256x2048 .bf16) (harg8 : arg8.IsWhole)
  (arg9 : Memref sig .tc .vmem S16x288x128 .f32) (harg9 : arg9.IsWhole) (arg10 : Memref sig .tc .vmem S16x256x128 .f32) (harg10 : arg10.IsWhole)

section
variable (k : Fin k0_t1_loop.trips)

theorem trips_eq : k0_t1_loop.trips = 16 := by decide +kernel

/-- A trip's index, as the index of its group of channels. -/
abbrev grp : Fin 16 := k.cast trips_eq

/-- A load of a trip at an index: the array at the trip's group, from the row it starts at. -/
theorem rd {R M : ℕ} (v : View sig .tc .vmem (⟨3, ![16, R, 128]⟩ : Shape) .f32) (X : v.ty.Contents (Elt Ideal)) (n : ℕ) {off : Fin 3 → ℕ} (h : off = ![k.val, n, 0])
    (inb : ∀ a, off a + (![1, M, 128] : Fin 3 → ℕ) a ≤ (⟨3, ![16, R, 128]⟩ : Shape).size a) (r : Fin M) (l : Fin 128) (hn : n + r.val < R) :
    View.readAt (Elt Ideal) v (Rect.unit (s := ⟨3, ![16, R, 128]⟩) off ![1, M, 128] inb).toLoadRect X (ix3 0 r l : (⟨3, ![1, M, 128]⟩ : Shape).Idx)
      = v.read (Elt Ideal) X (ix3 (grp k) ⟨n + r.val, hn⟩ l) := by
  subst h
  rw [View.readAt_apply]
  refine congrArg _ (funext fun a => Fin.ext ?_)
  fin_cases a
  · show k.val + 1 * 0 = k.val; omega
  · show n + 1 * r.val = n + r.val; omega
  · show 0 + 1 * l.val = l.val; omega

/-- A trip's one store. -/
theorem trip_eq (v5 v7 : BitVec 1) (v238) (X4) (X5) (X9) :
    tripL_k0_t1 (F := Ideal) Variants.none c none i arg1 harg1 arg2 harg2 arg3 harg3 arg4 harg4 arg5 harg5 arg6 harg6 arg7 harg7 arg8 harg8 arg9 harg9 arg10 harg10 v5 v7 v238 X4 X5 X9 k
      = [⟨Rect.unit (s := S16x256x128) (k0_off64 k) S1x256x128.size (k0_off64_inb k), fun x : S1x256x128.Idx =>
          convf (arg9.view.read (Elt Ideal) X9) (arg4.view.read (Elt Ideal) X4) (arg5.view.read (Elt Ideal) X5) (grp k) (x 1) (x 2)⟩] := by
  unfold tripL_k0_t1 trip_k0_t1
  dsimp only [trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r, trip_k0_t1.sl.r_10]
  refine congrArg (fun w : S1x256x128.Idx → EReal => [(⟨Rect.unit (s := S16x256x128) (k0_off64 k) S1x256x128.size (k0_off64_inb k), w⟩ : View.Piece (Elt Ideal) S16x256x128 .f32)]) (funext fun x => ?_)
  obtain ⟨r, l, rfl⟩ : ∃ (r : Fin 256) (l : Fin 128), x = ix3 0 r l := ⟨x 1, x 2, (eq_ix3 x).trans (by congr 1; exact Subsingleton.elim _ _)⟩
  refine (pay_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r l).trans ?_
  unfold convf taps
  rw [rd k arg9.view X9 1 (k0_off1_eq k) (k0_off1_inb k) r l (by omega), rd k arg4.view X4 0 (k0_off2_eq k) (k0_off2_inb k) 0 l (by decide)]
  rw [rd k arg9.view X9 2 (k0_off3_eq k) (k0_off3_inb k) r l (by omega), rd k arg4.view X4 1 (k0_off4_eq k) (k0_off4_inb k) 0 l (by decide)]
  rw [rd k arg9.view X9 3 (k0_off5_eq k) (k0_off5_inb k) r l (by omega), rd k arg4.view X4 2 (k0_off6_eq k) (k0_off6_inb k) 0 l (by decide)]
  rw [rd k arg9.view X9 4 (k0_off7_eq k) (k0_off7_inb k) r l (by omega), rd k arg4.view X4 3 (k0_off8_eq k) (k0_off8_inb k) 0 l (by decide)]
  rw [rd k arg9.view X9 5 (k0_off9_eq k) (k0_off9_inb k) r l (by omega), rd k arg4.view X4 4 (k0_off10_eq k) (k0_off10_inb k) 0 l (by decide)]
  rw [rd k arg9.view X9 6 (k0_off11_eq k) (k0_off11_inb k) r l (by omega), rd k arg4.view X4 5 (k0_off12_eq k) (k0_off12_inb k) 0 l (by decide)]
  rw [rd k arg9.view X9 7 (k0_off13_eq k) (k0_off13_inb k) r l (by omega), rd k arg4.view X4 6 (k0_off14_eq k) (k0_off14_inb k) 0 l (by decide)]
  rw [rd k arg9.view X9 8 (k0_off15_eq k) (k0_off15_inb k) r l (by omega), rd k arg4.view X4 7 (k0_off16_eq k) (k0_off16_inb k) 0 l (by decide)]
  rw [rd k arg9.view X9 9 (k0_off17_eq k) (k0_off17_inb k) r l (by omega), rd k arg4.view X4 8 (k0_off18_eq k) (k0_off18_inb k) 0 l (by decide)]
  rw [rd k arg9.view X9 10 (k0_off19_eq k) (k0_off19_inb k) r l (by omega), rd k arg4.view X4 9 (k0_off20_eq k) (k0_off20_inb k) 0 l (by decide)]
  rw [rd k arg9.view X9 11 (k0_off21_eq k) (k0_off21_inb k) r l (by omega), rd k arg4.view X4 10 (k0_off22_eq k) (k0_off22_inb k) 0 l (by decide)]
  rw [rd k arg9.view X9 12 (k0_off23_eq k) (k0_off23_inb k) r l (by omega), rd k arg4.view X4 11 (k0_off24_eq k) (k0_off24_inb k) 0 l (by decide)]
  rw [rd k arg9.view X9 13 (k0_off25_eq k) (k0_off25_inb k) r l (by omega), rd k arg4.view X4 12 (k0_off26_eq k) (k0_off26_inb k) 0 l (by decide)]
  rw [rd k arg9.view X9 14 (k0_off27_eq k) (k0_off27_inb k) r l (by omega), rd k arg4.view X4 13 (k0_off28_eq k) (k0_off28_inb k) 0 l (by decide)]
  rw [rd k arg9.view X9 15 (k0_off29_eq k) (k0_off29_inb k) r l (by omega), rd k arg4.view X4 14 (k0_off30_eq k) (k0_off30_inb k) 0 l (by decide)]
  rw [rd k arg9.view X9 16 (k0_off31_eq k) (k0_off31_inb k) r l (by omega), rd k arg4.view X4 15 (k0_off32_eq k) (k0_off32_inb k) 0 l (by decide)]
  rw [rd k arg9.view X9 17 (k0_off33_eq k) (k0_off33_inb k) r l (by omega), rd k arg4.view X4 16 (k0_off34_eq k) (k0_off34_inb k) 0 l (by decide)]
  rw [rd k arg9.view X9 18 (k0_off35_eq k) (k0_off35_inb k) r l (by omega), rd k arg4.view X4 17 (k0_off36_eq k) (k0_off36_inb k) 0 l (by decide)]
  rw [rd k arg9.view X9 19 (k0_off37_eq k) (k0_off37_inb k) r l (by omega), rd k arg4.view X4 18 (k0_off38_eq k) (k0_off38_inb k) 0 l (by decide)]
  rw [rd k arg9.view X9 20 (k0_off39_eq k) (k0_off39_inb k) r l (by omega), rd k arg4.view X4 19 (k0_off40_eq k) (k0_off40_inb k) 0 l (by decide)]
  rw [rd k arg9.view X9 21 (k0_off41_eq k) (k0_off41_inb k) r l (by omega), rd k arg4.view X4 20 (k0_off42_eq k) (k0_off42_inb k) 0 l (by decide)]
  rw [rd k arg9.view X9 22 (k0_off43_eq k) (k0_off43_inb k) r l (by omega), rd k arg4.view X4 21 (k0_off44_eq k) (k0_off44_inb k) 0 l (by decide)]
  rw [rd k arg9.view X9 23 (k0_off45_eq k) (k0_off45_inb k) r l (by omega), rd k arg4.view X4 22 (k0_off46_eq k) (k0_off46_inb k) 0 l (by decide)]
  rw [rd k arg9.view X9 24 (k0_off47_eq k) (k0_off47_inb k) r l (by omega), rd k arg4.view X4 23 (k0_off48_eq k) (k0_off48_inb k) 0 l (by decide)]
  rw [rd k arg9.view X9 25 (k0_off49_eq k) (k0_off49_inb k) r l (by omega), rd k arg4.view X4 24 (k0_off50_eq k) (k0_off50_inb k) 0 l (by decide)]
  rw [rd k arg9.view X9 26 (k0_off51_eq k) (k0_off51_inb k) r l (by omega), rd k arg4.view X4 25 (k0_off52_eq k) (k0_off52_inb k) 0 l (by decide)]
  rw [rd k arg9.view X9 27 (k0_off53_eq k) (k0_off53_inb k) r l (by omega), rd k arg4.view X4 26 (k0_off54_eq k) (k0_off54_inb k) 0 l (by decide)]
  rw [rd k arg9.view X9 28 (k0_off55_eq k) (k0_off55_inb k) r l (by omega), rd k arg4.view X4 27 (k0_off56_eq k) (k0_off56_inb k) 0 l (by decide)]
  rw [rd k arg9.view X9 29 (k0_off57_eq k) (k0_off57_inb k) r l (by omega), rd k arg4.view X4 28 (k0_off58_eq k) (k0_off58_inb k) 0 l (by decide)]
  rw [rd k arg9.view X9 30 (k0_off59_eq k) (k0_off59_inb k) r l (by omega), rd k arg4.view X4 29 (k0_off60_eq k) (k0_off60_inb k) 0 l (by decide)]
  rw [rd k arg9.view X9 31 (k0_off61_eq k) (k0_off61_inb k) r l (by omega), rd k arg4.view X4 30 (k0_off62_eq k) (k0_off62_inb k) 0 l (by decide)]
  rw [rd k arg5.view X5 0 (k0_off63_eq k) (k0_off63_inb k) 0 l (by decide)]
  rfl
end
end
end Cert.Conv
end
-- ==== Proof.ConvBuf.lean ====
module

public import proofs.«01_k».proof.Proof.Conv
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.Kernel7Ideal Cert.Kernel7Ideal.Gen

/-- The rows that the convolution of a block reads: 16 of the block before it, its own 256, 16 of the block after it, the
    neighbours' as zeros where the block is an end of its sequence. -/
def bufv (p n : BitVec 1) (x0 : Vec Ideal S256x2048 .f32) (x1 x2 : Vec Ideal S16x2048 .f32) (y : S16x288x128.Idx) : EReal :=
  if h : (y 1).val < 16 then (if p = 1 then x1 (ix2 ⟨(y 1).val, h⟩ ⟨(y 0).val * 128 + (y 2).val, by have := (y 0).isLt; have := (y 2).isLt; simp at *; omega⟩) else 0)
  else if h' : (y 1).val < 272 then x0 (ix2 ⟨(y 1).val - 16, by omega⟩ ⟨(y 0).val * 128 + (y 2).val, by have := (y 0).isLt; have := (y 2).isLt; simp at *; omega⟩)
  else (if n = 1 then x2 (ix2 ⟨(y 1).val - 272, by have := (y 1).isLt; simp at *; omega⟩ ⟨(y 0).val * 128 + (y 2).val, by have := (y 0).isLt; have := (y 2).isLt; simp at *; omega⟩) else 0)

/-- A load of 128 columns at an index. -/
theorem rd2 {M : ℕ} (arg : Memref sig .tc .vmem (⟨2, ![M, 2048]⟩ : Shape) .f32) (harg : arg.IsWhole) (x : Vec Ideal (⟨2, ![M, 2048]⟩ : Shape) .f32) (n : ℕ)
    (inb : ∀ a, (![0, n] : Fin 2 → ℕ) a + (![M, 128] : Fin 2 → ℕ) a ≤ (⟨2, ![M, 2048]⟩ : Shape).size a) (r : Fin M) (l : Fin 128) (hn : n + l.val < 2048) :
    View.readAt (Elt Ideal) arg.view (Rect.unit (s := ⟨2, ![M, 2048]⟩) ![0, n] ![M, 128] inb).toLoadRect (harg.unread x) (ix2 r l : (⟨2, ![M, 128]⟩ : Shape).Idx)
      = x (ix2 r ⟨n + l.val, hn⟩) := by
  rw [View.readAt_apply]
  refine (congrFun (harg.read_unread x) _).trans (congrArg x (funext fun a => Fin.ext ?_))
  fin_cases a
  · show 0 + 1 * r.val = r.val; omega
  · show n + 1 * l.val = n + l.val; omega

section
variable (p n : BitVec 1) (x0 : Vec Ideal S256x2048 .f32) (x1 x2 : Vec Ideal S16x2048 .f32)

theorem pieceP (g : Fin 16) (inb) (w : S1x16x128.Idx → EReal)
    (hw : ∀ (r : Fin 16) (l : Fin 128), w (ix3 0 r l) = if p = 1 then x1 (ix2 r ⟨g.val * 128 + l.val, by omega⟩) else 0) (x : S1x16x128.Idx) :
    w x = bufv p n x0 x1 x2 ((Rect.unit (s := S16x288x128) ![g.val, 0, 0] ![1, 16, 128] inb).emb x) := by
  obtain ⟨r, l, rfl⟩ : ∃ (r : Fin 16) (l : Fin 128), x = ix3 0 r l := ⟨x 1, x 2, (eq_ix3 x).trans (by congr 1; exact Subsingleton.elim _ _)⟩
  have e : (Rect.unit (s := S16x288x128) ![g.val, 0, 0] ![1, 16, 128] inb).emb (ix3 0 r l : S1x16x128.Idx) = ix3 g ⟨r.val, by omega⟩ l := by
    refine funext fun a => Fin.ext ?_
    fin_cases a
    · show g.val + 1 * 0 = g.val; omega
    · show 0 + 1 * r.val = r.val; omega
    · show 0 + 1 * l.val = l.val; omega
  rw [e, hw]
  refine Eq.symm ((dif_pos (show r.val < 16 by omega)).trans ?_)
  rfl

theorem pieceC (g : Fin 16) (inb) (w : S1x256x128.Idx → EReal)
    (hw : ∀ (r : Fin 256) (l : Fin 128), w (ix3 0 r l) = x0 (ix2 r ⟨g.val * 128 + l.val, by omega⟩)) (x : S1x256x128.Idx) :
    w x = bufv p n x0 x1 x2 ((Rect.unit (s := S16x288x128) ![g.val, 16, 0] ![1, 256, 128] inb).emb x) := by
  obtain ⟨r, l, rfl⟩ : ∃ (r : Fin 256) (l : Fin 128), x = ix3 0 r l := ⟨x 1, x 2, (eq_ix3 x).trans (by congr 1; exact Subsingleton.elim _ _)⟩
  have e : (Rect.unit (s := S16x288x128) ![g.val, 16, 0] ![1, 256, 128] inb).emb (ix3 0 r l : S1x256x128.Idx) = ix3 g ⟨r.val + 16, by omega⟩ l := by
    refine funext fun a => Fin.ext ?_
    fin_cases a
    · show g.val + 1 * 0 = g.val; omega
    · show 16 + 1 * r.val = r.val + 16; omega
    · show 0 + 1 * l.val = l.val; omega
  rw [e, hw]
  exact ((dif_neg (show ¬ r.val + 16 < 16 by omega)).trans (dif_pos (show r.val + 16 < 272 by omega))).symm

theorem pieceN (g : Fin 16) (inb) (w : S1x16x128.Idx → EReal)
    (hw : ∀ (r : Fin 16) (l : Fin 128), w (ix3 0 r l) = if n = 1 then x2 (ix2 r ⟨g.val * 128 + l.val, by omega⟩) else 0) (x : S1x16x128.Idx) :
    w x = bufv p n x0 x1 x2 ((Rect.unit (s := S16x288x128) ![g.val, 272, 0] ![1, 16, 128] inb).emb x) := by
  obtain ⟨r, l, rfl⟩ : ∃ (r : Fin 16) (l : Fin 128), x = ix3 0 r l := ⟨x 1, x 2, (eq_ix3 x).trans (by congr 1; exact Subsingleton.elim _ _)⟩
  have e : (Rect.unit (s := S16x288x128) ![g.val, 272, 0] ![1, 16, 128] inb).emb (ix3 0 r l : S1x16x128.Idx) = ix3 g ⟨r.val + 272, by omega⟩ l := by
    refine funext fun a => Fin.ext ?_
    fin_cases a
    · show g.val + 1 * 0 = g.val; omega
    · show 272 + 1 * r.val = r.val + 272; omega
    · show 0 + 1 * l.val = l.val; omega
  rw [e, hw]
  have e' : (⟨r.val + 272 - 272, by omega⟩ : Fin 16) = r := Fin.ext (by show r.val + 272 - 272 = r.val; omega)
  refine Eq.symm (((dif_neg (show ¬ r.val + 272 < 16 by omega)).trans (dif_neg (show ¬ r.val + 272 < 272 by omega))).trans ?_)
  show (if n = 1 then x2 (ix2 (⟨r.val + 272 - 272, _⟩ : Fin 16) _) else 0) = _
  rw [e']
  rfl
end

/-- What the stores before the loop leave in the scratch buffer. -/
theorem buf_eq (c : Dev nD) (i : grid0.Coords) (arg1 : Memref sig .tc .vmem S256x2048 .f32) (harg1 : arg1.IsWhole) (arg2 : Memref sig .tc .vmem S16x2048 .f32) (harg2 : arg2.IsWhole)
    (arg3 : Memref sig .tc .vmem S16x2048 .f32) (harg3 : arg3.IsWhole) (x0 : Vec Ideal S256x2048 .f32) (x1 x2 : Vec Ideal S16x2048 .f32) :
    View.canon (kernelRun0_A.sl.HS0_48 (F := Ideal) c i arg1 harg1 arg2 harg2 arg3 harg3 x0 x1 x2)
      = bufv (kernelRun0_A.sl.v5 i) (kernelRun0_A.sl.v7 i) x0 x1 x2 := by
  refine funext fun y => View.canon_apply_of_pieces _ _ ?_ y (View.cover_of_tiledBy _ ![1, 16, 128] (by sl_kernel_rfl) y)
  unfold kernelRun0_A.sl.HS0_48
  dsimp only
  refine List.forall_mem_cons.2 ⟨fun x => ?_, ?_⟩
  · refine pieceN _ _ _ _ _ 15 inb_S16x288x128_S1x16x128_15_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1920 _ r l (by omega)]
    all_goals first | rfl | (simp only [Nat.zero_add] <;> rfl)
  refine List.forall_mem_cons.2 ⟨fun x => ?_, ?_⟩
  · refine pieceC _ _ _ _ _ 15 inb_S16x288x128_S1x256x128_15_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1920 _ r l (by omega)]
    all_goals first | rfl | (simp only [Nat.zero_add] <;> rfl)
  refine List.forall_mem_cons.2 ⟨fun x => ?_, ?_⟩
  · refine pieceP _ _ _ _ _ 15 inb_S16x288x128_S1x16x128_15_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1920 _ r l (by omega)]
    all_goals first | rfl | (simp only [Nat.zero_add] <;> rfl)
  refine List.forall_mem_cons.2 ⟨fun x => ?_, ?_⟩
  · refine pieceN _ _ _ _ _ 14 inb_S16x288x128_S1x16x128_14_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1792 _ r l (by omega)]
    all_goals first | rfl | (simp only [Nat.zero_add] <;> rfl)
  refine List.forall_mem_cons.2 ⟨fun x => ?_, ?_⟩
  · refine pieceC _ _ _ _ _ 14 inb_S16x288x128_S1x256x128_14_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1792 _ r l (by omega)]
    all_goals first | rfl | (simp only [Nat.zero_add] <;> rfl)
  refine List.forall_mem_cons.2 ⟨fun x => ?_, ?_⟩
  · refine pieceP _ _ _ _ _ 14 inb_S16x288x128_S1x16x128_14_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1792 _ r l (by omega)]
    all_goals first | rfl | (simp only [Nat.zero_add] <;> rfl)
  refine List.forall_mem_cons.2 ⟨fun x => ?_, ?_⟩
  · refine pieceN _ _ _ _ _ 13 inb_S16x288x128_S1x16x128_13_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1664 _ r l (by omega)]
    all_goals first | rfl | (simp only [Nat.zero_add] <;> rfl)
  refine List.forall_mem_cons.2 ⟨fun x => ?_, ?_⟩
  · refine pieceC _ _ _ _ _ 13 inb_S16x288x128_S1x256x128_13_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1664 _ r l (by omega)]
    all_goals first | rfl | (simp only [Nat.zero_add] <;> rfl)
  refine List.forall_mem_cons.2 ⟨fun x => ?_, ?_⟩
  · refine pieceP _ _ _ _ _ 13 inb_S16x288x128_S1x16x128_13_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1664 _ r l (by omega)]
    all_goals first | rfl | (simp only [Nat.zero_add] <;> rfl)
  refine List.forall_mem_cons.2 ⟨fun x => ?_, ?_⟩
  · refine pieceN _ _ _ _ _ 12 inb_S16x288x128_S1x16x128_12_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1536 _ r l (by omega)]
    all_goals first | rfl | (simp only [Nat.zero_add] <;> rfl)
  refine List.forall_mem_cons.2 ⟨fun x => ?_, ?_⟩
  · refine pieceC _ _ _ _ _ 12 inb_S16x288x128_S1x256x128_12_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1536 _ r l (by omega)]
    all_goals first | rfl | (simp only [Nat.zero_add] <;> rfl)
  refine List.forall_mem_cons.2 ⟨fun x => ?_, ?_⟩
  · refine pieceP _ _ _ _ _ 12 inb_S16x288x128_S1x16x128_12_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1536 _ r l (by omega)]
    all_goals first | rfl | (simp only [Nat.zero_add] <;> rfl)
  refine List.forall_mem_cons.2 ⟨fun x => ?_, ?_⟩
  · refine pieceN _ _ _ _ _ 11 inb_S16x288x128_S1x16x128_11_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1408 _ r l (by omega)]
    all_goals first | rfl | (simp only [Nat.zero_add] <;> rfl)
  refine List.forall_mem_cons.2 ⟨fun x => ?_, ?_⟩
  · refine pieceC _ _ _ _ _ 11 inb_S16x288x128_S1x256x128_11_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1408 _ r l (by omega)]
    all_goals first | rfl | (simp only [Nat.zero_add] <;> rfl)
  refine List.forall_mem_cons.2 ⟨fun x => ?_, ?_⟩
  · refine pieceP _ _ _ _ _ 11 inb_S16x288x128_S1x16x128_11_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1408 _ r l (by omega)]
    all_goals first | rfl | (simp only [Nat.zero_add] <;> rfl)
  refine List.forall_mem_cons.2 ⟨fun x => ?_, ?_⟩
  · refine pieceN _ _ _ _ _ 10 inb_S16x288x128_S1x16x128_10_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1280 _ r l (by omega)]
    all_goals first | rfl | (simp only [Nat.zero_add] <;> rfl)
  refine List.forall_mem_cons.2 ⟨fun x => ?_, ?_⟩
  · refine pieceC _ _ _ _ _ 10 inb_S16x288x128_S1x256x128_10_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1280 _ r l (by omega)]
    all_goals first | rfl | (simp only [Nat.zero_add] <;> rfl)
  refine List.forall_mem_cons.2 ⟨fun x => ?_, ?_⟩
  · refine pieceP _ _ _ _ _ 10 inb_S16x288x128_S1x16x128_10_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1280 _ r l (by omega)]
    all_goals first | rfl | (simp only [Nat.zero_add] <;> rfl)
  refine List.forall_mem_cons.2 ⟨fun x => ?_, ?_⟩
  · refine pieceN _ _ _ _ _ 9 inb_S16x288x128_S1x16x128_9_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1152 _ r l (by omega)]
    all_goals first | rfl | (simp only [Nat.zero_add] <;> rfl)
  refine List.forall_mem_cons.2 ⟨fun x => ?_, ?_⟩
  · refine pieceC _ _ _ _ _ 9 inb_S16x288x128_S1x256x128_9_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1152 _ r l (by omega)]
    all_goals first | rfl | (simp only [Nat.zero_add] <;> rfl)
  refine List.forall_mem_cons.2 ⟨fun x => ?_, ?_⟩
  · refine pieceP _ _ _ _ _ 9 inb_S16x288x128_S1x16x128_9_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1152 _ r l (by omega)]
    all_goals first | rfl | (simp only [Nat.zero_add] <;> rfl)
  refine List.forall_mem_cons.2 ⟨fun x => ?_, ?_⟩
  · refine pieceN _ _ _ _ _ 8 inb_S16x288x128_S1x16x128_8_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 1024 _ r l (by omega)]
    all_goals first | rfl | (simp only [Nat.zero_add] <;> rfl)
  refine List.forall_mem_cons.2 ⟨fun x => ?_, ?_⟩
  · refine pieceC _ _ _ _ _ 8 inb_S16x288x128_S1x256x128_8_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 1024 _ r l (by omega)]
    all_goals first | rfl | (simp only [Nat.zero_add] <;> rfl)
  refine List.forall_mem_cons.2 ⟨fun x => ?_, ?_⟩
  · refine pieceP _ _ _ _ _ 8 inb_S16x288x128_S1x16x128_8_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 1024 _ r l (by omega)]
    all_goals first | rfl | (simp only [Nat.zero_add] <;> rfl)
  refine List.forall_mem_cons.2 ⟨fun x => ?_, ?_⟩
  · refine pieceN _ _ _ _ _ 7 inb_S16x288x128_S1x16x128_7_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 896 _ r l (by omega)]
    all_goals first | rfl | (simp only [Nat.zero_add] <;> rfl)
  refine List.forall_mem_cons.2 ⟨fun x => ?_, ?_⟩
  · refine pieceC _ _ _ _ _ 7 inb_S16x288x128_S1x256x128_7_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 896 _ r l (by omega)]
    all_goals first | rfl | (simp only [Nat.zero_add] <;> rfl)
  refine List.forall_mem_cons.2 ⟨fun x => ?_, ?_⟩
  · refine pieceP _ _ _ _ _ 7 inb_S16x288x128_S1x16x128_7_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 896 _ r l (by omega)]
    all_goals first | rfl | (simp only [Nat.zero_add] <;> rfl)
  refine List.forall_mem_cons.2 ⟨fun x => ?_, ?_⟩
  · refine pieceN _ _ _ _ _ 6 inb_S16x288x128_S1x16x128_6_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 768 _ r l (by omega)]
    all_goals first | rfl | (simp only [Nat.zero_add] <;> rfl)
  refine List.forall_mem_cons.2 ⟨fun x => ?_, ?_⟩
  · refine pieceC _ _ _ _ _ 6 inb_S16x288x128_S1x256x128_6_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 768 _ r l (by omega)]
    all_goals first | rfl | (simp only [Nat.zero_add] <;> rfl)
  refine List.forall_mem_cons.2 ⟨fun x => ?_, ?_⟩
  · refine pieceP _ _ _ _ _ 6 inb_S16x288x128_S1x16x128_6_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 768 _ r l (by omega)]
    all_goals first | rfl | (simp only [Nat.zero_add] <;> rfl)
  refine List.forall_mem_cons.2 ⟨fun x => ?_, ?_⟩
  · refine pieceN _ _ _ _ _ 5 inb_S16x288x128_S1x16x128_5_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 640 _ r l (by omega)]
    all_goals first | rfl | (simp only [Nat.zero_add] <;> rfl)
  refine List.forall_mem_cons.2 ⟨fun x => ?_, ?_⟩
  · refine pieceC _ _ _ _ _ 5 inb_S16x288x128_S1x256x128_5_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 640 _ r l (by omega)]
    all_goals first | rfl | (simp only [Nat.zero_add] <;> rfl)
  refine List.forall_mem_cons.2 ⟨fun x => ?_, ?_⟩
  · refine pieceP _ _ _ _ _ 5 inb_S16x288x128_S1x16x128_5_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 640 _ r l (by omega)]
    all_goals first | rfl | (simp only [Nat.zero_add] <;> rfl)
  refine List.forall_mem_cons.2 ⟨fun x => ?_, ?_⟩
  · refine pieceN _ _ _ _ _ 4 inb_S16x288x128_S1x16x128_4_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 512 _ r l (by omega)]
    all_goals first | rfl | (simp only [Nat.zero_add] <;> rfl)
  refine List.forall_mem_cons.2 ⟨fun x => ?_, ?_⟩
  · refine pieceC _ _ _ _ _ 4 inb_S16x288x128_S1x256x128_4_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 512 _ r l (by omega)]
    all_goals first | rfl | (simp only [Nat.zero_add] <;> rfl)
  refine List.forall_mem_cons.2 ⟨fun x => ?_, ?_⟩
  · refine pieceP _ _ _ _ _ 4 inb_S16x288x128_S1x16x128_4_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 512 _ r l (by omega)]
    all_goals first | rfl | (simp only [Nat.zero_add] <;> rfl)
  refine List.forall_mem_cons.2 ⟨fun x => ?_, ?_⟩
  · refine pieceN _ _ _ _ _ 3 inb_S16x288x128_S1x16x128_3_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 384 _ r l (by omega)]
    all_goals first | rfl | (simp only [Nat.zero_add] <;> rfl)
  refine List.forall_mem_cons.2 ⟨fun x => ?_, ?_⟩
  · refine pieceC _ _ _ _ _ 3 inb_S16x288x128_S1x256x128_3_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 384 _ r l (by omega)]
    all_goals first | rfl | (simp only [Nat.zero_add] <;> rfl)
  refine List.forall_mem_cons.2 ⟨fun x => ?_, ?_⟩
  · refine pieceP _ _ _ _ _ 3 inb_S16x288x128_S1x16x128_3_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 384 _ r l (by omega)]
    all_goals first | rfl | (simp only [Nat.zero_add] <;> rfl)
  refine List.forall_mem_cons.2 ⟨fun x => ?_, ?_⟩
  · refine pieceN _ _ _ _ _ 2 inb_S16x288x128_S1x16x128_2_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 256 _ r l (by omega)]
    all_goals first | rfl | (simp only [Nat.zero_add] <;> rfl)
  refine List.forall_mem_cons.2 ⟨fun x => ?_, ?_⟩
  · refine pieceC _ _ _ _ _ 2 inb_S16x288x128_S1x256x128_2_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 256 _ r l (by omega)]
    all_goals first | rfl | (simp only [Nat.zero_add] <;> rfl)
  refine List.forall_mem_cons.2 ⟨fun x => ?_, ?_⟩
  · refine pieceP _ _ _ _ _ 2 inb_S16x288x128_S1x16x128_2_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 256 _ r l (by omega)]
    all_goals first | rfl | (simp only [Nat.zero_add] <;> rfl)
  refine List.forall_mem_cons.2 ⟨fun x => ?_, ?_⟩
  · refine pieceN _ _ _ _ _ 1 inb_S16x288x128_S1x16x128_1_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 128 _ r l (by omega)]
    all_goals first | rfl | (simp only [Nat.zero_add] <;> rfl)
  refine List.forall_mem_cons.2 ⟨fun x => ?_, ?_⟩
  · refine pieceC _ _ _ _ _ 1 inb_S16x288x128_S1x256x128_1_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 128 _ r l (by omega)]
    all_goals first | rfl | (simp only [Nat.zero_add] <;> rfl)
  refine List.forall_mem_cons.2 ⟨fun x => ?_, ?_⟩
  · refine pieceP _ _ _ _ _ 1 inb_S16x288x128_S1x16x128_1_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 128 _ r l (by omega)]
    all_goals first | rfl | (simp only [Nat.zero_add] <;> rfl)
  refine List.forall_mem_cons.2 ⟨fun x => ?_, ?_⟩
  · refine pieceN _ _ _ _ _ 0 inb_S16x288x128_S1x16x128_0_272_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg3 harg3 x2 0 _ r l (by omega)]
    all_goals first | rfl | (simp only [Nat.zero_add] <;> rfl)
  refine List.forall_mem_cons.2 ⟨fun x => ?_, ?_⟩
  · refine pieceC _ _ _ _ _ 0 inb_S16x288x128_S1x256x128_0_16_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg1 harg1 x0 0 _ r l (by omega)]
    all_goals first | rfl | (simp only [Nat.zero_add] <;> rfl)
  refine List.forall_mem_cons.2 ⟨fun x => ?_, ?_⟩
  · refine pieceP _ _ _ _ _ 0 inb_S16x288x128_S1x16x128_0_0_0 _ (fun r l => ?_) x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v1, kernelRun0_A.sl.v2, kernelRun0_A.sl.v3, kernelRun0_A.sl.v4, kernelRun0_A.sl.v5, kernelRun0_A.sl.v6, kernelRun0_A.sl.v7]
    rw [rd2 arg2 harg2 x1 0 _ r l (by omega)]
    all_goals first | rfl | (simp only [Nat.zero_add] <;> rfl)
  exact List.forall_mem_nil _

end Cert.Conv

end
-- ==== Proof.ConvLoop.lean ====
module

public import proofs.«01_k».proof.Proof.ConvBuf
public import Idealize.ShloMosaic.Lib.WritesUnit
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.Kernel7Ideal Cert.Kernel7Ideal.Gen

section
variable (c : Dev nD) (i : grid0.Coords) (arg1 : Memref sig .tc .vmem S256x2048 .f32) (harg1 : arg1.IsWhole) (arg2 : Memref sig .tc .vmem S16x2048 .f32) (harg2 : arg2.IsWhole)
  (arg3 : Memref sig .tc .vmem S16x2048 .f32) (harg3 : arg3.IsWhole) (arg4 : Memref sig .tc .vmem S16x32x128 .f32) (harg4 : arg4.IsWhole) (arg5 : Memref sig .tc .vmem S16x1x128 .f32) (harg5 : arg5.IsWhole)
  (arg6 : Memref sig .tc .vmem S16x1x128 .f32) (harg6 : arg6.IsWhole) (arg7 : Memref sig .tc .vmem S16x1x128 .f32) (harg7 : arg7.IsWhole) (arg8 : Memref sig .tc .vmem S256x2048 .bf16) (harg8 : arg8.IsWhole)
  (arg9 : Memref sig .tc .vmem S16x288x128 .f32) (harg9 : arg9.IsWhole) (arg10 : Memref sig .tc .vmem S16x256x128 .f32) (harg10 : arg10.IsWhole)

/-- What the first trips of the loop leave, at the groups that they store. -/
theorem pb_at (v5 v7 : BitVec 1) (v238) (X4) (X5) (X9) (n : ℕ) (hn : n ≤ 16) (g : Fin 16) (hg : g.val < n) (r : Fin 256) (l : Fin 128) :
    View.canon (pb_k0_t1 (F := Ideal) Variants.none c none i arg1 harg1 arg2 harg2 arg3 harg3 arg4 harg4 arg5 harg5 arg6 harg6 arg7 harg7 arg8 harg8 arg9 harg9 arg10 harg10 v5 v7 v238 X4 X5 X9 n) (ix3 g r l)
      = convf (arg9.view.read (Elt Ideal) X9) (arg4.view.read (Elt Ideal) X4) (arg5.view.read (Elt Ideal) X5) g r l := by
  induction n with
  | zero => omega
  | succ n ih =>
    have hk : n < k0_t1_loop.trips := by rw [trips_eq]; omega
    have e := pb_k0_t1_succ (F := Ideal) Variants.none c none i arg1 harg1 arg2 harg2 arg3 harg3 arg4 harg4 arg5 harg5 arg6 harg6 arg7 harg7 arg8 harg8 arg9 harg9 arg10 harg10 v5 v7 v238 X4 X5 X9 ⟨n, hk⟩
    rw [trip_eq] at e
    refine (congrFun (congrArg View.canon e) _).trans ?_
    rw [List.cons_append, List.nil_append, ← View.read_writes_junk_apply_eq_canon arg10.view, View.read_writes_cons_unit arg10.view _ _ _ _ _ (k0_off64_eq ⟨n, hk⟩)]
    by_cases h : g.val = n
    · have hg' : g = grp ⟨n, hk⟩ := Fin.ext h
      subst hg'
      rw [dif_pos (fun a => by
        fin_cases a
        · show n ≤ n ∧ n < n + 1; omega
        · show 0 ≤ r.val ∧ r.val < 0 + 256; omega
        · show 0 ≤ l.val ∧ l.val < 0 + 128; omega)]
      rfl
    · rw [dif_neg (fun hh => by
        have : n ≤ g.val ∧ g.val < n + 1 := hh (0 : Fin 3)
        omega), View.read_writes_junk_apply_eq_canon]
      exact ih (by omega) (by omega)

variable (x0 : Vec Ideal S256x2048 .f32) (x1 x2 : Vec Ideal S16x2048 .f32) (x3 : Vec Ideal S16x32x128 .f32) (x4 x5 x6 : Vec Ideal S16x1x128 .f32)

/-- The convolution of a block, before the layer norm. -/
def Y (k : Fin 16) : Vec Ideal S1x256x128 .f32 := fun x => convf (bufv (kernelRun0_A.sl.v5 i) (kernelRun0_A.sl.v7 i) x0 x1 x2) x3 x4 k (x 1) (x 2)

theorem y_read (v5 v7 : BitVec 1) (v238) (n : ℕ) (hn : n < 16) (inb) :
    arg10.view.readCov (pb_k0_t1 (F := Ideal) Variants.none c none i arg1 harg1 arg2 harg2 arg3 harg3 arg4 harg4 arg5 harg5 arg6 harg6 arg7 harg7 arg8 harg8 arg9 harg9 arg10 harg10 v5 v7 v238 (harg4.unread x3) (harg5.unread x4)
      (arg9.view.writes (Elt Ideal) arg9.view.junk (kernelRun0_A.sl.HS0_48 (F := Ideal) c i arg1 harg1 arg2 harg2 arg3 harg3 x0 x1 x2)) (Scf.trips (0#32) (Scalar.addi 0#32 16#32) 1#32))
      (Rect.unit (s := S16x256x128) ![n, 0, 0] ![1, 256, 128] inb).toLoadRect = Y i x0 x1 x2 x3 x4 ⟨n, hn⟩ := by
  have ht : Scf.trips (0#32) (Scalar.addi 0#32 16#32) 1#32 = 16 := by decide +kernel
  rw [ht, View.readCov_eq_canon']
  funext x
  obtain ⟨r, l, rfl⟩ : ∃ (r : Fin 256) (l : Fin 128), x = ix3 0 r l := ⟨x 1, x 2, (eq_ix3 x).trans (by congr 1; exact Subsingleton.elim _ _)⟩
  have e : (Rect.unit (s := S16x256x128) ![n, 0, 0] ![1, 256, 128] inb).toLoadRect.idx (ix3 0 r l : S1x256x128.Idx) = ix3 (⟨n, hn⟩ : Fin 16) r l := by
    refine funext fun a => Fin.ext ?_
    fin_cases a
    · show n + 1 * 0 = n; omega
    · show 0 + 1 * r.val = r.val; omega
    · show 0 + 1 * l.val = l.val; omega
  refine (congrArg _ e).trans ((pb_at c i arg1 harg1 arg2 harg2 arg3 harg3 arg4 harg4 arg5 harg5 arg6 harg6 arg7 harg7 arg8 harg8 arg9 harg9 arg10 harg10 _ _ _ _ _ _ 16 le_rfl ⟨n, hn⟩ hn r l).trans ?_)
  rw [View.read_writes_junk_eq_canon, buf_eq, harg4.read_unread, harg5.read_unread]
  rfl

end
end Cert.Conv

end
-- ==== Proof.ConvOut.lean ====
module

public import proofs.«01_k».proof.Proof.ConvLoop
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.Kernel7Ideal Cert.Kernel7Ideal.Gen

/-- The number of channels of a row, as the reference divides by it. -/
abbrev width : EReal := Ideal.ofBits .f32 0x45000000#32
/-- The term under the root. -/
abbrev eps : EReal := Ideal.ofBits .f32 0x3727C5AC#32

theorem mul_width (x : EReal) : x * Ideal.ofBits .f32 0x3A000000#32 = Ideal.div x width := by
  have h1 : Ideal.ofBits .f32 0x3A000000#32 = (((2048 : ℝ)⁻¹ : ℝ) : EReal) := by
    simp [Ideal.ofBits, Ideal.ieee, -EReal.coe_mul]; norm_num
  have h2 : width = ((2048 : ℝ) : EReal) := by
    simp [width, Ideal.ofBits, Ideal.ieee, -EReal.coe_mul]; norm_num
  have h3 : ((2048 : ℝ) : EReal) ≠ 0 := fun h => by
    rw [show (0 : EReal) = ((0 : ℝ) : EReal) from rfl, EReal.coe_eq_coe_iff] at h; norm_num at h
  rw [h1, h2]
  unfold Ideal.div
  rw [if_neg h3]
  rfl

/-- A row with its mean taken off, over its standard deviation. -/
def normed (x : Fin 2048 → EReal) (l : Fin 2048) : EReal :=
  (x l - Ideal.div (∑ k, x k) width)
    * Ideal.rsqrt (Ideal.div (∑ k, (x k - Ideal.div (∑ k, x k) width) * (x k - Ideal.div (∑ k, x k) width)) width + eps)

/-- A number times its logistic. -/
def silu (v : EReal) : EReal := v * Ideal.div 1 (1 + Ideal.exp (-v))

/-- One element of a stored block, from the element, the row's mean and scale, the gain and the offset. -/
def act (y m r g b : EReal) : EReal := silu ((y - m) * r * g + b)

/-- The row's channels, sixteen groups of 128 lanes. -/
theorem sum_groups (f : Fin 16 → Fin 128 → EReal) :
    ∑ l : Fin 128, (f 0 l + f 1 l + f 2 l + f 3 l + f 4 l + f 5 l + f 6 l + f 7 l + f 8 l + f 9 l + f 10 l + f 11 l + f 12 l + f 13 l + f 14 l + f 15 l) = ∑ k : Fin 2048, f ⟨k.val / 128, by omega⟩ ⟨k.val % 128, by omega⟩ := by
  have e (l : Fin 128) : (f 0 l + f 1 l + f 2 l + f 3 l + f 4 l + f 5 l + f 6 l + f 7 l + f 8 l + f 9 l + f 10 l + f 11 l + f 12 l + f 13 l + f 14 l + f 15 l) = ∑ g : Fin 16, f g l := by
    simp only [Fin.sum_univ_castSucc, Fin.sum_univ_zero, zero_add]
    rfl
  rw [Finset.sum_congr rfl fun l _ => e l, Finset.sum_comm, ← Fintype.sum_prod_type' (f := f)]
  refine Fintype.sum_equiv (finProdFinEquiv (m := 16) (n := 128)) _ _ fun ⟨g, l⟩ => ?_
  refine congrArg₂ f (Fin.ext ?_) (Fin.ext ?_)
  · show g.val = (l.val + 128 * g.val) / 128; omega
  · show l.val = (l.val + 128 * g.val) % 128; omega

section
variable (Z : Fin 16 → Vec Ideal S1x256x128 .f32)

/-- The means of the rows. -/
abbrev MU : FVec Ideal S256x1 .f32 := k0_pay68 (k0_pay67 (Z 0) (Z 1) (Z 2) (Z 3) (Z 4) (Z 5) (Z 6) (Z 7) (Z 8) (Z 9)) (Z 10) (Z 11) (Z 12) (Z 13) (Z 14) (Z 15)

/-- The rows' scales. -/
abbrev RS : FVec Ideal S256x1 .f32 :=
  k0_pay74 (MU Z) (k0_pay72 (MU Z) (k0_pay70 (MU Z) (k0_pay69 (k0_pay67 (Z 0) (Z 1) (Z 2) (Z 3) (Z 4) (Z 5) (Z 6) (Z 7) (Z 8) (Z 9)) (Z 10) (Z 11) (Z 12) (Z 13) (Z 14) (Z 15) (Z 0) (Z 1)) (Z 2) (Z 3) (Z 4) (Z 5) (Z 6) (Z 7))
    (k0_pay71 (MU Z) (Z 8)) (Z 9) (Z 10) (Z 11) (Z 12) (Z 13) (Z 14)) (k0_pay73 (Z 15))

/-- A row of the groups. -/
abbrev row (r : Fin 256) (k : Fin 2048) : EReal := Z ⟨k.val / 128, by omega⟩ (ix3 0 r ⟨k.val % 128, by omega⟩)

theorem mu_at (r : Fin 256) : MU Z (ix2 r 0) = Ideal.div (∑ k, row Z r k) width := by
  rw [← mul_width, ← sum_groups fun g l => Z g (ix3 0 r l)]
  pointwise [k0_pay68, k0_pay67]

theorem rs_at (r : Fin 256) : RS Z (ix2 r 0)
    = Ideal.rsqrt (Ideal.div (∑ k, (row Z r k - Ideal.div (∑ k, row Z r k) width) * (row Z r k - Ideal.div (∑ k, row Z r k) width)) width + eps) := by
  rw [← mu_at, ← mul_width (∑ k, _), ← sum_groups fun g l => (Z g (ix3 0 r l) - MU Z (ix2 r 0)) * (Z g (ix3 0 r l) - MU Z (ix2 r 0))]
  unfold RS
  have e : MU Z = k0_pay68 (k0_pay67 (Z 0) (Z 1) (Z 2) (Z 3) (Z 4) (Z 5) (Z 6) (Z 7) (Z 8) (Z 9)) (Z 10) (Z 11) (Z 12) (Z 13) (Z 14) (Z 15) := rfl
  generalize hM : MU Z = M
  pointwise [k0_pay74, k0_pay73, k0_pay72, k0_pay71, k0_pay70, k0_pay69]
  rw [hM] at e
  simp only [← e]
end

section
variable (M R : FVec Ideal S256x1 .f32) (y : Vec Ideal S1x256x128 .f32) (g b : Vec Ideal S1x1x128 .f32) (r : Fin 256) (l : Fin 128)

theorem act0 (A B : FVec Ideal S256x128 .f32) : (k0_pay75 M A B y g b : FVec Ideal S256x128 .bf16) (ix2 r l) = act (y (ix3 0 r l)) (M (ix2 r 0)) ((k0_pay74 M A B) (ix2 r 0)) (g (ix3 0 0 l)) (b (ix3 0 0 l)) := by
  unfold act silu
  pointwise [k0_pay75]
  all_goals first | rfl | (simp only [zero_sub] <;> rfl)

theorem act1 : (k0_pay77 R (k0_pay76 M y) g b : FVec Ideal S256x128 .bf16) (ix2 r l) = act (y (ix3 0 r l)) (M (ix2 r 0)) ((R) (ix2 r 0)) (g (ix3 0 0 l)) (b (ix3 0 0 l)) := by
  unfold act silu
  pointwise [k0_pay76, k0_pay77]
  all_goals first | rfl | (simp only [zero_sub] <;> rfl)

theorem act2 : (k0_pay80 (k0_pay78 M R y g b) (k0_pay79 M R y g b) kernelRun0_A.sl.cst_383 : FVec Ideal S256x128 .bf16) (ix2 r l) = act (y (ix3 0 r l)) (M (ix2 r 0)) ((R) (ix2 r 0)) (g (ix3 0 0 l)) (b (ix3 0 0 l)) := by
  unfold act silu
  pointwise [k0_pay78, k0_pay79, k0_pay80, kernelRun0_A.sl.cst_383]
  all_goals first | rfl | (simp only [zero_sub] <;> rfl)

theorem act3 : (k0_pay81 M R y g b : FVec Ideal S256x128 .bf16) (ix2 r l) = act (y (ix3 0 r l)) (M (ix2 r 0)) ((R) (ix2 r 0)) (g (ix3 0 0 l)) (b (ix3 0 0 l)) := by
  unfold act silu
  pointwise [k0_pay81]
  all_goals first | rfl | (simp only [zero_sub] <;> rfl)

theorem act4 : (k0_pay83 (k0_pay82 M R y) g b : FVec Ideal S256x128 .bf16) (ix2 r l) = act (y (ix3 0 r l)) (M (ix2 r 0)) ((R) (ix2 r 0)) (g (ix3 0 0 l)) (b (ix3 0 0 l)) := by
  unfold act silu
  pointwise [k0_pay82, k0_pay83]
  all_goals first | rfl | (simp only [zero_sub] <;> rfl)

theorem act5 : (k0_pay86 (k0_pay84 M R y g b) (k0_pay85 M R y g b) kernelRun0_A.sl.cst_383 : FVec Ideal S256x128 .bf16) (ix2 r l) = act (y (ix3 0 r l)) (M (ix2 r 0)) ((R) (ix2 r 0)) (g (ix3 0 0 l)) (b (ix3 0 0 l)) := by
  unfold act silu
  pointwise [k0_pay84, k0_pay85, k0_pay86, kernelRun0_A.sl.cst_383]
  all_goals first | rfl | (simp only [zero_sub] <;> rfl)

theorem act6 : (k0_pay87 M R y g b : FVec Ideal S256x128 .bf16) (ix2 r l) = act (y (ix3 0 r l)) (M (ix2 r 0)) ((R) (ix2 r 0)) (g (ix3 0 0 l)) (b (ix3 0 0 l)) := by
  unfold act silu
  pointwise [k0_pay87]
  all_goals first | rfl | (simp only [zero_sub] <;> rfl)

theorem act7 : (k0_pay89 (k0_pay88 M R y) g b : FVec Ideal S256x128 .bf16) (ix2 r l) = act (y (ix3 0 r l)) (M (ix2 r 0)) ((R) (ix2 r 0)) (g (ix3 0 0 l)) (b (ix3 0 0 l)) := by
  unfold act silu
  pointwise [k0_pay88, k0_pay89]
  all_goals first | rfl | (simp only [zero_sub] <;> rfl)

theorem act8 : (k0_pay91 (k0_pay90 M R y g b) : FVec Ideal S256x128 .bf16) (ix2 r l) = act (y (ix3 0 r l)) (M (ix2 r 0)) ((R) (ix2 r 0)) (g (ix3 0 0 l)) (b (ix3 0 0 l)) := by
  unfold act silu
  pointwise [k0_pay90, k0_pay91]
  all_goals first | rfl | (simp only [zero_sub] <;> rfl)

theorem act9 : (k0_pay92 M R y g b : FVec Ideal S256x128 .bf16) (ix2 r l) = act (y (ix3 0 r l)) (M (ix2 r 0)) ((R) (ix2 r 0)) (g (ix3 0 0 l)) (b (ix3 0 0 l)) := by
  unfold act silu
  pointwise [k0_pay92]
  all_goals first | rfl | (simp only [zero_sub] <;> rfl)

theorem act10 : (k0_pay94 (k0_pay93 M R y g) b : FVec Ideal S256x128 .bf16) (ix2 r l) = act (y (ix3 0 r l)) (M (ix2 r 0)) ((R) (ix2 r 0)) (g (ix3 0 0 l)) (b (ix3 0 0 l)) := by
  unfold act silu
  pointwise [k0_pay93, k0_pay94]
  all_goals first | rfl | (simp only [zero_sub] <;> rfl)

theorem act11 : (k0_pay95 M R y g b : FVec Ideal S256x128 .bf16) (ix2 r l) = act (y (ix3 0 r l)) (M (ix2 r 0)) ((R) (ix2 r 0)) (g (ix3 0 0 l)) (b (ix3 0 0 l)) := by
  unfold act silu
  pointwise [k0_pay95]
  all_goals first | rfl | (simp only [zero_sub] <;> rfl)

theorem act12 : (k0_pay96 M R y g b : FVec Ideal S256x128 .bf16) (ix2 r l) = act (y (ix3 0 r l)) (M (ix2 r 0)) ((R) (ix2 r 0)) (g (ix3 0 0 l)) (b (ix3 0 0 l)) := by
  unfold act silu
  pointwise [k0_pay96]
  all_goals first | rfl | (simp only [zero_sub] <;> rfl)

theorem act13 : (k0_pay98 (k0_pay97 M R y g) b : FVec Ideal S256x128 .bf16) (ix2 r l) = act (y (ix3 0 r l)) (M (ix2 r 0)) ((R) (ix2 r 0)) (g (ix3 0 0 l)) (b (ix3 0 0 l)) := by
  unfold act silu
  pointwise [k0_pay97, k0_pay98]
  all_goals first | rfl | (simp only [zero_sub] <;> rfl)

theorem act14 : (k0_pay99 M R y g b : FVec Ideal S256x128 .bf16) (ix2 r l) = act (y (ix3 0 r l)) (M (ix2 r 0)) ((R) (ix2 r 0)) (g (ix3 0 0 l)) (b (ix3 0 0 l)) := by
  unfold act silu
  pointwise [k0_pay99]
  all_goals first | rfl | (simp only [zero_sub] <;> rfl)

theorem act15 : (k0_pay100 M R y g b : FVec Ideal S256x128 .bf16) (ix2 r l) = act (y (ix3 0 r l)) (M (ix2 r 0)) ((R) (ix2 r 0)) (g (ix3 0 0 l)) (b (ix3 0 0 l)) := by
  unfold act silu
  pointwise [k0_pay100]
  all_goals first | rfl | (simp only [zero_sub] <;> rfl)

end

section
variable (c : Dev nD) (i : grid0.Coords) (arg1 : Memref sig .tc .vmem S256x2048 .f32) (harg1 : arg1.IsWhole) (arg2 : Memref sig .tc .vmem S16x2048 .f32) (harg2 : arg2.IsWhole)
  (arg3 : Memref sig .tc .vmem S16x2048 .f32) (harg3 : arg3.IsWhole) (arg4 : Memref sig .tc .vmem S16x32x128 .f32) (harg4 : arg4.IsWhole) (arg5 : Memref sig .tc .vmem S16x1x128 .f32) (harg5 : arg5.IsWhole)
  (arg6 : Memref sig .tc .vmem S16x1x128 .f32) (harg6 : arg6.IsWhole) (arg7 : Memref sig .tc .vmem S16x1x128 .f32) (harg7 : arg7.IsWhole) (arg8 : Memref sig .tc .vmem S256x2048 .bf16) (harg8 : arg8.IsWhole)
  (arg9 : Memref sig .tc .vmem S16x288x128 .f32) (harg9 : arg9.IsWhole) (arg10 : Memref sig .tc .vmem S16x256x128 .f32) (harg10 : arg10.IsWhole)

variable (x0 : Vec Ideal S256x2048 .f32) (x1 x2 : Vec Ideal S16x2048 .f32) (x3 : Vec Ideal S16x32x128 .f32) (x4 x5 x6 : Vec Ideal S16x1x128 .f32)

/-- A load of one group's parameters. -/
theorem par6 (n : ℕ) (hn : n < 16) (inb) (l : Fin 128) :
    View.readAt (Elt Ideal) arg6.view (Rect.unit (s := S16x1x128) ![n, 0, 0] ![1, 1, 128] inb).toLoadRect (harg6.unread x5) (ix3 0 0 l) = x5 (ix3 ⟨n, hn⟩ 0 l) := by
  refine (congrFun (harg6.read_unread x5) _).trans (congrArg x5 (funext fun a => Fin.ext ?_))
  fin_cases a
  · show n + 1 * 0 = n; omega
  · rfl
  · show 0 + 1 * l.val = l.val; omega

theorem par7 (n : ℕ) (hn : n < 16) (inb) (l : Fin 128) :
    View.readAt (Elt Ideal) arg7.view (Rect.unit (s := S16x1x128) ![n, 0, 0] ![1, 1, 128] inb).toLoadRect (harg7.unread x6) (ix3 0 0 l) = x6 (ix3 ⟨n, hn⟩ 0 l) := by
  refine (congrFun (harg7.read_unread x6) _).trans (congrArg x6 (funext fun a => Fin.ext ?_))
  fin_cases a
  · show n + 1 * 0 = n; omega
  · rfl
  · show 0 + 1 * l.val = l.val; omega

/-- The block that a point stores. -/
def outv (Z : Fin 16 → Vec Ideal S1x256x128 .f32) (y : S256x2048.Idx) : EReal :=
  silu (normed (row Z (y 0)) (y 1) * x5 (ix3 ⟨(y 1).val / 128, by have := (y 1).isLt; show _ < 16; change (y 1).val < 2048 at this; omega⟩ 0 ⟨(y 1).val % 128, by omega⟩)
    + x6 (ix3 ⟨(y 1).val / 128, by have := (y 1).isLt; show _ < 16; change (y 1).val < 2048 at this; omega⟩ 0 ⟨(y 1).val % 128, by omega⟩))

/-- One piece of the block. -/
theorem piece (Z : Fin 16 → Vec Ideal S1x256x128 .f32) (n : ℕ) (hn : n < 16) (o : ℕ) (ho : o = 128 * n) (inb) (x : S256x128.Idx) (w : FVec Ideal S256x128 .bf16) (g b : Vec Ideal S1x1x128 .f32)
    (hg : ∀ l, g (ix3 0 0 l) = x5 (ix3 ⟨n, hn⟩ 0 l)) (hb : ∀ l, b (ix3 0 0 l) = x6 (ix3 ⟨n, hn⟩ 0 l))
    (hw : ∀ r l, w (ix2 r l) = act (Z ⟨n, hn⟩ (ix3 0 r l)) (MU Z (ix2 r 0)) (RS Z (ix2 r 0)) (g (ix3 0 0 l)) (b (ix3 0 0 l))) :
    w x = outv x5 x6 Z ((Rect.unit (s := S256x2048) ![0, o] ![256, 128] inb).emb x) := by
  subst ho
  obtain ⟨r, l, rfl⟩ : ∃ (r : Fin 256) (l : Fin 128), x = ix2 r l := ⟨x 0, x 1, eq_ix2 x⟩
  have e : (Rect.unit (s := S256x2048) ![0, 128 * n] ![256, 128] inb).emb (ix2 r l : S256x128.Idx) = ix2 r (⟨128 * n + l.val, by omega⟩ : Fin 2048) := by
    refine funext fun a => Fin.ext ?_
    fin_cases a
    · show 0 + 1 * r.val = r.val; omega
    · show 128 * n + 1 * l.val = 128 * n + l.val; omega
  rw [e, hw, hg, hb, mu_at, rs_at]
  have e1 : (128 * n + l.val) / 128 = n := by omega
  have e2 : (128 * n + l.val) % 128 = l.val := by omega
  show _ = silu (normed (row Z r) ⟨128 * n + l.val, _⟩ * x5 (ix3 ⟨(128 * n + l.val) / 128, _⟩ 0 ⟨(128 * n + l.val) % 128, _⟩) + x6 (ix3 ⟨(128 * n + l.val) / 128, _⟩ 0 ⟨(128 * n + l.val) % 128, _⟩))
  simp only [e1, e2]
  unfold act normed
  simp only [row, e1, e2]

theorem out_at : out0_A_7 (F := Ideal) c i arg1 harg1 arg2 harg2 arg3 harg3 arg4 harg4 arg5 harg5 arg6 harg6 arg7 harg7 arg8 harg8 arg9 harg9 arg10 harg10 x0 x1 x2 x3 x4 x5 x6 = outv x5 x6 (Y i x0 x1 x2 x3 x4) := by
  funext y
  unfold out0_A_7
  rw [View.read_writes_junk_eq_canon]
  refine View.canon_apply_of_pieces _ _ ?_ y (cover0_A_7 c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only [kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30]
  simp only [y_read c i arg1 harg1 arg2 harg2 arg3 harg3 arg4 harg4 arg5 harg5 arg6 harg6 arg7 harg7 arg8 harg8 arg9 harg9 arg10 harg10 x0 x1 x2 x3 x4 _ _ _ 0 (by decide) inb_S16x256x128_S1x256x128_0_0_0, y_read c i arg1 harg1 arg2 harg2 arg3 harg3 arg4 harg4 arg5 harg5 arg6 harg6 arg7 harg7 arg8 harg8 arg9 harg9 arg10 harg10 x0 x1 x2 x3 x4 _ _ _ 1 (by decide) inb_S16x256x128_S1x256x128_1_0_0, y_read c i arg1 harg1 arg2 harg2 arg3 harg3 arg4 harg4 arg5 harg5 arg6 harg6 arg7 harg7 arg8 harg8 arg9 harg9 arg10 harg10 x0 x1 x2 x3 x4 _ _ _ 2 (by decide) inb_S16x256x128_S1x256x128_2_0_0, y_read c i arg1 harg1 arg2 harg2 arg3 harg3 arg4 harg4 arg5 harg5 arg6 harg6 arg7 harg7 arg8 harg8 arg9 harg9 arg10 harg10 x0 x1 x2 x3 x4 _ _ _ 3 (by decide) inb_S16x256x128_S1x256x128_3_0_0, y_read c i arg1 harg1 arg2 harg2 arg3 harg3 arg4 harg4 arg5 harg5 arg6 harg6 arg7 harg7 arg8 harg8 arg9 harg9 arg10 harg10 x0 x1 x2 x3 x4 _ _ _ 4 (by decide) inb_S16x256x128_S1x256x128_4_0_0, y_read c i arg1 harg1 arg2 harg2 arg3 harg3 arg4 harg4 arg5 harg5 arg6 harg6 arg7 harg7 arg8 harg8 arg9 harg9 arg10 harg10 x0 x1 x2 x3 x4 _ _ _ 5 (by decide) inb_S16x256x128_S1x256x128_5_0_0, y_read c i arg1 harg1 arg2 harg2 arg3 harg3 arg4 harg4 arg5 harg5 arg6 harg6 arg7 harg7 arg8 harg8 arg9 harg9 arg10 harg10 x0 x1 x2 x3 x4 _ _ _ 6 (by decide) inb_S16x256x128_S1x256x128_6_0_0, y_read c i arg1 harg1 arg2 harg2 arg3 harg3 arg4 harg4 arg5 harg5 arg6 harg6 arg7 harg7 arg8 harg8 arg9 harg9 arg10 harg10 x0 x1 x2 x3 x4 _ _ _ 7 (by decide) inb_S16x256x128_S1x256x128_7_0_0, y_read c i arg1 harg1 arg2 harg2 arg3 harg3 arg4 harg4 arg5 harg5 arg6 harg6 arg7 harg7 arg8 harg8 arg9 harg9 arg10 harg10 x0 x1 x2 x3 x4 _ _ _ 8 (by decide) inb_S16x256x128_S1x256x128_8_0_0, y_read c i arg1 harg1 arg2 harg2 arg3 harg3 arg4 harg4 arg5 harg5 arg6 harg6 arg7 harg7 arg8 harg8 arg9 harg9 arg10 harg10 x0 x1 x2 x3 x4 _ _ _ 9 (by decide) inb_S16x256x128_S1x256x128_9_0_0, y_read c i arg1 harg1 arg2 harg2 arg3 harg3 arg4 harg4 arg5 harg5 arg6 harg6 arg7 harg7 arg8 harg8 arg9 harg9 arg10 harg10 x0 x1 x2 x3 x4 _ _ _ 10 (by decide) inb_S16x256x128_S1x256x128_10_0_0, y_read c i arg1 harg1 arg2 harg2 arg3 harg3 arg4 harg4 arg5 harg5 arg6 harg6 arg7 harg7 arg8 harg8 arg9 harg9 arg10 harg10 x0 x1 x2 x3 x4 _ _ _ 11 (by decide) inb_S16x256x128_S1x256x128_11_0_0, y_read c i arg1 harg1 arg2 harg2 arg3 harg3 arg4 harg4 arg5 harg5 arg6 harg6 arg7 harg7 arg8 harg8 arg9 harg9 arg10 harg10 x0 x1 x2 x3 x4 _ _ _ 12 (by decide) inb_S16x256x128_S1x256x128_12_0_0, y_read c i arg1 harg1 arg2 harg2 arg3 harg3 arg4 harg4 arg5 harg5 arg6 harg6 arg7 harg7 arg8 harg8 arg9 harg9 arg10 harg10 x0 x1 x2 x3 x4 _ _ _ 13 (by decide) inb_S16x256x128_S1x256x128_13_0_0, y_read c i arg1 harg1 arg2 harg2 arg3 harg3 arg4 harg4 arg5 harg5 arg6 harg6 arg7 harg7 arg8 harg8 arg9 harg9 arg10 harg10 x0 x1 x2 x3 x4 _ _ _ 14 (by decide) inb_S16x256x128_S1x256x128_14_0_0, y_read c i arg1 harg1 arg2 harg2 arg3 harg3 arg4 harg4 arg5 harg5 arg6 harg6 arg7 harg7 arg8 harg8 arg9 harg9 arg10 harg10 x0 x1 x2 x3 x4 _ _ _ 15 (by decide) inb_S16x256x128_S1x256x128_15_0_0]
  refine List.forall_mem_cons.2 ⟨fun x => piece x5 x6 (Y i x0 x1 x2 x3 x4) 15 (by decide) 1920 rfl inb_S256x2048_S256x128_0_1920 x _ _ _ (par6 arg6 harg6 x5 15 (by decide) inb_S16x1x128_S1x1x128_15_0_0) (par7 arg7 harg7 x6 15 (by decide) inb_S16x1x128_S1x1x128_15_0_0) fun r l => ?_, ?_⟩
  · exact act15 (MU (Y i x0 x1 x2 x3 x4)) (RS (Y i x0 x1 x2 x3 x4)) _ _ _ _ _
  refine List.forall_mem_cons.2 ⟨fun x => piece x5 x6 (Y i x0 x1 x2 x3 x4) 14 (by decide) 1792 rfl inb_S256x2048_S256x128_0_1792 x _ _ _ (par6 arg6 harg6 x5 14 (by decide) inb_S16x1x128_S1x1x128_14_0_0) (par7 arg7 harg7 x6 14 (by decide) inb_S16x1x128_S1x1x128_14_0_0) fun r l => ?_, ?_⟩
  · exact act14 (MU (Y i x0 x1 x2 x3 x4)) (RS (Y i x0 x1 x2 x3 x4)) _ _ _ _ _
  refine List.forall_mem_cons.2 ⟨fun x => piece x5 x6 (Y i x0 x1 x2 x3 x4) 13 (by decide) 1664 rfl inb_S256x2048_S256x128_0_1664 x _ _ _ (par6 arg6 harg6 x5 13 (by decide) inb_S16x1x128_S1x1x128_13_0_0) (par7 arg7 harg7 x6 13 (by decide) inb_S16x1x128_S1x1x128_13_0_0) fun r l => ?_, ?_⟩
  · exact act13 (MU (Y i x0 x1 x2 x3 x4)) (RS (Y i x0 x1 x2 x3 x4)) _ _ _ _ _
  refine List.forall_mem_cons.2 ⟨fun x => piece x5 x6 (Y i x0 x1 x2 x3 x4) 12 (by decide) 1536 rfl inb_S256x2048_S256x128_0_1536 x _ _ _ (par6 arg6 harg6 x5 12 (by decide) inb_S16x1x128_S1x1x128_12_0_0) (par7 arg7 harg7 x6 12 (by decide) inb_S16x1x128_S1x1x128_12_0_0) fun r l => ?_, ?_⟩
  · exact act12 (MU (Y i x0 x1 x2 x3 x4)) (RS (Y i x0 x1 x2 x3 x4)) _ _ _ _ _
  refine List.forall_mem_cons.2 ⟨fun x => piece x5 x6 (Y i x0 x1 x2 x3 x4) 11 (by decide) 1408 rfl inb_S256x2048_S256x128_0_1408 x _ _ _ (par6 arg6 harg6 x5 11 (by decide) inb_S16x1x128_S1x1x128_11_0_0) (par7 arg7 harg7 x6 11 (by decide) inb_S16x1x128_S1x1x128_11_0_0) fun r l => ?_, ?_⟩
  · exact act11 (MU (Y i x0 x1 x2 x3 x4)) (RS (Y i x0 x1 x2 x3 x4)) _ _ _ _ _
  refine List.forall_mem_cons.2 ⟨fun x => piece x5 x6 (Y i x0 x1 x2 x3 x4) 10 (by decide) 1280 rfl inb_S256x2048_S256x128_0_1280 x _ _ _ (par6 arg6 harg6 x5 10 (by decide) inb_S16x1x128_S1x1x128_10_0_0) (par7 arg7 harg7 x6 10 (by decide) inb_S16x1x128_S1x1x128_10_0_0) fun r l => ?_, ?_⟩
  · exact act10 (MU (Y i x0 x1 x2 x3 x4)) (RS (Y i x0 x1 x2 x3 x4)) _ _ _ _ _
  refine List.forall_mem_cons.2 ⟨fun x => piece x5 x6 (Y i x0 x1 x2 x3 x4) 9 (by decide) 1152 rfl inb_S256x2048_S256x128_0_1152 x _ _ _ (par6 arg6 harg6 x5 9 (by decide) inb_S16x1x128_S1x1x128_9_0_0) (par7 arg7 harg7 x6 9 (by decide) inb_S16x1x128_S1x1x128_9_0_0) fun r l => ?_, ?_⟩
  · exact act9 (MU (Y i x0 x1 x2 x3 x4)) (RS (Y i x0 x1 x2 x3 x4)) _ _ _ _ _
  refine List.forall_mem_cons.2 ⟨fun x => piece x5 x6 (Y i x0 x1 x2 x3 x4) 8 (by decide) 1024 rfl inb_S256x2048_S256x128_0_1024 x _ _ _ (par6 arg6 harg6 x5 8 (by decide) inb_S16x1x128_S1x1x128_8_0_0) (par7 arg7 harg7 x6 8 (by decide) inb_S16x1x128_S1x1x128_8_0_0) fun r l => ?_, ?_⟩
  · exact act8 (MU (Y i x0 x1 x2 x3 x4)) (RS (Y i x0 x1 x2 x3 x4)) _ _ _ _ _
  refine List.forall_mem_cons.2 ⟨fun x => piece x5 x6 (Y i x0 x1 x2 x3 x4) 7 (by decide) 896 rfl inb_S256x2048_S256x128_0_896 x _ _ _ (par6 arg6 harg6 x5 7 (by decide) inb_S16x1x128_S1x1x128_7_0_0) (par7 arg7 harg7 x6 7 (by decide) inb_S16x1x128_S1x1x128_7_0_0) fun r l => ?_, ?_⟩
  · exact act7 (MU (Y i x0 x1 x2 x3 x4)) (RS (Y i x0 x1 x2 x3 x4)) _ _ _ _ _
  refine List.forall_mem_cons.2 ⟨fun x => piece x5 x6 (Y i x0 x1 x2 x3 x4) 6 (by decide) 768 rfl inb_S256x2048_S256x128_0_768 x _ _ _ (par6 arg6 harg6 x5 6 (by decide) inb_S16x1x128_S1x1x128_6_0_0) (par7 arg7 harg7 x6 6 (by decide) inb_S16x1x128_S1x1x128_6_0_0) fun r l => ?_, ?_⟩
  · exact act6 (MU (Y i x0 x1 x2 x3 x4)) (RS (Y i x0 x1 x2 x3 x4)) _ _ _ _ _
  refine List.forall_mem_cons.2 ⟨fun x => piece x5 x6 (Y i x0 x1 x2 x3 x4) 5 (by decide) 640 rfl inb_S256x2048_S256x128_0_640 x _ _ _ (par6 arg6 harg6 x5 5 (by decide) inb_S16x1x128_S1x1x128_5_0_0) (par7 arg7 harg7 x6 5 (by decide) inb_S16x1x128_S1x1x128_5_0_0) fun r l => ?_, ?_⟩
  · exact act5 (MU (Y i x0 x1 x2 x3 x4)) (RS (Y i x0 x1 x2 x3 x4)) _ _ _ _ _
  refine List.forall_mem_cons.2 ⟨fun x => piece x5 x6 (Y i x0 x1 x2 x3 x4) 4 (by decide) 512 rfl inb_S256x2048_S256x128_0_512 x _ _ _ (par6 arg6 harg6 x5 4 (by decide) inb_S16x1x128_S1x1x128_4_0_0) (par7 arg7 harg7 x6 4 (by decide) inb_S16x1x128_S1x1x128_4_0_0) fun r l => ?_, ?_⟩
  · exact act4 (MU (Y i x0 x1 x2 x3 x4)) (RS (Y i x0 x1 x2 x3 x4)) _ _ _ _ _
  refine List.forall_mem_cons.2 ⟨fun x => piece x5 x6 (Y i x0 x1 x2 x3 x4) 3 (by decide) 384 rfl inb_S256x2048_S256x128_0_384 x _ _ _ (par6 arg6 harg6 x5 3 (by decide) inb_S16x1x128_S1x1x128_3_0_0) (par7 arg7 harg7 x6 3 (by decide) inb_S16x1x128_S1x1x128_3_0_0) fun r l => ?_, ?_⟩
  · exact act3 (MU (Y i x0 x1 x2 x3 x4)) (RS (Y i x0 x1 x2 x3 x4)) _ _ _ _ _
  refine List.forall_mem_cons.2 ⟨fun x => piece x5 x6 (Y i x0 x1 x2 x3 x4) 2 (by decide) 256 rfl inb_S256x2048_S256x128_0_256 x _ _ _ (par6 arg6 harg6 x5 2 (by decide) inb_S16x1x128_S1x1x128_2_0_0) (par7 arg7 harg7 x6 2 (by decide) inb_S16x1x128_S1x1x128_2_0_0) fun r l => ?_, ?_⟩
  · exact act2 (MU (Y i x0 x1 x2 x3 x4)) (RS (Y i x0 x1 x2 x3 x4)) _ _ _ _ _
  refine List.forall_mem_cons.2 ⟨fun x => piece x5 x6 (Y i x0 x1 x2 x3 x4) 1 (by decide) 128 rfl inb_S256x2048_S256x128_0_128 x _ _ _ (par6 arg6 harg6 x5 1 (by decide) inb_S16x1x128_S1x1x128_1_0_0) (par7 arg7 harg7 x6 1 (by decide) inb_S16x1x128_S1x1x128_1_0_0) fun r l => ?_, ?_⟩
  · exact act1 (MU (Y i x0 x1 x2 x3 x4)) (RS (Y i x0 x1 x2 x3 x4)) _ _ _ _ _
  refine List.forall_mem_cons.2 ⟨fun x => piece x5 x6 (Y i x0 x1 x2 x3 x4) 0 (by decide) 0 rfl inb_S256x2048_S256x128_0_0 x _ _ _ (par6 arg6 harg6 x5 0 (by decide) inb_S16x1x128_S1x1x128_0_0_0) (par7 arg7 harg7 x6 0 (by decide) inb_S16x1x128_S1x1x128_0_0_0) fun r l => ?_, ?_⟩
  · exact act0 (MU (Y i x0 x1 x2 x3 x4)) _ _ _ _ _ _ _
  · exact List.forall_mem_nil _
end
end Cert.Conv

end
-- ==== Proof.ConvRef.lean ====
module

public import proofs.«01_k».proof.Proof.ConvOut
public import proofs.«01_k».proof.Proof.Gen.Reference7Ideal.Run
public import proofs.«01_k».proof.Proof.Gen.Reference7Ideal.Read
public import Idealize.ShloMosaic.Lib.Pointwise

@[expose] public section

set_option maxRecDepth 16384

noncomputable section

open Idealize.ShloMosaic Idealize.ShloMosaic.TcCoe Idealize.SL.Sem

namespace Cert.Conv

open Cert.Reference7Ideal Cert.Reference7Ideal.Read

/-- Row `q - 15` of the rows from `lo` on below `hi`, and zero outside of them. -/
def srcv (X : FVec Ideal S8192x2048 .f32) (lo hi q : ℕ) (l : Fin 2048) : EReal :=
  if h : lo + 15 ≤ q ∧ q < hi + 15 ∧ q < 8207 then X (ix2 ⟨q - 15, by omega⟩ l) else 0

/-- The convolution along the rows from `lo` on below `hi`, at row `T`. -/
def convr (X : FVec Ideal S8192x2048 .f32) (W : FVec Ideal S1x31x2048 .f32) (B : FVec Ideal S1x2048 .f32) (lo hi T : ℕ) (l : Fin 2048) : EReal :=
  taps (fun j => srcv X lo hi (T + j.val) l * W (ix3 0 j l)) + B (ix2 0 l)

section
variable (X : FVec Ideal S8192x2048 .f32) (W : FVec Ideal S1x31x2048 .f32) (B G O : FVec Ideal S1x2048 .f32)

/-- The reference's rows of the prompt, zeros on both sides. -/
theorem padP_at (b : Fin 16) (p : Fin 286) (l : Fin 2048) : val_main_v2 (F := Ideal) X (ix3 b p l) = srcv X (0 + 256 * b.val) (0 + 256 * b.val + 256) (0 + 256 * b.val + p.val) l := by
  unfold srcv
  pointwise [val_main_v0, val_main_v1, val_main_v2, val_main_c, val_main_call0_v0]
  by_cases h : 15 ≤ p.val ∧ p.val < 271
  · rw [dif_pos (by omega)]
    rw [dif_pos (by first | omega | (intro a; fin_cases a <;> simp <;> omega))]
    refine congrArg X (congrArg (ix2 · l) (Fin.ext ?_)); dsimp only; omega
  · rw [dif_neg (by omega)]
    rw [dif_neg (by first | omega | (intro hh; have := hh 1; simp at this; omega))]
    show (((0#32 : BitVec 32).toInt : ℝ) : EReal) = 0
    norm_num

/-- Its convolution. -/
theorem convP_at (b : Fin 16) (n : Fin 256) (l : Fin 2048) : val_main_v224 (F := Ideal) X W B (ix3 b n l)
    = convr X W B (0 + 256 * b.val) (0 + 256 * b.val + 256) (0 + 256 * b.val + n.val) l := by
  have e (j : Fin 31) : srcv X (0 + 256 * b.val) (0 + 256 * b.val + 256) (0 + 256 * b.val + n.val + j.val) l = val_main_v2 (F := Ideal) X (ix3 b ⟨j.val + n.val, by omega⟩ l) := by
    rw [padP_at]; congr 1; dsimp only; omega
  unfold convr
  simp only [e]
  unfold taps
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_cst]
  try simp only [Nat.zero_add]

/-- Its layer norm, scaled, and through the gate. -/
theorem actP_at (b : Fin 16) (n : Fin 256) (l : Fin 2048) : val_main_v251 (F := Ideal) X W B G O (ix3 b n l)
    = silu (normed (fun k => val_main_v224 (F := Ideal) X W B (ix3 b n k)) l * G (ix2 0 l) + O (ix2 0 l)) := by
  unfold silu normed
  pointwise [val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_cst_0, val_main_cst_1, val_main_cst_2, val_main_cst_3, val_main_cst_4, val_main_call1_v0, val_main_call1_v1, val_main_call1_cst, val_main_call1_v2, val_main_call1_v3, val_main_call1_cst_0, val_main_call1_v4, val_main_call1_v5]

/-- The reference's rows of the samples, zeros on both sides. -/
theorem padS_at (b : Fin 4) (p : Fin 1054) (l : Fin 2048) : val_main_v255 (F := Ideal) X (ix3 b p l) = srcv X (4096 + 1024 * b.val) (4096 + 1024 * b.val + 1024) (4096 + 1024 * b.val + p.val) l := by
  unfold srcv
  pointwise [val_main_v253, val_main_v254, val_main_v255, val_main_c_5, val_main_call2_v0]
  by_cases h : 15 ≤ p.val ∧ p.val < 1039
  · rw [dif_pos (by omega)]
    rw [dif_pos (by first | omega | (intro a; fin_cases a <;> simp <;> omega))]
    refine congrArg X (congrArg (ix2 · l) (Fin.ext ?_)); dsimp only; omega
  · rw [dif_neg (by omega)]
    rw [dif_neg (by first | omega | (intro hh; have := hh 1; simp at this; omega))]
    show (((0#32 : BitVec 32).toInt : ℝ) : EReal) = 0
    norm_num

/-- Its convolution. -/
theorem convS_at (b : Fin 4) (n : Fin 1024) (l : Fin 2048) : val_main_v477 (F := Ideal) X W B (ix3 b n l)
    = convr X W B (4096 + 1024 * b.val) (4096 + 1024 * b.val + 1024) (4096 + 1024 * b.val + n.val) l := by
  have e (j : Fin 31) : srcv X (4096 + 1024 * b.val) (4096 + 1024 * b.val + 1024) (4096 + 1024 * b.val + n.val + j.val) l = val_main_v255 (F := Ideal) X (ix3 b ⟨j.val + n.val, by omega⟩ l) := by
    rw [padS_at]; congr 1; dsimp only; omega
  unfold convr
  simp only [e]
  unfold taps
  pointwise [val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_v325, val_main_v326, val_main_v327, val_main_v328, val_main_v329, val_main_v330, val_main_v331, val_main_v332, val_main_v333, val_main_v334, val_main_v335, val_main_v336, val_main_v337, val_main_v338, val_main_v339, val_main_v340, val_main_v341, val_main_v342, val_main_v343, val_main_v344, val_main_v345, val_main_v346, val_main_v347, val_main_v348, val_main_v349, val_main_v350, val_main_v351, val_main_v352, val_main_v353, val_main_v354, val_main_v355, val_main_v356, val_main_v357, val_main_v358, val_main_v359, val_main_v360, val_main_v361, val_main_v362, val_main_v363, val_main_v364, val_main_v365, val_main_v366, val_main_v367, val_main_v368, val_main_v369, val_main_v370, val_main_v371, val_main_v372, val_main_v373, val_main_v374, val_main_v375, val_main_v376, val_main_v377, val_main_v378, val_main_v379, val_main_v380, val_main_v381, val_main_v382, val_main_v383, val_main_v384, val_main_v385, val_main_v386, val_main_v387, val_main_v388, val_main_v389, val_main_v390, val_main_v391, val_main_v392, val_main_v393, val_main_v394, val_main_v395, val_main_v396, val_main_v397, val_main_v398, val_main_v399, val_main_v400, val_main_v401, val_main_v402, val_main_v403, val_main_v404, val_main_v405, val_main_v406, val_main_v407, val_main_v408, val_main_v409, val_main_v410, val_main_v411, val_main_v412, val_main_v413, val_main_v414, val_main_v415, val_main_v416, val_main_v417, val_main_v418, val_main_v419, val_main_v420, val_main_v421, val_main_v422, val_main_v423, val_main_v424, val_main_v425, val_main_v426, val_main_v427, val_main_v428, val_main_v429, val_main_v430, val_main_v431, val_main_v432, val_main_v433, val_main_v434, val_main_v435, val_main_v436, val_main_v437, val_main_v438, val_main_v439, val_main_v440, val_main_v441, val_main_v442, val_main_v443, val_main_v444, val_main_v445, val_main_v446, val_main_v447, val_main_v448, val_main_v449, val_main_v450, val_main_v451, val_main_v452, val_main_v453, val_main_v454, val_main_v455, val_main_v456, val_main_v457, val_main_v458, val_main_v459, val_main_v460, val_main_v461, val_main_v462, val_main_v463, val_main_v464, val_main_v465, val_main_v466, val_main_v467, val_main_v468, val_main_v469, val_main_v470, val_main_v471, val_main_v472, val_main_v473, val_main_v474, val_main_v475, val_main_v476, val_main_v477, val_main_cst_6]
  try simp only [Nat.zero_add]

/-- Its layer norm, scaled, and through the gate. -/
theorem actS_at (b : Fin 4) (n : Fin 1024) (l : Fin 2048) : val_main_v504 (F := Ideal) X W B G O (ix3 b n l)
    = silu (normed (fun k => val_main_v477 (F := Ideal) X W B (ix3 b n k)) l * G (ix2 0 l) + O (ix2 0 l)) := by
  unfold silu normed
  pointwise [val_main_v478, val_main_v479, val_main_v480, val_main_v481, val_main_v482, val_main_v483, val_main_v484, val_main_v485, val_main_v486, val_main_v487, val_main_v488, val_main_v489, val_main_v490, val_main_v491, val_main_v492, val_main_v493, val_main_v494, val_main_v495, val_main_v496, val_main_v497, val_main_v498, val_main_v499, val_main_v500, val_main_v501, val_main_v502, val_main_v503, val_main_v504, val_main_cst_7, val_main_cst_8, val_main_cst_9, val_main_cst_10, val_main_cst_11, val_main_call3_v0, val_main_call3_v1, val_main_call3_cst, val_main_call3_v2, val_main_call3_v3, val_main_call3_cst_0, val_main_call3_v4, val_main_call3_v5]

/-- One element of the reference's result in the prompt's rows. -/
theorem refP_at (r : Fin 8192) (h : r.val < 4096) (l : Fin 2048) : val_main_v507 (F := Ideal) X W B G O (ix2 r l)
    = silu (normed (convr X W B (0 + 256 * (r.val / 256)) (0 + 256 * (r.val / 256) + 256) r.val) l * G (ix2 0 l) + O (ix2 0 l)) := by
  have e : convr X W B (0 + 256 * (r.val / 256)) (0 + 256 * (r.val / 256) + 256) r.val
      = fun k => val_main_v224 (F := Ideal) X W B (ix3 ⟨r.val / 256, by omega⟩ ⟨r.val % 256, by omega⟩ k) := by
    funext k; rw [convP_at]; dsimp only; rw [show 0 + 256 * (r.val / 256) + r.val % 256 = r.val by omega]
  rw [e, ← actP_at]
  pointwise [val_main_v507, val_main_v506, val_main_v505, val_main_v252]
  rw [dif_pos (by omega)]

/-- One element of the reference's result in the samples' rows. -/
theorem refS_at (r : Fin 8192) (h : 4096 ≤ r.val) (l : Fin 2048) : val_main_v507 (F := Ideal) X W B G O (ix2 r l)
    = silu (normed (convr X W B (4096 + 1024 * ((r.val - 4096) / 1024)) (4096 + 1024 * ((r.val - 4096) / 1024) + 1024) r.val) l * G (ix2 0 l) + O (ix2 0 l)) := by
  have e : convr X W B (4096 + 1024 * ((r.val - 4096) / 1024)) (4096 + 1024 * ((r.val - 4096) / 1024) + 1024) r.val
      = fun k => val_main_v477 (F := Ideal) X W B (ix3 ⟨(r.val - 4096) / 1024, by omega⟩ ⟨(r.val - 4096) % 1024, by omega⟩ k) := by
    funext k; rw [convS_at]; dsimp only; rw [show 4096 + 1024 * ((r.val - 4096) / 1024) + (r.val - 4096) % 1024 = r.val by omega]
  rw [e, ← actS_at]
  pointwise [val_main_v507, val_main_v506, val_main_v505, val_main_v252]
  rw [dif_neg (by omega)]
end
end Cert.Conv

end
-- ==== Proof.ConvHost.lean ====
module

public import proofs.«01_k».proof.Proof.ConvRef
public import Idealize.ShloMosaic.Lib.Routing.OpsSet
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

open Idealize.ShloMosaic.Pipeline (Dat)
open Idealize.ShloMosaic.Routing (resultIdx?_ix2 scatter_set_hit)

namespace Cert.Conv

open Cert.Kernel7Ideal Cert.Kernel7Ideal.Gen

section
variable (m : (ℓ : Loc nD τ sig) → Buf (Elt Ideal) ℓ)

/-- Where an update of 31 rows lands, the number of the first the one index word. -/
theorem lands (i : IVec S1 32) (hi : (i (ix1 0)).toInt = 0) (b : Fin 31) (w : Fin 2048) (r : Fin 32) (e : Fin 2048) :
    scatter_S32x2048_S1_S31x2048_01_n_0_0.resultIdx? (ix2 b w) i = some (ix2 r e) ↔ r.val = b.val ∧ e = w := by
  have s0 : scatter_S32x2048_S1_S31x2048_01_n_0_0.start (ix2 b w) i 0 = (i (ix1 0)).toInt := by
    unfold ScatterDims.start
    rw [dif_pos (by exact List.mem_singleton.2 rfl)]
    exact congrArg (fun j => (i j).toInt) (by funext b; match b with | ⟨0, _⟩ => exact Subsingleton.elim (α := Fin 1) _ _)
  have s1 : scatter_S32x2048_S1_S31x2048_01_n_0_0.start (ix2 b w) i 1 = 0 := rfl
  have w0 : scatter_S32x2048_S1_S31x2048_01_n_0_0.window (ix2 b w) 0 = b.val := rfl
  have w1 : scatter_S32x2048_S1_S31x2048_01_n_0_0.window (ix2 b w) 1 = w.val := rfl
  refine (resultIdx?_ix2 _ _ _ _ _).trans ?_
  rw [s0, s1, w0, w1, hi, Fin.ext_iff]
  omega

/-- The first 31 rows set. -/
theorem set_rows (x : FVec Ideal S32x2048 .f32) (i : IVec S1 32) (hi : (i (ix1 0)).toInt = 0) (u : FVec Ideal S31x2048 .f32) (r : Fin 31) (e : Fin 2048) :
    Host.scatter scatter_S32x2048_S1_S31x2048_01_n_0_0 (fun _ b => b) x i u (ix2 ⟨r.val, by omega⟩ e) = u (ix2 r e) := by
  have q : ∀ j : S31x2048.Idx, scatter_S32x2048_S1_S31x2048_01_n_0_0.resultIdx? j i = some (ix2 ⟨r.val, by omega⟩ e) → r.val = (j 0).val ∧ e = j 1 := fun j hj =>
    (lands i hi (j 0) (j 1) ⟨r.val, by omega⟩ e).1 ((congrArg (scatter_S32x2048_S1_S31x2048_01_n_0_0.resultIdx? · i) (eq_ix2 j).symm).trans hj)
  exact scatter_set_hit _ x i u _ _ (fun j hj => congrArg u ((eq_ix2 j).trans (congrArg₂ ix2 (Fin.ext (q j hj).1.symm) (q j hj).2.symm))) (ix2 r e)
      ((lands i hi r e ⟨r.val, by omega⟩ e).2 ⟨rfl, rfl⟩)

/-- The taps as the host hands them over. -/
theorem V_w (c : Dev nD) (g : Fin 16) (j : Fin 31) (l : Fin 128) :
    V m c main_v8 (ix3 g ⟨j.val, by omega⟩ l) = m ((c : Thread nD τ).loc main_arg1) (ix3 0 j ⟨g.val * 128 + l.val, by omega⟩) := by
  unfold V
  after_results
  pointwise
  refine (set_rows _ _ (by rfl) _ j _).trans ?_
  pointwise

/-- The three vectors as the host hands them over. -/
theorem V_b (c : Dev nD) (g : Fin 16) (l : Fin 128) :
    V m c main_v9 (ix3 g 0 l) = m ((c : Thread nD τ).loc main_arg2) (ix2 0 ⟨g.val * 128 + l.val, by omega⟩) := by
  unfold V
  after_results
  pointwise

theorem V_g (c : Dev nD) (g : Fin 16) (l : Fin 128) :
    V m c main_v10 (ix3 g 0 l) = m ((c : Thread nD τ).loc main_arg3) (ix2 0 ⟨g.val * 128 + l.val, by omega⟩) := by
  unfold V
  after_results
  pointwise

theorem V_o (c : Dev nD) (g : Fin 16) (l : Fin 128) :
    V m c main_v11 (ix3 g 0 l) = m ((c : Thread nD τ).loc main_arg4) (ix2 0 ⟨g.val * 128 + l.val, by omega⟩) := by
  unfold V
  after_results
  pointwise

end
end Cert.Conv

end
-- ==== Proof.ConvIdx.lean ====
module

public import proofs.«01_k».proof.Proof.ConvRef
public import Idealize.ShloMosaic.Lib.Routing.OpsSet
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

open Idealize.ShloMosaic.Pipeline (Dat)
open Idealize.ShloMosaic.Routing (resultIdx?_ix2 scatter_set_hit)

namespace Cert.Conv

open Cert.Kernel7Ideal Cert.Kernel7Ideal.Gen

section

/-- The windows' block indices at a point of the grid, and whether the block has a neighbour before and after it in its sequence. -/
theorem idx : ∀ t : Fin cfg0.N, win0_0.index t = ![t.val, 0] ∧ win0_1.index t = ![16 * t.val - 1, 0] ∧ win0_2.index t = ![min (16 * t.val + 16) 511, 0]
    ∧ win0_3.index t = ![0, 0, 0] ∧ win0_4.index t = ![0, 0, 0] ∧ win0_5.index t = ![0, 0, 0] ∧ win0_6.index t = ![0, 0, 0]
    ∧ win0_7.index t = ![t.val, 0] ∧ t.val < 32
    ∧ (kernelRun0_A.sl.v5 (grid0.coords t) = 1 ↔ 16 ≤ t.val ∧ t.val % 4 ≠ 0) ∧ (kernelRun0_A.sl.v7 (grid0.coords t) = 1 ↔ 16 ≤ t.val ∧ t.val % 4 ≠ 3) :=
  (by decide +kernel : ∀ t : Fin grid0.N, _)

/-! The windows whose block is the whole array. -/

theorem whole3 (t : Fin cfg0.N) (Z : Vec Ideal S16x32x128 .f32) (h : win0_3.index t = ![0, 0, 0]) (g : Fin 16) (j : Fin 32) (l : Fin 128) :
    ((cfg0.win 3).blk t).view.read (Elt Ideal) Z (ix3 g j l) = Z (ix3 g j l) := by
  show Z (((View.whole main_v8).slice (win0_3.rect t)).emb (ix3 g j l : S16x32x128.Idx)) = _
  refine congrArg Z ?_
  blk_ext [h]

theorem whole4 (t : Fin cfg0.N) (Z : Vec Ideal S16x1x128 .f32) (h : win0_4.index t = ![0, 0, 0]) (g : Fin 16) (j : Fin 1) (l : Fin 128) :
    ((cfg0.win 4).blk t).view.read (Elt Ideal) Z (ix3 g j l) = Z (ix3 g j l) := by
  show Z (((View.whole main_v9).slice (win0_4.rect t)).emb (ix3 g j l : S16x1x128.Idx)) = _
  refine congrArg Z ?_
  blk_ext [h]

theorem whole5 (t : Fin cfg0.N) (Z : Vec Ideal S16x1x128 .f32) (h : win0_5.index t = ![0, 0, 0]) (g : Fin 16) (j : Fin 1) (l : Fin 128) :
    ((cfg0.win 5).blk t).view.read (Elt Ideal) Z (ix3 g j l) = Z (ix3 g j l) := by
  show Z (((View.whole main_v10).slice (win0_5.rect t)).emb (ix3 g j l : S16x1x128.Idx)) = _
  refine congrArg Z ?_
  blk_ext [h]

theorem whole6 (t : Fin cfg0.N) (Z : Vec Ideal S16x1x128 .f32) (h : win0_6.index t = ![0, 0, 0]) (g : Fin 16) (j : Fin 1) (l : Fin 128) :
    ((cfg0.win 6).blk t).view.read (Elt Ideal) Z (ix3 g j l) = Z (ix3 g j l) := by
  show Z (((View.whole main_v11).slice (win0_6.rect t)).emb (ix3 g j l : S16x1x128.Idx)) = _
  refine congrArg Z ?_
  blk_ext [h]

end
end Cert.Conv

end
-- ==== Proof.ConvFinal.lean ====
module

public import proofs.«01_k».proof.Proof.ConvHost
public import proofs.«01_k».proof.Proof.ConvIdx
public import Idealize.ShloMosaic.Lib.Routing.OpsSet
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

open Idealize.ShloMosaic.Pipeline (Dat)
open Idealize.ShloMosaic.Routing (resultIdx?_ix2 scatter_set_hit)

namespace Cert.Conv

open Cert.Kernel7Ideal Cert.Kernel7Ideal.Gen

section
variable (X : FVec Ideal Cert.Reference7Ideal.S8192x2048 .f32) (W : FVec Ideal Cert.Reference7Ideal.S1x31x2048 .f32) (B : FVec Ideal Cert.Reference7Ideal.S1x2048 .f32)
  (p n : BitVec 1) (x0 : Vec Ideal S256x2048 .f32) (x1 x2 : Vec Ideal S16x2048 .f32) (x3 : Vec Ideal S16x32x128 .f32) (x4 : Vec Ideal S16x1x128 .f32)
  (t lo hi : ℕ) (ht : t < 32)
  (h0 : ∀ (a : Fin 256) (k : Fin 2048), x0 (ix2 a k) = X (ix2 ⟨256 * t + a.val, by omega⟩ k))
  (h1 : p = 1 → ∀ (a : Fin 16) (k : Fin 2048), x1 (ix2 a k) = X (ix2 ⟨256 * t - 16 + a.val, by omega⟩ k))
  (h2 : n = 1 → ∀ (a : Fin 16) (k : Fin 2048) (hb : 256 * t + 256 + a.val < 8192), x2 (ix2 a k) = X (ix2 ⟨256 * t + 256 + a.val, hb⟩ k))
  (hlo : lo ≤ 256 * t) (hhi : 256 * t + 256 ≤ hi) (h8 : hi ≤ 8192)
  (p1 : p = 1 → lo + 256 ≤ 256 * t) (p0 : ¬ p = 1 → lo = 256 * t) (n1 : n = 1 → 256 * t + 512 ≤ hi) (n0 : ¬ n = 1 → hi = 256 * t + 256)
include h0 h1 h2 hlo hhi h8 p1 p0 n1 n0

/-- The rows that the convolution of a block reads are the sequence's, with zeros outside of it. -/
theorem buf_src (g : Fin 16) (j : Fin 31) (r : Fin 256) (l : Fin 128) :
    bufv p n x0 x1 x2 (ix3 g ⟨1 + j.val + r.val, by omega⟩ l) = srcv X lo hi (256 * t + r.val + j.val) ⟨g.val * 128 + l.val, by omega⟩ := by
  unfold srcv
  by_cases c0 : 1 + j.val + r.val < 16
  · refine (dif_pos (show 1 + j.val + r.val < 16 from c0)).trans ?_
    by_cases hp : p = 1
    · have := p1 hp
      rw [if_pos hp, h1 hp, dif_pos (by omega)]
      exact congrArg X (congrArg₂ ix2 (Fin.ext (show 256 * t - 16 + (1 + j.val + r.val) = 256 * t + r.val + j.val - 15 by omega)) rfl)
    · have := p0 hp
      rw [if_neg hp, dif_neg (by omega)]
  · refine (dif_neg (show ¬ 1 + j.val + r.val < 16 from c0)).trans ?_
    by_cases c1 : 1 + j.val + r.val < 272
    · refine (dif_pos (show 1 + j.val + r.val < 272 from c1)).trans ?_
      rw [h0, dif_pos (by omega)]
      exact congrArg X (congrArg₂ ix2 (Fin.ext (show 256 * t + (1 + j.val + r.val - 16) = 256 * t + r.val + j.val - 15 by omega)) rfl)
    · refine (dif_neg (show ¬ 1 + j.val + r.val < 272 from c1)).trans ?_
      by_cases hn : n = 1
      · have := n1 hn
        rw [if_pos hn, h2 hn _ _ (show 256 * t + 256 + (1 + j.val + r.val - 272) < 8192 by omega), dif_pos (by omega)]
        exact congrArg X (congrArg₂ ix2 (Fin.ext (show 256 * t + 256 + (1 + j.val + r.val - 272) = 256 * t + r.val + j.val - 15 by omega)) rfl)
      · have := n0 hn
        rw [if_neg hn, dif_neg (by omega)]

/-- A row of a block's convolution is the sequence's. -/
theorem conv_row (h3 : ∀ (g : Fin 16) (j : Fin 31) (l : Fin 128), x3 (ix3 g ⟨j.val, by omega⟩ l) = W (ix3 0 j ⟨g.val * 128 + l.val, by omega⟩))
    (h4 : ∀ (g : Fin 16) (l : Fin 128), x4 (ix3 g 0 l) = B (ix2 0 ⟨g.val * 128 + l.val, by omega⟩)) (r : Fin 256) (k : Fin 2048) :
    convf (bufv p n x0 x1 x2) x3 x4 ⟨k.val / 128, by omega⟩ r ⟨k.val % 128, by omega⟩ = convr X W B lo hi (256 * t + r.val) k := by
  have ek : (⟨k.val / 128 * 128 + k.val % 128, by omega⟩ : Fin 2048) = k := Fin.ext (by dsimp only; omega)
  unfold convf convr
  refine congrArg₂ (· + ·) (taps_congr fun j => congrArg₂ (· * ·) ?_ ?_) ?_
  · refine (buf_src X p n x0 x1 x2 t lo hi ht h0 h1 h2 hlo hhi h8 p1 p0 n1 n0 _ j r _).trans ?_
    exact congrArg _ ek
  · refine (h3 _ j _).trans ?_
    exact congrArg (fun k => W (ix3 0 j k)) ek
  · refine (h4 _ _).trans ?_
    exact congrArg (fun k => B (ix2 0 k)) ek
end

section
variable (m : (ℓ : Loc nD τ sig) → Buf (Elt Ideal) ℓ)

/-- The kernel's result array is the reference's term of the same arguments. -/
theorem final (c : Dev nD) : (dats m 0 c).arrAt 7 (cfgs 0).N
    = Cert.Reference7Ideal.Read.val_main_v507 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  unfold outsAt0
  rw [out_at]
  obtain ⟨y0, y1, rfl⟩ : ∃ (a : Fin 256) (b : Fin 2048), y = ix2 a b := ⟨y 0, y 1, eq_ix2 y⟩
  obtain ⟨i0, i1, i2, i3, i4, i5, i6, i7, h, hv5, hv7⟩ := idx t
  have e : ((View.whole main_v12).slice (win0_7.rect t)).emb (ix2 y0 y1 : S256x2048.Idx)
      = (ix2 ⟨256 * t.val + y0.val, by omega⟩ y1 : S8192x2048.Idx) := by
    blk_ext [i7]
  have h0 : ∀ (a : Fin 256) (k : Fin 2048), iblk m c 0 t (ix2 a k : S256x2048.Idx) = m ((c : Thread nD τ).loc main_arg0) (ix2 ⟨256 * t.val + a.val, by omega⟩ k) := fun a k => by
    blk_point [iblk, V, i0]
  have h1 : kernelRun0_A.sl.v5 (grid0.coords t) = 1 → ∀ (a : Fin 16) (k : Fin 2048), iblk m c 1 t (ix2 a k : S16x2048.Idx) = m ((c : Thread nD τ).loc main_arg0) (ix2 ⟨256 * t.val - 16 + a.val, by omega⟩ k) := fun hp a k => by
    have hp := hv5.1 hp
    blk_point [iblk, V, i1]
  have h2 : kernelRun0_A.sl.v7 (grid0.coords t) = 1 → ∀ (a : Fin 16) (k : Fin 2048) (hb : 256 * t.val + 256 + a.val < 8192), iblk m c 2 t (ix2 a k : S16x2048.Idx) = m ((c : Thread nD τ).loc main_arg0) (ix2 ⟨256 * t.val + 256 + a.val, hb⟩ k) := fun hn a k hb => by
    have hn := hv7.1 hn
    rw [show min (16 * t.val + 16) 511 = 16 * t.val + 16 by omega] at i2
    blk_point [iblk, V, i2]
  have h3 : ∀ (g : Fin 16) (j : Fin 31) (l : Fin 128), iblk m c 3 t (ix3 g ⟨j.val, by omega⟩ l : S16x32x128.Idx) = m ((c : Thread nD τ).loc main_arg1) (ix3 0 j ⟨g.val * 128 + l.val, by omega⟩) := fun g j l => by
    exact (whole3 t (V m c main_v8) i3 g ⟨j.val, by omega⟩ l).trans (V_w m c g j l)
  have h4 : ∀ (g : Fin 16) (l : Fin 128), iblk m c 4 t (ix3 g 0 l : S16x1x128.Idx) = m ((c : Thread nD τ).loc main_arg2) (ix2 0 ⟨g.val * 128 + l.val, by omega⟩) := fun g l => by
    exact (whole4 t (V m c main_v9) i4 g 0 l).trans (V_b m c g l)
  have h5 : ∀ (g : Fin 16) (l : Fin 128), iblk m c 5 t (ix3 g 0 l : S16x1x128.Idx) = m ((c : Thread nD τ).loc main_arg3) (ix2 0 ⟨g.val * 128 + l.val, by omega⟩) := fun g l => by
    exact (whole5 t (V m c main_v10) i5 g 0 l).trans (V_g m c g l)
  have h6 : ∀ (g : Fin 16) (l : Fin 128), iblk m c 6 t (ix3 g 0 l : S16x1x128.Idx) = m ((c : Thread nD τ).loc main_arg4) (ix2 0 ⟨g.val * 128 + l.val, by omega⟩) := fun g l => by
    exact (whole6 t (V m c main_v11) i6 g 0 l).trans (V_o m c g l)
  have ek : (⟨y1.val / 128 * 128 + y1.val % 128, by omega⟩ : Fin 2048) = y1 := Fin.ext (by dsimp only; omega)
  have hg : iblk m c 5 t (ix3 (⟨y1.val / 128, by omega⟩ : Fin 16) 0 (⟨y1.val % 128, by omega⟩ : Fin 128) : S16x1x128.Idx) = m ((c : Thread nD τ).loc main_arg3) (ix2 0 y1) :=
    (h5 _ _).trans (congrArg (fun k => m ((c : Thread nD τ).loc main_arg3) (ix2 0 k)) ek)
  have ho : iblk m c 6 t (ix3 (⟨y1.val / 128, by omega⟩ : Fin 16) 0 (⟨y1.val % 128, by omega⟩ : Fin 128) : S16x1x128.Idx) = m ((c : Thread nD τ).loc main_arg4) (ix2 0 y1) :=
    (h6 _ _).trans (congrArg (fun k => m ((c : Thread nD τ).loc main_arg4) (ix2 0 k)) ek)
  have key (lo hi : ℕ) (hlo : lo ≤ 256 * t.val) (hhi : 256 * t.val + 256 ≤ hi) (h8 : hi ≤ 8192) (p1 p0 n1 n0) :=
    fun k => conv_row _ _ _ _ _ _ _ _ _ _ t.val lo hi h h0 h1 h2 hlo hhi h8 p1 p0 n1 n0 h3 h4 y0 k
  by_cases hA : t.val < 16
  · refine Eq.trans ?_ ((congrArg _ e).trans (refP_at _ _ _ _ _ _ (by dsimp only; omega) _)).symm
    refine congrArg silu (congrArg₂ (· + ·) (congrArg₂ (· * ·) (congrArg (normed · y1) (funext fun k => ?_)) hg) ho)
    dsimp only
    rw [show (256 * t.val + y0.val) / 256 = t.val by omega]
    exact key _ _ (by omega) (by omega) (by omega) (fun q => absurd (hv5.1 q) (by omega)) (fun q => by omega) (fun q => absurd (hv7.1 q) (by omega)) (fun q => by omega) k
  · refine Eq.trans ?_ ((congrArg _ e).trans (refS_at _ _ _ _ _ _ (by dsimp only; omega) _)).symm
    refine congrArg silu (congrArg₂ (· + ·) (congrArg₂ (· * ·) (congrArg (normed · y1) (funext fun k => ?_)) hg) ho)
    dsimp only
    rw [show (256 * t.val + y0.val - 4096) / 1024 = t.val / 4 - 4 by omega]
    exact key _ _ (by omega) (by omega) (by omega) (fun q => by have := hv5.1 q; omega) (fun q => by rw [hv5] at q; omega)
      (fun q => by have := hv7.1 q; omega) (fun q => by rw [hv7] at q; omega) k
end
end Cert.Conv

end
-- ==== Proof.lean ====
/- The proof of every claim of Defs: for each program its frames, and that over the reals its results are its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Final
public import proofs.«01_k».proof.Proof.Qkvg
public import proofs.«01_k».proof.Proof.Glu
public import proofs.«01_k».proof.Proof.Out
public import proofs.«01_k».proof.Proof.Modul
public import proofs.«01_k».proof.Proof.Norm
public import proofs.«01_k».proof.Proof.ConvFinal
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

open Cert.ReferenceIdeal in
/-- The reference's run: each result is the composed term of its arguments, and the arguments are kept. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v202) = Read.val_main_v202 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v203) = Read.val_main_v203 (F := Ideal) (m ((c.tc : Thread nD τ).loc main_arg0)) (m ((c.tc : Thread nD τ).loc main_arg1))
      ∧ r.2.mem ((c.tc : Thread nD τ).loc main_v204) = Read.val_main_v204 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (Read.val_main_v202_eq (StableHlo.launchContents m c)),
    (h c).2.1.trans (Read.val_main_v203_eq (StableHlo.launchContents m c)), (h c).2.2.1.trans (Read.val_main_v204_eq (StableHlo.launchContents m c)),
    (h c).2.2.2⟩) (Cert.ReferenceIdeal.Value.run m ρ)

/-- The ideal kernel's three results are the reference's, from the same arguments. -/
theorem retention : Cert.algebraic_KernelIdeal_ReferenceIdeal := by
  pair_intro
  · run_from Cert.KernelIdeal.Gen.run_main m g
    all_goals
      simp only [List.flatten_cons, List.flatten_nil, List.cons_append, List.nil_append, List.append_nil]
      after_results
  · run_from reference_run m' g'
    · exact (Cert.Ret.final6 m c).symm
    · exact (Cert.Ret.final7 m c).symm
    · exact (Cert.Ret.final8 m c).symm

/-- The reference runs, keeps its arguments, and ends with every counter at zero: it has no semaphores. -/
theorem reference_frame : Cert.quiescent_ReferenceIdeal := fun m ρ _ =>
  (θ_run Cert.ReferenceIdeal.defs _ _).mono (fun r h => ⟨fun c => ⟨(h c).2.2.2.1, (h c).2.2.2.2.1, (h c).2.2.2.2.2.1, (h c).2.2.2.2.2.2⟩,
    sem_eq_zero_of_no_sems (by decide) r.2⟩) (Cert.ReferenceIdeal.Value.run m ρ)

open Cert.Reference2Ideal in
/-- That reference's run: its result is the composed term of its arguments, and the arguments are kept. -/
theorem qkvg_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v178) = Read.val_main_v178 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Read.val_main_v178_eq (StableHlo.launchContents m c)), (h c).2⟩) (Cert.Reference2Ideal.Value.run m ρ)

/-- The projected queries, keys, values and gates are the reference's, from the same arguments. -/
theorem qkvg : Cert.algebraic_Kernel2Ideal_Reference2Ideal := by
  pair_intro
  · run_from Cert.Kernel2Ideal.Gen.run_main m g
  · run_from qkvg_reference_run m' g'
    exact (Cert.Qkvg.final m c).symm

/-- That reference runs, keeps its arguments, and ends with every counter at zero: it has no semaphores. -/
theorem qkvg_reference_frame : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

open Cert.Reference3Ideal in
/-- That reference's run: its result is the composed term of its arguments, and the arguments are kept. -/
theorem glu_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Read.val_main_v11 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Read.val_main_v11_eq _ _), (h c).2⟩) (Cert.Reference3Ideal.Value.run m ρ)

/-- The gated projection is the reference's, from the same arguments. -/
theorem glu : Cert.algebraic_Kernel3Ideal_Reference3Ideal := by
  pair_intro
  · run_from Cert.Kernel3Ideal.Gen.run_main m g
  · run_from glu_reference_run m' g'
    exact (Cert.Glu.final m c).symm

/-- That reference runs, keeps its arguments, and ends with every counter at zero: it has no semaphores. -/
theorem glu_reference_frame : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

open Cert.Reference4Ideal in
/-- That reference's run: its result is the composed term of its arguments, and the arguments are kept. -/
theorem out_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (Read.val_main_v25_eq _ _ _ _ _ _), (h c).2⟩) (Cert.Reference4Ideal.Value.run m ρ)

/-- The output projection added to the residual is the reference's, from the same arguments. -/
theorem out : Cert.algebraic_Kernel4Ideal_Reference4Ideal := by
  pair_intro
  · run_from Cert.Kernel4Ideal.Gen.run_main m g
  · run_from out_reference_run m' g'
    exact (Cert.Out.final m c).symm

/-- That reference runs, keeps its arguments, and ends with every counter at zero: it has no semaphores. -/
theorem out_reference_frame : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

open Cert.Reference5Ideal in
/-- That reference's run: its result is the composed term of its arguments, and the arguments are kept. -/
theorem modul_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Read.val_main_v9 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (Read.val_main_v9_eq _ _ _ _), (h c).2⟩) (Cert.Reference5Ideal.Value.run m ρ)

/-- The modulation vectors are the reference's, from the same arguments. -/
theorem modul : Cert.algebraic_Kernel5Ideal_Reference5Ideal := by
  pair_intro
  · run_from Cert.Kernel5Ideal.Gen.run_main m g
  · run_from modul_reference_run m' g'
    exact (Cert.Modul.final m c).symm

/-- That reference runs, keeps its arguments, and ends with every counter at zero: it has no semaphores. -/
theorem modul_reference_frame : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

open Cert.Reference6Ideal in
/-- That reference's run: its result is the composed term of its arguments, and the arguments are kept. -/
theorem norm_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = Read.val_main_v59 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v59_eq _ _), (h c).2⟩) (Cert.Reference6Ideal.Value.run m ρ)

/-- The modulated norm of the inputs is the reference's, from the same arguments. -/
theorem norm : Cert.algebraic_Kernel6Ideal_Reference6Ideal := by
  pair_intro
  · run_from Cert.Kernel6Ideal.Gen.run_main m g
  · run_from norm_reference_run m' g'
    exact (Cert.Norm.final m c).symm

/-- That reference runs, keeps its arguments, and ends with every counter at zero: it has no semaphores. -/
theorem norm_reference_frame : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

open Cert.Reference7Ideal in
/-- That reference's run: its result is the composed term of its arguments, and the arguments are kept. -/
theorem conv_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v507) = Read.val_main_v507 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v507_eq (StableHlo.launchContents m c)), (h c).2⟩) (Cert.Reference7Ideal.Value.run m ρ)

/-- The convolution's module is the reference's, from the same arguments. -/
theorem conv : Cert.algebraic_Kernel7Ideal_Reference7Ideal := by
  pair_intro
  · run_from Cert.Kernel7Ideal.Gen.run_main m g
  · run_from conv_reference_run m' g'
    exact (Cert.Conv.final m c).symm

/-- That reference runs, keeps its arguments, and ends with every counter at zero: it has no semaphores. -/
theorem conv_reference_frame : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- All the claims of every program. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, qkvg_reference_frame,
  fun m ρ _ => Cert.Kernel3.Gen.frame m ρ, fun m ρ _ => Cert.Kernel3Ideal.Gen.frame m ρ, glu_reference_frame,
  fun m ρ _ => Cert.Kernel4.Gen.frame m ρ, fun m ρ _ => Cert.Kernel4Ideal.Gen.frame m ρ, out_reference_frame,
  fun m ρ _ => Cert.Kernel5.Gen.frame m ρ, fun m ρ _ => Cert.Kernel5Ideal.Gen.frame m ρ, modul_reference_frame,
  fun m ρ _ => Cert.Kernel6.Gen.frame m ρ, fun m ρ _ => Cert.Kernel6Ideal.Gen.frame m ρ, norm_reference_frame,
  fun m ρ _ => Cert.Kernel7.Gen.frame m ρ, fun m ρ _ => Cert.Kernel7Ideal.Gen.frame m ρ, conv_reference_frame,
  trivial, retention, trivial, qkvg, trivial, glu, trivial, out, trivial, modul, trivial, norm, trivial, conv⟩

end Cert.Proof

end
